-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x16384x65 : Shape := ⟨3, ![32, 16384, 65]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x16384x1 : Shape := ⟨3, ![32, 16384, 1]⟩
abbrev S32x16384 : Shape := ⟨2, ![32, 16384]⟩
abbrev S524288x65 : Shape := ⟨2, ![524288, 65]⟩
abbrev S128x1x4096 : Shape := ⟨3, ![128, 1, 4096]⟩
abbrev S112x1x4096 : Shape := ⟨3, ![112, 1, 4096]⟩
abbrev S4096x65 : Shape := ⟨2, ![4096, 65]⟩
abbrev S1x1x4096 : Shape := ⟨3, ![1, 1, 4096]⟩
abbrev S65x65 : Shape := ⟨2, ![65, 65]⟩
abbrev S4096 : Shape := ⟨1, ![4096]⟩
abbrev S4096x1 : Shape := ⟨2, ![4096, 1]⟩
abbrev S1x65 : Shape := ⟨2, ![1, 65]⟩
abbrev S1x4096 : Shape := ⟨2, ![1, 4096]⟩
abbrev S4x16384 : Shape := ⟨2, ![4, 16384]⟩
abbrev S128x65 : Shape := ⟨2, ![128, 65]⟩
abbrev S2048 : Shape := ⟨1, ![2048]⟩
abbrev S1x2048 : Shape := ⟨2, ![1, 2048]⟩
abbrev S1x128x65 : Shape := ⟨3, ![1, 128, 65]⟩
abbrev S16 : Shape := ⟨1, ![16]⟩
abbrev S28x16384 : Shape := ⟨2, ![28, 16384]⟩

abbrev nBuf : Table → Nat
  | .hbm => 287
  | .local .tc .vmem => 6
  | .local .scVector .vmem => 4
  | _ => 0

abbrev hbmTy0_0 (i : Nat) : BufTy := match i % 128 with
  | 0 => ⟨S32x16384x65, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S32x16384x1, .i64⟩
  | 22 => ⟨S32x16384x1, .i64⟩
  | 23 => ⟨S32x16384x1, .i64⟩
  | 24 => ⟨S_, .i64⟩
  | 25 => ⟨S32x16384x1, .i64⟩
  | 26 => ⟨S32x16384x1, .i64⟩
  | 27 => ⟨S_, .i64⟩
  | 28 => ⟨S32x16384x1, .i64⟩
  | 29 => ⟨S32x16384x1, .i64⟩
  | 30 => ⟨S_, .i64⟩
  | 31 => ⟨S32x16384x1, .i64⟩
  | 32 => ⟨S32x16384x1, .i64⟩
  | 33 => ⟨S32x16384x1, .i64⟩
  | 34 => ⟨S32x16384x1, .i64⟩
  | 35 => ⟨S_, .i64⟩
  | 36 => ⟨S32x16384x1, .i64⟩
  | 37 => ⟨S32x16384x1, .i64⟩
  | 38 => ⟨S32x16384x1, .i32⟩
  | 39 => ⟨S32x16384x1, .i32⟩
  | 40 => ⟨S_, .i32⟩
  | 41 => ⟨S_, .i32⟩
  | 42 => ⟨S_, .i32⟩
  | 43 => ⟨S32x16384x1, .i32⟩
  | 44 => ⟨S32x16384x1, .i32⟩
  | 45 => ⟨S32x16384x1, .i32⟩
  | 46 => ⟨S32x16384x1, .i32⟩
  | 47 => ⟨S32x16384x1, .i32⟩
  | 48 => ⟨S_, .i32⟩
  | 49 => ⟨S32x16384x1, .i32⟩
  | 50 => ⟨S32x16384x1, .i32⟩
  | 51 => ⟨S_, .i32⟩
  | 52 => ⟨S32x16384x1, .i32⟩
  | 53 => ⟨S32x16384x1, .i32⟩
  | 54 => ⟨S32x16384x1, .i32⟩
  | 55 => ⟨S32x16384x1, .i32⟩
  | 56 => ⟨S32x16384x1, .i32⟩
  | 57 => ⟨S_, .i32⟩
  | 58 => ⟨S32x16384x1, .i32⟩
  | 59 => ⟨S32x16384x1, .i32⟩
  | 60 => ⟨S_, .i32⟩
  | 61 => ⟨S32x16384x1, .i32⟩
  | 62 => ⟨S32x16384x1, .i32⟩
  | 63 => ⟨S32x16384x1, .i32⟩
  | 64 => ⟨S32x16384x1, .i32⟩
  | 65 => ⟨S32x16384x1, .i32⟩
  | 66 => ⟨S_, .i32⟩
  | 67 => ⟨S32x16384x1, .i32⟩
  | 68 => ⟨S32x16384x1, .i32⟩
  | 69 => ⟨S_, .i32⟩
  | 70 => ⟨S32x16384x1, .i32⟩
  | 71 => ⟨S32x16384x1, .i32⟩
  | 72 => ⟨S32x16384x1, .i32⟩
  | 73 => ⟨S32x16384x1, .i32⟩
  | 74 => ⟨S32x16384x1, .i32⟩
  | 75 => ⟨S_, .i32⟩
  | 76 => ⟨S32x16384x1, .i32⟩
  | 77 => ⟨S32x16384x1, .i32⟩
  | 78 => ⟨S_, .i32⟩
  | 79 => ⟨S32x16384x1, .i32⟩
  | 80 => ⟨S32x16384x1, .i32⟩
  | 81 => ⟨S32x16384x1, .i32⟩
  | 82 => ⟨S32x16384x1, .i32⟩
  | 83 => ⟨S32x16384x1, .i32⟩
  | 84 => ⟨S32x16384x1, .i32⟩
  | 85 => ⟨S32x16384x1, .i32⟩
  | 86 => ⟨S32x16384x1, .i32⟩
  | 87 => ⟨S_, .i32⟩
  | 88 => ⟨S32x16384x1, .i32⟩
  | 89 => ⟨S32x16384x1, .i32⟩
  | 90 => ⟨S32x16384x1, .i32⟩
  | 91 => ⟨S_, .i32⟩
  | 92 => ⟨S32x16384x1, .i32⟩
  | 93 => ⟨S32x16384x1, .i32⟩
  | 94 => ⟨S_, .i32⟩
  | 95 => ⟨S32x16384x1, .i32⟩
  | 96 => ⟨S32x16384x1, .i32⟩
  | 97 => ⟨S32x16384x1, .i32⟩
  | 98 => ⟨S32x16384x1, .i32⟩
  | 99 => ⟨S32x16384x1, .i32⟩
  | 100 => ⟨S_, .i32⟩
  | 101 => ⟨S32x16384x1, .i32⟩
  | 102 => ⟨S32x16384x1, .i32⟩
  | 103 => ⟨S_, .i32⟩
  | 104 => ⟨S32x16384x1, .i32⟩
  | 105 => ⟨S32x16384x1, .i32⟩
  | 106 => ⟨S32x16384x1, .i32⟩
  | 107 => ⟨S32x16384x1, .i32⟩
  | 108 => ⟨S32x16384x1, .i32⟩
  | 109 => ⟨S_, .i32⟩
  | 110 => ⟨S32x16384x1, .i32⟩
  | 111 => ⟨S32x16384x1, .i32⟩
  | 112 => ⟨S_, .i32⟩
  | 113 => ⟨S32x16384x1, .i32⟩
  | 114 => ⟨S32x16384x1, .i32⟩
  | 115 => ⟨S32x16384x1, .i32⟩
  | 116 => ⟨S32x16384x1, .i32⟩
  | 117 => ⟨S32x16384x1, .i32⟩
  | 118 => ⟨S_, .i32⟩
  | 119 => ⟨S32x16384x1, .i32⟩
  | 120 => ⟨S32x16384x1, .i32⟩
  | 121 => ⟨S_, .i32⟩
  | 122 => ⟨S32x16384x1, .i32⟩
  | 123 => ⟨S32x16384x1, .i32⟩
  | 124 => ⟨S32x16384x1, .i32⟩
  | 125 => ⟨S32x16384x1, .i32⟩
  | 126 => ⟨S32x16384x1, .i32⟩
  | 127 => ⟨S32x16384x1, .i32⟩
  | _ => ⟨S32x16384x65, .f32⟩

abbrev hbmTy0_1 (i : Nat) : BufTy := match i % 128 with
  | 0 => ⟨S32x16384x1, .i32⟩
  | 1 => ⟨S32x16384x1, .i32⟩
  | 2 => ⟨S_, .i32⟩
  | 3 => ⟨S32x16384x1, .i32⟩
  | 4 => ⟨S32x16384x1, .i32⟩
  | 5 => ⟨S32x16384x1, .i32⟩
  | 6 => ⟨S_, .i32⟩
  | 7 => ⟨S32x16384x1, .i32⟩
  | 8 => ⟨S32x16384x1, .i32⟩
  | 9 => ⟨S_, .i32⟩
  | 10 => ⟨S32x16384x1, .i32⟩
  | 11 => ⟨S32x16384x1, .i32⟩
  | 12 => ⟨S32x16384x1, .i32⟩
  | 13 => ⟨S32x16384x1, .i32⟩
  | 14 => ⟨S32x16384x1, .i32⟩
  | 15 => ⟨S_, .i32⟩
  | 16 => ⟨S32x16384x1, .i32⟩
  | 17 => ⟨S32x16384x1, .i32⟩
  | 18 => ⟨S_, .i32⟩
  | 19 => ⟨S32x16384x1, .i32⟩
  | 20 => ⟨S32x16384x1, .i32⟩
  | 21 => ⟨S32x16384x1, .i32⟩
  | 22 => ⟨S32x16384x1, .i32⟩
  | 23 => ⟨S32x16384x1, .i32⟩
  | 24 => ⟨S_, .i32⟩
  | 25 => ⟨S32x16384x1, .i32⟩
  | 26 => ⟨S32x16384x1, .i32⟩
  | 27 => ⟨S_, .i32⟩
  | 28 => ⟨S32x16384x1, .i32⟩
  | 29 => ⟨S32x16384x1, .i32⟩
  | 30 => ⟨S32x16384x1, .i32⟩
  | 31 => ⟨S32x16384x1, .i32⟩
  | 32 => ⟨S32x16384x1, .i32⟩
  | 33 => ⟨S_, .i32⟩
  | 34 => ⟨S32x16384x1, .i32⟩
  | 35 => ⟨S32x16384x1, .i32⟩
  | 36 => ⟨S_, .i32⟩
  | 37 => ⟨S32x16384x1, .i32⟩
  | 38 => ⟨S32x16384x1, .i32⟩
  | 39 => ⟨S32x16384x1, .i32⟩
  | 40 => ⟨S32x16384x1, .i32⟩
  | 41 => ⟨S32x16384x1, .i32⟩
  | 42 => ⟨S32x16384x1, .i32⟩
  | 43 => ⟨S32x16384x1, .i32⟩
  | 44 => ⟨S32x16384x1, .i32⟩
  | 45 => ⟨S_, .i32⟩
  | 46 => ⟨S32x16384x1, .i32⟩
  | 47 => ⟨S32x16384x1, .i32⟩
  | 48 => ⟨S32x16384x1, .i32⟩
  | 49 => ⟨S_, .i32⟩
  | 50 => ⟨S32x16384x1, .i32⟩
  | 51 => ⟨S32x16384x1, .i32⟩
  | 52 => ⟨S_, .i32⟩
  | 53 => ⟨S32x16384x1, .i32⟩
  | 54 => ⟨S32x16384x1, .i32⟩
  | 55 => ⟨S32x16384x1, .i32⟩
  | 56 => ⟨S32x16384x1, .i32⟩
  | 57 => ⟨S32x16384x1, .i32⟩
  | 58 => ⟨S_, .i32⟩
  | 59 => ⟨S32x16384x1, .i32⟩
  | 60 => ⟨S32x16384x1, .i32⟩
  | 61 => ⟨S_, .i32⟩
  | 62 => ⟨S32x16384x1, .i32⟩
  | 63 => ⟨S32x16384x1, .i32⟩
  | 64 => ⟨S32x16384x1, .i32⟩
  | 65 => ⟨S32x16384x1, .i32⟩
  | 66 => ⟨S32x16384x1, .i32⟩
  | 67 => ⟨S_, .i32⟩
  | 68 => ⟨S32x16384x1, .i32⟩
  | 69 => ⟨S32x16384x1, .i32⟩
  | 70 => ⟨S_, .i32⟩
  | 71 => ⟨S32x16384x1, .i32⟩
  | 72 => ⟨S32x16384x1, .i32⟩
  | 73 => ⟨S32x16384x1, .i32⟩
  | 74 => ⟨S32x16384x1, .i32⟩
  | 75 => ⟨S32x16384x1, .i32⟩
  | 76 => ⟨S_, .i32⟩
  | 77 => ⟨S32x16384x1, .i32⟩
  | 78 => ⟨S32x16384x1, .i32⟩
  | 79 => ⟨S_, .i32⟩
  | 80 => ⟨S32x16384x1, .i32⟩
  | 81 => ⟨S32x16384x1, .i32⟩
  | 82 => ⟨S32x16384x1, .i32⟩
  | 83 => ⟨S32x16384x1, .i32⟩
  | 84 => ⟨S32x16384x1, .i32⟩
  | 85 => ⟨S32x16384x1, .i32⟩
  | 86 => ⟨S32x16384x1, .i32⟩
  | 87 => ⟨S32x16384x1, .i32⟩
  | 88 => ⟨S_, .i32⟩
  | 89 => ⟨S32x16384x1, .i32⟩
  | 90 => ⟨S32x16384x1, .i32⟩
  | 91 => ⟨S32x16384x1, .i32⟩
  | 92 => ⟨S_, .i32⟩
  | 93 => ⟨S32x16384x1, .i32⟩
  | 94 => ⟨S32x16384x1, .i32⟩
  | 95 => ⟨S_, .i32⟩
  | 96 => ⟨S32x16384x1, .i32⟩
  | 97 => ⟨S32x16384x1, .i32⟩
  | 98 => ⟨S32x16384x1, .i32⟩
  | 99 => ⟨S32x16384x1, .i32⟩
  | 100 => ⟨S32x16384x1, .i32⟩
  | 101 => ⟨S_, .i32⟩
  | 102 => ⟨S32x16384x1, .i32⟩
  | 103 => ⟨S32x16384x1, .i32⟩
  | 104 => ⟨S_, .i32⟩
  | 105 => ⟨S32x16384x1, .i32⟩
  | 106 => ⟨S32x16384x1, .i32⟩
  | 107 => ⟨S32x16384x1, .i32⟩
  | 108 => ⟨S32x16384x1, .i32⟩
  | 109 => ⟨S32x16384x1, .i32⟩
  | 110 => ⟨S_, .i32⟩
  | 111 => ⟨S32x16384x1, .i32⟩
  | 112 => ⟨S32x16384x1, .i32⟩
  | 113 => ⟨S_, .i32⟩
  | 114 => ⟨S32x16384x1, .i32⟩
  | 115 => ⟨S32x16384x1, .i32⟩
  | 116 => ⟨S32x16384x1, .i32⟩
  | 117 => ⟨S32x16384x1, .i32⟩
  | 118 => ⟨S32x16384x1, .i32⟩
  | 119 => ⟨S_, .i32⟩
  | 120 => ⟨S32x16384x1, .i32⟩
  | 121 => ⟨S32x16384x1, .i32⟩
  | 122 => ⟨S_, .i32⟩
  | 123 => ⟨S32x16384x1, .i32⟩
  | 124 => ⟨S32x16384x1, .i32⟩
  | 125 => ⟨S32x16384x1, .i32⟩
  | 126 => ⟨S32x16384x1, .i32⟩
  | 127 => ⟨S32x16384x1, .i32⟩
  | _ => ⟨S32x16384x65, .f32⟩

abbrev hbmTy0_2 (i : Nat) : BufTy := match i % 128 with
  | 0 => ⟨S32x16384x1, .i32⟩
  | 1 => ⟨S32x16384x1, .i32⟩
  | 2 => ⟨S32x16384x1, .i32⟩
  | 3 => ⟨S_, .i32⟩
  | 4 => ⟨S32x16384x1, .i32⟩
  | 5 => ⟨S32x16384x1, .i32⟩
  | 6 => ⟨S32x16384x1, .i32⟩
  | 7 => ⟨S_, .i32⟩
  | 8 => ⟨S32x16384x1, .i32⟩
  | 9 => ⟨S32x16384x1, .i32⟩
  | 10 => ⟨S_, .i32⟩
  | 11 => ⟨S32x16384x1, .i32⟩
  | 12 => ⟨S32x16384x1, .i32⟩
  | 13 => ⟨S32x16384x1, .f32⟩
  | 14 => ⟨S_, .f32⟩
  | 15 => ⟨S32x16384x1, .f32⟩
  | 16 => ⟨S32x16384x1, .f32⟩
  | 17 => ⟨S1x1x1, .f32⟩
  | 18 => ⟨S32x16384x1, .f32⟩
  | 19 => ⟨S32x16384x1, .f32⟩
  | 20 => ⟨S32x16384x1, .f32⟩
  | 21 => ⟨S32x16384x1, .f32⟩
  | 22 => ⟨S32x16384x1, .f32⟩
  | 23 => ⟨S32x16384x1, .f32⟩
  | 24 => ⟨S32x16384, .f32⟩
  | 25 => ⟨S524288x65, .f32⟩
  | 26 => ⟨S128x1x4096, .f32⟩
  | 27 => ⟨S112x1x4096, .i32⟩
  | 28 => ⟨S4x16384, .i32⟩
  | 29 => ⟨S28x16384, .i32⟩
  | 30 => ⟨S32x16384, .i32⟩
  | _ => ⟨S32x16384x65, .f32⟩

abbrev hbmTy (i : Nat) : BufTy := match i / 128 with
  | 0 => hbmTy0_0 i
  | 1 => hbmTy0_1 i
  | 2 => hbmTy0_2 i
  | _ => ⟨S32x16384x65, .f32⟩

abbrev bufTy : (tb : Table) → Fin (nBuf tb) → BufTy
  | .hbm, ⟨i, _⟩ => hbmTy i
  | .local .tc .vmem, ⟨0, _⟩ => ⟨S4096x65, .f32⟩
  | .local .tc .vmem, ⟨1, _⟩ => ⟨S4096x65, .f32⟩
  | .local .tc .vmem, ⟨2, _⟩ => ⟨S1x1x4096, .f32⟩
  | .local .tc .vmem, ⟨3, _⟩ => ⟨S1x1x4096, .f32⟩
  | .local .tc .vmem, ⟨4, _⟩ => ⟨S1x1x4096, .i32⟩
  | .local .tc .vmem, ⟨5, _⟩ => ⟨S1x1x4096, .i32⟩
  | .local .scVector .vmem, ⟨0, _⟩ => ⟨S128x65, .f32⟩
  | .local .scVector .vmem, ⟨1, _⟩ => ⟨S128x65, .f32⟩
  | .local .scVector .vmem, ⟨2, _⟩ => ⟨S2048, .f32⟩
  | .local .scVector .vmem, ⟨3, _⟩ => ⟨S2048, .i32⟩
  | _, _ => ⟨S32x16384x65, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_v8 : Ref sig .tc := ⟨.hbm, 280, rfl⟩
abbrev main_v9 : Ref sig .tc := ⟨.hbm, 281, rfl⟩
abbrev main_v10 : Ref sig .tc := ⟨.hbm, 282, rfl⟩
abbrev main_v11 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_arg0_scv : Ref sig .scVector := ⟨.hbm, 0, rfl⟩
abbrev main_v8_scv : Ref sig .scVector := ⟨.hbm, 280, rfl⟩
abbrev main_v12_scv : Ref sig .scVector := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![112], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c28_i32 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v30 : BitVec 32 := Scalar.addi c28_i32 v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  ![v30.toNat, v29.toNat]
def k1_off2 (i : grid1.Coords) : Fin 3 → Nat :=
  let c28_i32_10 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v31 : BitVec 32 := Scalar.addi c28_i32_10 v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_11 : BitVec 32 := 0#32
  let v32 : BitVec 32 := Scalar.addi v29 c0_i32_11
  let c0_i32_12 : BitVec 32 := 0#32
  ![v31.toNat, v32.toNat, 0]
@[reducible] def k1_t1_loop : Scf.Loop 32 :=
  let c0_i32_14 : BitVec 32 := 0#32
  let c8_i32_15 : BitVec 32 := 8#32
  let v38 : BitVec 32 := Scalar.addi c0_i32_14 c8_i32_15
  let c1_i32_16 : BitVec 32 := 1#32
  ⟨c0_i32_14, v38, c1_i32_16⟩
def k1_cond1 (k1_t1 : Fin k1_t1_loop.trips) : BitVec 1 :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c0_i32_20 : BitVec 32 := 0#32
  let v41 : BitVec 32 := Scalar.addi v40 c0_i32_20
  let c1_i32_21 : BitVec 32 := 1#32
  let v42 : BitVec 32 := Scalar.addi v41 c1_i32_21
  let c16_i32 : BitVec 32 := 16#32
  let v43 : BitVec 1 := Scalar.cmpi .slt v42 c16_i32
  let v44 : BitVec 32 := Scalar.extui v43
  let c0_i32_22 : BitVec 32 := 0#32
  let v45 : BitVec 1 := Scalar.cmpi .ne v44 c0_i32_22
  v45

def k1_off3 (i : grid1.Coords) (k1_t1 : Fin k1_t1_loop.trips) : Fin 3 → Nat :=
  let c28_i32_43 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v68 : BitVec 32 := Scalar.addi c28_i32_43 v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c0_i32_20 : BitVec 32 := 0#32
  let v41 : BitVec 32 := Scalar.addi v40 c0_i32_20
  let c1_i32_42 : BitVec 32 := 1#32
  let v67 : BitVec 32 := Scalar.addi v41 c1_i32_42
  let c128_i32_44 : BitVec 32 := 128#32
  let v69 : BitVec 32 := Scalar.muli v67 c128_i32_44
  let v70 : BitVec 32 := Scalar.addi v29 v69
  let c0_i32_45 : BitVec 32 := 0#32
  ![v68.toNat, v70.toNat, 0]
def k1_off4 (i : grid1.Coords) (k1_t1 : Fin k1_t1_loop.trips) (c0_i32_20 : BitVec 32) : Fin 3 → Nat :=
  let c28_i32_23 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v46 : BitVec 32 := Scalar.addi c28_i32_23 v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let v41 : BitVec 32 := Scalar.addi v40 c0_i32_20
  let c128_i32 : BitVec 32 := 128#32
  let v47 : BitVec 32 := Scalar.muli v41 c128_i32
  let v48 : BitVec 32 := Scalar.addi v29 v47
  let c0_i32_24 : BitVec 32 := 0#32
  ![v46.toNat, v48.toNat, 0]
@[reducible] def k1_t2_loop : Scf.Loop 32 :=
  let c0_i32_26 : BitVec 32 := 0#32
  let c8_i32_27 : BitVec 32 := 8#32
  let v53 : BitVec 32 := Scalar.addi c0_i32_26 c8_i32_27
  let c1_i32_28 : BitVec 32 := 1#32
  ⟨c0_i32_26, v53, c1_i32_28⟩
def k1_off5 (k1_t1 : Fin k1_t1_loop.trips) (k1_t2 : Fin k1_t2_loop.trips) : Fin 1 → Nat :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c0_i32_20 : BitVec 32 := 0#32
  let v41 : BitVec 32 := Scalar.addi v40 c0_i32_20
  let c128_i32_44 : BitVec 32 := 128#32
  let v69 : BitVec 32 := Scalar.muli v41 c128_i32_44
  let c0_i32_43 : BitVec 32 := 0#32
  let c0_i32_26 : BitVec 32 := 0#32
  let c1_i32_28 : BitVec 32 := 1#32
  let arg12 : BitVec 32 := Scf.iv c0_i32_26 c1_i32_28 k1_t2
  let c1_i32_42 : BitVec 32 := 1#32
  let v67 : BitVec 32 := Scalar.muli arg12 c1_i32_42
  let v68 : BitVec 32 := Scalar.addi c0_i32_43 v67
  let c16_i32_45 : BitVec 32 := 16#32
  let v70 : BitVec 32 := Scalar.muli v68 c16_i32_45
  let v71 : BitVec 32 := Scalar.addi v69 v70
  let v72 : Index := Scalar.indexCast v71
  ![v72.toNat]

def k1_chk1 (v76 : IVec S16 32) (v79 : IVec S16 32) : Prop :=
  (∀ a x, ((![v76, v79] : Fin 2 → IVec S16 32) a x).toNat < S128x65.size a)
theorem k1_idx1_inb : ∀ (v76 : IVec S16 32) (v79 : IVec S16 32) (k1_hw1 : k1_chk1 v76 v79), ∀ a x, ((![v76, v79] : Fin 2 → IVec S16 32) a x).toNat < S128x65.size a := fun v76 v79 k1_hw1 => k1_hw1

def k1_chk2 (v76 : IVec S16 32) (v86 : IVec S16 32) : Prop :=
  (∀ a x, ((![v76, v86] : Fin 2 → IVec S16 32) a x).toNat < S128x65.size a)
theorem k1_idx2_inb : ∀ (v76 : IVec S16 32) (v86 : IVec S16 32) (k1_hw2 : k1_chk2 v76 v86), ∀ a x, ((![v76, v86] : Fin 2 → IVec S16 32) a x).toNat < S128x65.size a := fun v76 v86 k1_hw2 => k1_hw2

def k1_chk3 (v76 : IVec S16 32) (v93 : IVec S16 32) : Prop :=
  (∀ a x, ((![v76, v93] : Fin 2 → IVec S16 32) a x).toNat < S128x65.size a)
theorem k1_idx3_inb : ∀ (v76 : IVec S16 32) (v93 : IVec S16 32) (k1_hw3 : k1_chk3 v76 v93), ∀ a x, ((![v76, v93] : Fin 2 → IVec S16 32) a x).toNat < S128x65.size a := fun v76 v93 k1_hw3 => k1_hw3

def k1_chk4 (v76 : IVec S16 32) (v100 : IVec S16 32) : Prop :=
  (∀ a x, ((![v76, v100] : Fin 2 → IVec S16 32) a x).toNat < S128x65.size a)
theorem k1_idx4_inb : ∀ (v76 : IVec S16 32) (v100 : IVec S16 32) (k1_hw4 : k1_chk4 v76 v100), ∀ a x, ((![v76, v100] : Fin 2 → IVec S16 32) a x).toNat < S128x65.size a := fun v76 v100 k1_hw4 => k1_hw4

def k1_chk5 (v76 : IVec S16 32) (v107 : IVec S16 32) : Prop :=
  (∀ a x, ((![v76, v107] : Fin 2 → IVec S16 32) a x).toNat < S128x65.size a)
theorem k1_idx5_inb : ∀ (v76 : IVec S16 32) (v107 : IVec S16 32) (k1_hw5 : k1_chk5 v76 v107), ∀ a x, ((![v76, v107] : Fin 2 → IVec S16 32) a x).toNat < S128x65.size a := fun v76 v107 k1_hw5 => k1_hw5

def k1_chk6 (v76 : IVec S16 32) (v114 : IVec S16 32) : Prop :=
  (∀ a x, ((![v76, v114] : Fin 2 → IVec S16 32) a x).toNat < S128x65.size a)
theorem k1_idx6_inb : ∀ (v76 : IVec S16 32) (v114 : IVec S16 32) (k1_hw6 : k1_chk6 v76 v114), ∀ a x, ((![v76, v114] : Fin 2 → IVec S16 32) a x).toNat < S128x65.size a := fun v76 v114 k1_hw6 => k1_hw6

def k1_chk7 (v76 : IVec S16 32) (v121 : IVec S16 32) : Prop :=
  (∀ a x, ((![v76, v121] : Fin 2 → IVec S16 32) a x).toNat < S128x65.size a)
theorem k1_idx7_inb : ∀ (v76 : IVec S16 32) (v121 : IVec S16 32) (k1_hw7 : k1_chk7 v76 v121), ∀ a x, ((![v76, v121] : Fin 2 → IVec S16 32) a x).toNat < S128x65.size a := fun v76 v121 k1_hw7 => k1_hw7

def k1_chk8 (v76 : IVec S16 32) (v128 : IVec S16 32) : Prop :=
  (∀ a x, ((![v76, v128] : Fin 2 → IVec S16 32) a x).toNat < S128x65.size a)
theorem k1_idx8_inb : ∀ (v76 : IVec S16 32) (v128 : IVec S16 32) (k1_hw8 : k1_chk8 v76 v128), ∀ a x, ((![v76, v128] : Fin 2 → IVec S16 32) a x).toNat < S128x65.size a := fun v76 v128 k1_hw8 => k1_hw8

def k1_chk9 (v76 : IVec S16 32) (v135 : IVec S16 32) : Prop :=
  (∀ a x, ((![v76, v135] : Fin 2 → IVec S16 32) a x).toNat < S128x65.size a)
theorem k1_idx9_inb : ∀ (v76 : IVec S16 32) (v135 : IVec S16 32) (k1_hw9 : k1_chk9 v76 v135), ∀ a x, ((![v76, v135] : Fin 2 → IVec S16 32) a x).toNat < S128x65.size a := fun v76 v135 k1_hw9 => k1_hw9

def k1_chk10 (v76 : IVec S16 32) (v142 : IVec S16 32) : Prop :=
  (∀ a x, ((![v76, v142] : Fin 2 → IVec S16 32) a x).toNat < S128x65.size a)
theorem k1_idx10_inb : ∀ (v76 : IVec S16 32) (v142 : IVec S16 32) (k1_hw10 : k1_chk10 v76 v142), ∀ a x, ((![v76, v142] : Fin 2 → IVec S16 32) a x).toNat < S128x65.size a := fun v76 v142 k1_hw10 => k1_hw10

def k1_chk11 (v76 : IVec S16 32) (v149 : IVec S16 32) : Prop :=
  (∀ a x, ((![v76, v149] : Fin 2 → IVec S16 32) a x).toNat < S128x65.size a)
theorem k1_idx11_inb : ∀ (v76 : IVec S16 32) (v149 : IVec S16 32) (k1_hw11 : k1_chk11 v76 v149), ∀ a x, ((![v76, v149] : Fin 2 → IVec S16 32) a x).toNat < S128x65.size a := fun v76 v149 k1_hw11 => k1_hw11

def k1_chk12 (v76 : IVec S16 32) (v156 : IVec S16 32) : Prop :=
  (∀ a x, ((![v76, v156] : Fin 2 → IVec S16 32) a x).toNat < S128x65.size a)
theorem k1_idx12_inb : ∀ (v76 : IVec S16 32) (v156 : IVec S16 32) (k1_hw12 : k1_chk12 v76 v156), ∀ a x, ((![v76, v156] : Fin 2 → IVec S16 32) a x).toNat < S128x65.size a := fun v76 v156 k1_hw12 => k1_hw12

def k1_chk13 (v76 : IVec S16 32) (v163 : IVec S16 32) : Prop :=
  (∀ a x, ((![v76, v163] : Fin 2 → IVec S16 32) a x).toNat < S128x65.size a)
theorem k1_idx13_inb : ∀ (v76 : IVec S16 32) (v163 : IVec S16 32) (k1_hw13 : k1_chk13 v76 v163), ∀ a x, ((![v76, v163] : Fin 2 → IVec S16 32) a x).toNat < S128x65.size a := fun v76 v163 k1_hw13 => k1_hw13

def k1_chk14 (v76 : IVec S16 32) (v170 : IVec S16 32) : Prop :=
  (∀ a x, ((![v76, v170] : Fin 2 → IVec S16 32) a x).toNat < S128x65.size a)
theorem k1_idx14_inb : ∀ (v76 : IVec S16 32) (v170 : IVec S16 32) (k1_hw14 : k1_chk14 v76 v170), ∀ a x, ((![v76, v170] : Fin 2 → IVec S16 32) a x).toNat < S128x65.size a := fun v76 v170 k1_hw14 => k1_hw14

def k1_chk15 (v76 : IVec S16 32) (v177 : IVec S16 32) : Prop :=
  (∀ a x, ((![v76, v177] : Fin 2 → IVec S16 32) a x).toNat < S128x65.size a)
theorem k1_idx15_inb : ∀ (v76 : IVec S16 32) (v177 : IVec S16 32) (k1_hw15 : k1_chk15 v76 v177), ∀ a x, ((![v76, v177] : Fin 2 → IVec S16 32) a x).toNat < S128x65.size a := fun v76 v177 k1_hw15 => k1_hw15

def k1_chk16 (v76 : IVec S16 32) (v184 : IVec S16 32) : Prop :=
  (∀ a x, ((![v76, v184] : Fin 2 → IVec S16 32) a x).toNat < S128x65.size a)
theorem k1_idx16_inb : ∀ (v76 : IVec S16 32) (v184 : IVec S16 32) (k1_hw16 : k1_chk16 v76 v184), ∀ a x, ((![v76, v184] : Fin 2 → IVec S16 32) a x).toNat < S128x65.size a := fun v76 v184 k1_hw16 => k1_hw16

def k1_chk17 (v76 : IVec S16 32) (v191 : IVec S16 32) : Prop :=
  (∀ a x, ((![v76, v191] : Fin 2 → IVec S16 32) a x).toNat < S128x65.size a)
theorem k1_idx17_inb : ∀ (v76 : IVec S16 32) (v191 : IVec S16 32) (k1_hw17 : k1_chk17 v76 v191), ∀ a x, ((![v76, v191] : Fin 2 → IVec S16 32) a x).toNat < S128x65.size a := fun v76 v191 k1_hw17 => k1_hw17

def k1_chk18 (v76 : IVec S16 32) (v198 : IVec S16 32) : Prop :=
  (∀ a x, ((![v76, v198] : Fin 2 → IVec S16 32) a x).toNat < S128x65.size a)
theorem k1_idx18_inb : ∀ (v76 : IVec S16 32) (v198 : IVec S16 32) (k1_hw18 : k1_chk18 v76 v198), ∀ a x, ((![v76, v198] : Fin 2 → IVec S16 32) a x).toNat < S128x65.size a := fun v76 v198 k1_hw18 => k1_hw18

def k1_chk19 (v76 : IVec S16 32) (v205 : IVec S16 32) : Prop :=
  (∀ a x, ((![v76, v205] : Fin 2 → IVec S16 32) a x).toNat < S128x65.size a)
theorem k1_idx19_inb : ∀ (v76 : IVec S16 32) (v205 : IVec S16 32) (k1_hw19 : k1_chk19 v76 v205), ∀ a x, ((![v76, v205] : Fin 2 → IVec S16 32) a x).toNat < S128x65.size a := fun v76 v205 k1_hw19 => k1_hw19

def k1_chk20 (v76 : IVec S16 32) (v212 : IVec S16 32) : Prop :=
  (∀ a x, ((![v76, v212] : Fin 2 → IVec S16 32) a x).toNat < S128x65.size a)
theorem k1_idx20_inb : ∀ (v76 : IVec S16 32) (v212 : IVec S16 32) (k1_hw20 : k1_chk20 v76 v212), ∀ a x, ((![v76, v212] : Fin 2 → IVec S16 32) a x).toNat < S128x65.size a := fun v76 v212 k1_hw20 => k1_hw20

def k1_chk21 (v76 : IVec S16 32) (v219 : IVec S16 32) : Prop :=
  (∀ a x, ((![v76, v219] : Fin 2 → IVec S16 32) a x).toNat < S128x65.size a)
theorem k1_idx21_inb : ∀ (v76 : IVec S16 32) (v219 : IVec S16 32) (k1_hw21 : k1_chk21 v76 v219), ∀ a x, ((![v76, v219] : Fin 2 → IVec S16 32) a x).toNat < S128x65.size a := fun v76 v219 k1_hw21 => k1_hw21

def k1_chk22 (v76 : IVec S16 32) (v226 : IVec S16 32) : Prop :=
  (∀ a x, ((![v76, v226] : Fin 2 → IVec S16 32) a x).toNat < S128x65.size a)
theorem k1_idx22_inb : ∀ (v76 : IVec S16 32) (v226 : IVec S16 32) (k1_hw22 : k1_chk22 v76 v226), ∀ a x, ((![v76, v226] : Fin 2 → IVec S16 32) a x).toNat < S128x65.size a := fun v76 v226 k1_hw22 => k1_hw22

def k1_chk23 (v76 : IVec S16 32) (v233 : IVec S16 32) : Prop :=
  (∀ a x, ((![v76, v233] : Fin 2 → IVec S16 32) a x).toNat < S128x65.size a)
theorem k1_idx23_inb : ∀ (v76 : IVec S16 32) (v233 : IVec S16 32) (k1_hw23 : k1_chk23 v76 v233), ∀ a x, ((![v76, v233] : Fin 2 → IVec S16 32) a x).toNat < S128x65.size a := fun v76 v233 k1_hw23 => k1_hw23

def k1_chk24 (v76 : IVec S16 32) (v240 : IVec S16 32) : Prop :=
  (∀ a x, ((![v76, v240] : Fin 2 → IVec S16 32) a x).toNat < S128x65.size a)
theorem k1_idx24_inb : ∀ (v76 : IVec S16 32) (v240 : IVec S16 32) (k1_hw24 : k1_chk24 v76 v240), ∀ a x, ((![v76, v240] : Fin 2 → IVec S16 32) a x).toNat < S128x65.size a := fun v76 v240 k1_hw24 => k1_hw24

def k1_chk25 (v76 : IVec S16 32) (v247 : IVec S16 32) : Prop :=
  (∀ a x, ((![v76, v247] : Fin 2 → IVec S16 32) a x).toNat < S128x65.size a)
theorem k1_idx25_inb : ∀ (v76 : IVec S16 32) (v247 : IVec S16 32) (k1_hw25 : k1_chk25 v76 v247), ∀ a x, ((![v76, v247] : Fin 2 → IVec S16 32) a x).toNat < S128x65.size a := fun v76 v247 k1_hw25 => k1_hw25

def k1_chk26 (v76 : IVec S16 32) (v254 : IVec S16 32) : Prop :=
  (∀ a x, ((![v76, v254] : Fin 2 → IVec S16 32) a x).toNat < S128x65.size a)
theorem k1_idx26_inb : ∀ (v76 : IVec S16 32) (v254 : IVec S16 32) (k1_hw26 : k1_chk26 v76 v254), ∀ a x, ((![v76, v254] : Fin 2 → IVec S16 32) a x).toNat < S128x65.size a := fun v76 v254 k1_hw26 => k1_hw26

def k1_chk27 (v76 : IVec S16 32) (v261 : IVec S16 32) : Prop :=
  (∀ a x, ((![v76, v261] : Fin 2 → IVec S16 32) a x).toNat < S128x65.size a)
theorem k1_idx27_inb : ∀ (v76 : IVec S16 32) (v261 : IVec S16 32) (k1_hw27 : k1_chk27 v76 v261), ∀ a x, ((![v76, v261] : Fin 2 → IVec S16 32) a x).toNat < S128x65.size a := fun v76 v261 k1_hw27 => k1_hw27

def k1_chk28 (v76 : IVec S16 32) (v268 : IVec S16 32) : Prop :=
  (∀ a x, ((![v76, v268] : Fin 2 → IVec S16 32) a x).toNat < S128x65.size a)
theorem k1_idx28_inb : ∀ (v76 : IVec S16 32) (v268 : IVec S16 32) (k1_hw28 : k1_chk28 v76 v268), ∀ a x, ((![v76, v268] : Fin 2 → IVec S16 32) a x).toNat < S128x65.size a := fun v76 v268 k1_hw28 => k1_hw28

def k1_chk29 (v76 : IVec S16 32) (v275 : IVec S16 32) : Prop :=
  (∀ a x, ((![v76, v275] : Fin 2 → IVec S16 32) a x).toNat < S128x65.size a)
theorem k1_idx29_inb : ∀ (v76 : IVec S16 32) (v275 : IVec S16 32) (k1_hw29 : k1_chk29 v76 v275), ∀ a x, ((![v76, v275] : Fin 2 → IVec S16 32) a x).toNat < S128x65.size a := fun v76 v275 k1_hw29 => k1_hw29

def k1_chk30 (v76 : IVec S16 32) (v282 : IVec S16 32) : Prop :=
  (∀ a x, ((![v76, v282] : Fin 2 → IVec S16 32) a x).toNat < S128x65.size a)
theorem k1_idx30_inb : ∀ (v76 : IVec S16 32) (v282 : IVec S16 32) (k1_hw30 : k1_chk30 v76 v282), ∀ a x, ((![v76, v282] : Fin 2 → IVec S16 32) a x).toNat < S128x65.size a := fun v76 v282 k1_hw30 => k1_hw30

def k1_chk31 (v76 : IVec S16 32) (v289 : IVec S16 32) : Prop :=
  (∀ a x, ((![v76, v289] : Fin 2 → IVec S16 32) a x).toNat < S128x65.size a)
theorem k1_idx31_inb : ∀ (v76 : IVec S16 32) (v289 : IVec S16 32) (k1_hw31 : k1_chk31 v76 v289), ∀ a x, ((![v76, v289] : Fin 2 → IVec S16 32) a x).toNat < S128x65.size a := fun v76 v289 k1_hw31 => k1_hw31

def k1_chk32 (v76 : IVec S16 32) (v296 : IVec S16 32) : Prop :=
  (∀ a x, ((![v76, v296] : Fin 2 → IVec S16 32) a x).toNat < S128x65.size a)
theorem k1_idx32_inb : ∀ (v76 : IVec S16 32) (v296 : IVec S16 32) (k1_hw32 : k1_chk32 v76 v296), ∀ a x, ((![v76, v296] : Fin 2 → IVec S16 32) a x).toNat < S128x65.size a := fun v76 v296 k1_hw32 => k1_hw32

def k1_chk33 (v76 : IVec S16 32) (v303 : IVec S16 32) : Prop :=
  (∀ a x, ((![v76, v303] : Fin 2 → IVec S16 32) a x).toNat < S128x65.size a)
theorem k1_idx33_inb : ∀ (v76 : IVec S16 32) (v303 : IVec S16 32) (k1_hw33 : k1_chk33 v76 v303), ∀ a x, ((![v76, v303] : Fin 2 → IVec S16 32) a x).toNat < S128x65.size a := fun v76 v303 k1_hw33 => k1_hw33

def k1_chk34 (v76 : IVec S16 32) (v310 : IVec S16 32) : Prop :=
  (∀ a x, ((![v76, v310] : Fin 2 → IVec S16 32) a x).toNat < S128x65.size a)
theorem k1_idx34_inb : ∀ (v76 : IVec S16 32) (v310 : IVec S16 32) (k1_hw34 : k1_chk34 v76 v310), ∀ a x, ((![v76, v310] : Fin 2 → IVec S16 32) a x).toNat < S128x65.size a := fun v76 v310 k1_hw34 => k1_hw34

def k1_chk35 (v76 : IVec S16 32) (v317 : IVec S16 32) : Prop :=
  (∀ a x, ((![v76, v317] : Fin 2 → IVec S16 32) a x).toNat < S128x65.size a)
theorem k1_idx35_inb : ∀ (v76 : IVec S16 32) (v317 : IVec S16 32) (k1_hw35 : k1_chk35 v76 v317), ∀ a x, ((![v76, v317] : Fin 2 → IVec S16 32) a x).toNat < S128x65.size a := fun v76 v317 k1_hw35 => k1_hw35

def k1_chk36 (v76 : IVec S16 32) (v324 : IVec S16 32) : Prop :=
  (∀ a x, ((![v76, v324] : Fin 2 → IVec S16 32) a x).toNat < S128x65.size a)
theorem k1_idx36_inb : ∀ (v76 : IVec S16 32) (v324 : IVec S16 32) (k1_hw36 : k1_chk36 v76 v324), ∀ a x, ((![v76, v324] : Fin 2 → IVec S16 32) a x).toNat < S128x65.size a := fun v76 v324 k1_hw36 => k1_hw36

def k1_chk37 (v76 : IVec S16 32) (v331 : IVec S16 32) : Prop :=
  (∀ a x, ((![v76, v331] : Fin 2 → IVec S16 32) a x).toNat < S128x65.size a)
theorem k1_idx37_inb : ∀ (v76 : IVec S16 32) (v331 : IVec S16 32) (k1_hw37 : k1_chk37 v76 v331), ∀ a x, ((![v76, v331] : Fin 2 → IVec S16 32) a x).toNat < S128x65.size a := fun v76 v331 k1_hw37 => k1_hw37

def k1_chk38 (v76 : IVec S16 32) (v338 : IVec S16 32) : Prop :=
  (∀ a x, ((![v76, v338] : Fin 2 → IVec S16 32) a x).toNat < S128x65.size a)
theorem k1_idx38_inb : ∀ (v76 : IVec S16 32) (v338 : IVec S16 32) (k1_hw38 : k1_chk38 v76 v338), ∀ a x, ((![v76, v338] : Fin 2 → IVec S16 32) a x).toNat < S128x65.size a := fun v76 v338 k1_hw38 => k1_hw38

def k1_chk39 (v76 : IVec S16 32) (v345 : IVec S16 32) : Prop :=
  (∀ a x, ((![v76, v345] : Fin 2 → IVec S16 32) a x).toNat < S128x65.size a)
theorem k1_idx39_inb : ∀ (v76 : IVec S16 32) (v345 : IVec S16 32) (k1_hw39 : k1_chk39 v76 v345), ∀ a x, ((![v76, v345] : Fin 2 → IVec S16 32) a x).toNat < S128x65.size a := fun v76 v345 k1_hw39 => k1_hw39

def k1_chk40 (v76 : IVec S16 32) (v352 : IVec S16 32) : Prop :=
  (∀ a x, ((![v76, v352] : Fin 2 → IVec S16 32) a x).toNat < S128x65.size a)
theorem k1_idx40_inb : ∀ (v76 : IVec S16 32) (v352 : IVec S16 32) (k1_hw40 : k1_chk40 v76 v352), ∀ a x, ((![v76, v352] : Fin 2 → IVec S16 32) a x).toNat < S128x65.size a := fun v76 v352 k1_hw40 => k1_hw40

def k1_chk41 (v76 : IVec S16 32) (v359 : IVec S16 32) : Prop :=
  (∀ a x, ((![v76, v359] : Fin 2 → IVec S16 32) a x).toNat < S128x65.size a)
theorem k1_idx41_inb : ∀ (v76 : IVec S16 32) (v359 : IVec S16 32) (k1_hw41 : k1_chk41 v76 v359), ∀ a x, ((![v76, v359] : Fin 2 → IVec S16 32) a x).toNat < S128x65.size a := fun v76 v359 k1_hw41 => k1_hw41

def k1_chk42 (v76 : IVec S16 32) (v366 : IVec S16 32) : Prop :=
  (∀ a x, ((![v76, v366] : Fin 2 → IVec S16 32) a x).toNat < S128x65.size a)
theorem k1_idx42_inb : ∀ (v76 : IVec S16 32) (v366 : IVec S16 32) (k1_hw42 : k1_chk42 v76 v366), ∀ a x, ((![v76, v366] : Fin 2 → IVec S16 32) a x).toNat < S128x65.size a := fun v76 v366 k1_hw42 => k1_hw42

def k1_chk43 (v76 : IVec S16 32) (v373 : IVec S16 32) : Prop :=
  (∀ a x, ((![v76, v373] : Fin 2 → IVec S16 32) a x).toNat < S128x65.size a)
theorem k1_idx43_inb : ∀ (v76 : IVec S16 32) (v373 : IVec S16 32) (k1_hw43 : k1_chk43 v76 v373), ∀ a x, ((![v76, v373] : Fin 2 → IVec S16 32) a x).toNat < S128x65.size a := fun v76 v373 k1_hw43 => k1_hw43

def k1_chk44 (v76 : IVec S16 32) (v380 : IVec S16 32) : Prop :=
  (∀ a x, ((![v76, v380] : Fin 2 → IVec S16 32) a x).toNat < S128x65.size a)
theorem k1_idx44_inb : ∀ (v76 : IVec S16 32) (v380 : IVec S16 32) (k1_hw44 : k1_chk44 v76 v380), ∀ a x, ((![v76, v380] : Fin 2 → IVec S16 32) a x).toNat < S128x65.size a := fun v76 v380 k1_hw44 => k1_hw44

def k1_chk45 (v76 : IVec S16 32) (v387 : IVec S16 32) : Prop :=
  (∀ a x, ((![v76, v387] : Fin 2 → IVec S16 32) a x).toNat < S128x65.size a)
theorem k1_idx45_inb : ∀ (v76 : IVec S16 32) (v387 : IVec S16 32) (k1_hw45 : k1_chk45 v76 v387), ∀ a x, ((![v76, v387] : Fin 2 → IVec S16 32) a x).toNat < S128x65.size a := fun v76 v387 k1_hw45 => k1_hw45

def k1_chk46 (v76 : IVec S16 32) (v394 : IVec S16 32) : Prop :=
  (∀ a x, ((![v76, v394] : Fin 2 → IVec S16 32) a x).toNat < S128x65.size a)
theorem k1_idx46_inb : ∀ (v76 : IVec S16 32) (v394 : IVec S16 32) (k1_hw46 : k1_chk46 v76 v394), ∀ a x, ((![v76, v394] : Fin 2 → IVec S16 32) a x).toNat < S128x65.size a := fun v76 v394 k1_hw46 => k1_hw46

def k1_chk47 (v76 : IVec S16 32) (v401 : IVec S16 32) : Prop :=
  (∀ a x, ((![v76, v401] : Fin 2 → IVec S16 32) a x).toNat < S128x65.size a)
theorem k1_idx47_inb : ∀ (v76 : IVec S16 32) (v401 : IVec S16 32) (k1_hw47 : k1_chk47 v76 v401), ∀ a x, ((![v76, v401] : Fin 2 → IVec S16 32) a x).toNat < S128x65.size a := fun v76 v401 k1_hw47 => k1_hw47

def k1_chk48 (v76 : IVec S16 32) (v408 : IVec S16 32) : Prop :=
  (∀ a x, ((![v76, v408] : Fin 2 → IVec S16 32) a x).toNat < S128x65.size a)
theorem k1_idx48_inb : ∀ (v76 : IVec S16 32) (v408 : IVec S16 32) (k1_hw48 : k1_chk48 v76 v408), ∀ a x, ((![v76, v408] : Fin 2 → IVec S16 32) a x).toNat < S128x65.size a := fun v76 v408 k1_hw48 => k1_hw48

def k1_chk49 (v76 : IVec S16 32) (v415 : IVec S16 32) : Prop :=
  (∀ a x, ((![v76, v415] : Fin 2 → IVec S16 32) a x).toNat < S128x65.size a)
theorem k1_idx49_inb : ∀ (v76 : IVec S16 32) (v415 : IVec S16 32) (k1_hw49 : k1_chk49 v76 v415), ∀ a x, ((![v76, v415] : Fin 2 → IVec S16 32) a x).toNat < S128x65.size a := fun v76 v415 k1_hw49 => k1_hw49

def k1_chk50 (v76 : IVec S16 32) (v422 : IVec S16 32) : Prop :=
  (∀ a x, ((![v76, v422] : Fin 2 → IVec S16 32) a x).toNat < S128x65.size a)
theorem k1_idx50_inb : ∀ (v76 : IVec S16 32) (v422 : IVec S16 32) (k1_hw50 : k1_chk50 v76 v422), ∀ a x, ((![v76, v422] : Fin 2 → IVec S16 32) a x).toNat < S128x65.size a := fun v76 v422 k1_hw50 => k1_hw50

def k1_chk51 (v76 : IVec S16 32) (v429 : IVec S16 32) : Prop :=
  (∀ a x, ((![v76, v429] : Fin 2 → IVec S16 32) a x).toNat < S128x65.size a)
theorem k1_idx51_inb : ∀ (v76 : IVec S16 32) (v429 : IVec S16 32) (k1_hw51 : k1_chk51 v76 v429), ∀ a x, ((![v76, v429] : Fin 2 → IVec S16 32) a x).toNat < S128x65.size a := fun v76 v429 k1_hw51 => k1_hw51

def k1_chk52 (v76 : IVec S16 32) (v436 : IVec S16 32) : Prop :=
  (∀ a x, ((![v76, v436] : Fin 2 → IVec S16 32) a x).toNat < S128x65.size a)
theorem k1_idx52_inb : ∀ (v76 : IVec S16 32) (v436 : IVec S16 32) (k1_hw52 : k1_chk52 v76 v436), ∀ a x, ((![v76, v436] : Fin 2 → IVec S16 32) a x).toNat < S128x65.size a := fun v76 v436 k1_hw52 => k1_hw52

def k1_chk53 (v76 : IVec S16 32) (v443 : IVec S16 32) : Prop :=
  (∀ a x, ((![v76, v443] : Fin 2 → IVec S16 32) a x).toNat < S128x65.size a)
theorem k1_idx53_inb : ∀ (v76 : IVec S16 32) (v443 : IVec S16 32) (k1_hw53 : k1_chk53 v76 v443), ∀ a x, ((![v76, v443] : Fin 2 → IVec S16 32) a x).toNat < S128x65.size a := fun v76 v443 k1_hw53 => k1_hw53

def k1_chk54 (v76 : IVec S16 32) (v450 : IVec S16 32) : Prop :=
  (∀ a x, ((![v76, v450] : Fin 2 → IVec S16 32) a x).toNat < S128x65.size a)
theorem k1_idx54_inb : ∀ (v76 : IVec S16 32) (v450 : IVec S16 32) (k1_hw54 : k1_chk54 v76 v450), ∀ a x, ((![v76, v450] : Fin 2 → IVec S16 32) a x).toNat < S128x65.size a := fun v76 v450 k1_hw54 => k1_hw54

def k1_chk55 (v76 : IVec S16 32) (v457 : IVec S16 32) : Prop :=
  (∀ a x, ((![v76, v457] : Fin 2 → IVec S16 32) a x).toNat < S128x65.size a)
theorem k1_idx55_inb : ∀ (v76 : IVec S16 32) (v457 : IVec S16 32) (k1_hw55 : k1_chk55 v76 v457), ∀ a x, ((![v76, v457] : Fin 2 → IVec S16 32) a x).toNat < S128x65.size a := fun v76 v457 k1_hw55 => k1_hw55

def k1_chk56 (v76 : IVec S16 32) (v464 : IVec S16 32) : Prop :=
  (∀ a x, ((![v76, v464] : Fin 2 → IVec S16 32) a x).toNat < S128x65.size a)
theorem k1_idx56_inb : ∀ (v76 : IVec S16 32) (v464 : IVec S16 32) (k1_hw56 : k1_chk56 v76 v464), ∀ a x, ((![v76, v464] : Fin 2 → IVec S16 32) a x).toNat < S128x65.size a := fun v76 v464 k1_hw56 => k1_hw56

def k1_chk57 (v76 : IVec S16 32) (v471 : IVec S16 32) : Prop :=
  (∀ a x, ((![v76, v471] : Fin 2 → IVec S16 32) a x).toNat < S128x65.size a)
theorem k1_idx57_inb : ∀ (v76 : IVec S16 32) (v471 : IVec S16 32) (k1_hw57 : k1_chk57 v76 v471), ∀ a x, ((![v76, v471] : Fin 2 → IVec S16 32) a x).toNat < S128x65.size a := fun v76 v471 k1_hw57 => k1_hw57

def k1_chk58 (v76 : IVec S16 32) (v478 : IVec S16 32) : Prop :=
  (∀ a x, ((![v76, v478] : Fin 2 → IVec S16 32) a x).toNat < S128x65.size a)
theorem k1_idx58_inb : ∀ (v76 : IVec S16 32) (v478 : IVec S16 32) (k1_hw58 : k1_chk58 v76 v478), ∀ a x, ((![v76, v478] : Fin 2 → IVec S16 32) a x).toNat < S128x65.size a := fun v76 v478 k1_hw58 => k1_hw58

def k1_chk59 (v76 : IVec S16 32) (v485 : IVec S16 32) : Prop :=
  (∀ a x, ((![v76, v485] : Fin 2 → IVec S16 32) a x).toNat < S128x65.size a)
theorem k1_idx59_inb : ∀ (v76 : IVec S16 32) (v485 : IVec S16 32) (k1_hw59 : k1_chk59 v76 v485), ∀ a x, ((![v76, v485] : Fin 2 → IVec S16 32) a x).toNat < S128x65.size a := fun v76 v485 k1_hw59 => k1_hw59

def k1_chk60 (v76 : IVec S16 32) (v492 : IVec S16 32) : Prop :=
  (∀ a x, ((![v76, v492] : Fin 2 → IVec S16 32) a x).toNat < S128x65.size a)
theorem k1_idx60_inb : ∀ (v76 : IVec S16 32) (v492 : IVec S16 32) (k1_hw60 : k1_chk60 v76 v492), ∀ a x, ((![v76, v492] : Fin 2 → IVec S16 32) a x).toNat < S128x65.size a := fun v76 v492 k1_hw60 => k1_hw60

def k1_chk61 (v76 : IVec S16 32) (v499 : IVec S16 32) : Prop :=
  (∀ a x, ((![v76, v499] : Fin 2 → IVec S16 32) a x).toNat < S128x65.size a)
theorem k1_idx61_inb : ∀ (v76 : IVec S16 32) (v499 : IVec S16 32) (k1_hw61 : k1_chk61 v76 v499), ∀ a x, ((![v76, v499] : Fin 2 → IVec S16 32) a x).toNat < S128x65.size a := fun v76 v499 k1_hw61 => k1_hw61

def k1_chk62 (v76 : IVec S16 32) (v506 : IVec S16 32) : Prop :=
  (∀ a x, ((![v76, v506] : Fin 2 → IVec S16 32) a x).toNat < S128x65.size a)
theorem k1_idx62_inb : ∀ (v76 : IVec S16 32) (v506 : IVec S16 32) (k1_hw62 : k1_chk62 v76 v506), ∀ a x, ((![v76, v506] : Fin 2 → IVec S16 32) a x).toNat < S128x65.size a := fun v76 v506 k1_hw62 => k1_hw62

def k1_chk63 (v76 : IVec S16 32) (v513 : IVec S16 32) : Prop :=
  (∀ a x, ((![v76, v513] : Fin 2 → IVec S16 32) a x).toNat < S128x65.size a)
theorem k1_idx63_inb : ∀ (v76 : IVec S16 32) (v513 : IVec S16 32) (k1_hw63 : k1_chk63 v76 v513), ∀ a x, ((![v76, v513] : Fin 2 → IVec S16 32) a x).toNat < S128x65.size a := fun v76 v513 k1_hw63 => k1_hw63

def k1_chk64 (v76 : IVec S16 32) (v520 : IVec S16 32) : Prop :=
  (∀ a x, ((![v76, v520] : Fin 2 → IVec S16 32) a x).toNat < S128x65.size a)
theorem k1_idx64_inb : ∀ (v76 : IVec S16 32) (v520 : IVec S16 32) (k1_hw64 : k1_chk64 v76 v520), ∀ a x, ((![v76, v520] : Fin 2 → IVec S16 32) a x).toNat < S128x65.size a := fun v76 v520 k1_hw64 => k1_hw64

def k1_chk65 (v76 : IVec S16 32) (v527 : IVec S16 32) : Prop :=
  (∀ a x, ((![v76, v527] : Fin 2 → IVec S16 32) a x).toNat < S128x65.size a)
theorem k1_idx65_inb : ∀ (v76 : IVec S16 32) (v527 : IVec S16 32) (k1_hw65 : k1_chk65 v76 v527), ∀ a x, ((![v76, v527] : Fin 2 → IVec S16 32) a x).toNat < S128x65.size a := fun v76 v527 k1_hw65 => k1_hw65
def k1_off6 (k1_t1 : Fin k1_t1_loop.trips) (k1_t2 : Fin k1_t2_loop.trips) : Fin 1 → Nat :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c0_i32_20 : BitVec 32 := 0#32
  let v41 : BitVec 32 := Scalar.addi v40 c0_i32_20
  let c128_i32_44 : BitVec 32 := 128#32
  let v69 : BitVec 32 := Scalar.muli v41 c128_i32_44
  let c0_i32_43 : BitVec 32 := 0#32
  let c0_i32_26 : BitVec 32 := 0#32
  let c1_i32_28 : BitVec 32 := 1#32
  let arg12 : BitVec 32 := Scf.iv c0_i32_26 c1_i32_28 k1_t2
  let c1_i32_42 : BitVec 32 := 1#32
  let v67 : BitVec 32 := Scalar.muli arg12 c1_i32_42
  let v68 : BitVec 32 := Scalar.addi c0_i32_43 v67
  let c16_i32_45 : BitVec 32 := 16#32
  let v70 : BitVec 32 := Scalar.muli v68 c16_i32_45
  let v71 : BitVec 32 := Scalar.addi v69 v70
  let v534 : Index := Scalar.indexCast v71
  ![v534.toNat]
def k1_cond2 (k1_t1 : Fin k1_t1_loop.trips) : BitVec 1 :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c1_i32_30 : BitVec 32 := 1#32
  let v54 : BitVec 32 := Scalar.addi v40 c1_i32_30
  let c1_i32_31 : BitVec 32 := 1#32
  let v55 : BitVec 32 := Scalar.addi v54 c1_i32_31
  let c16_i32_32 : BitVec 32 := 16#32
  let v56 : BitVec 1 := Scalar.cmpi .slt v55 c16_i32_32
  let v57 : BitVec 32 := Scalar.extui v56
  let c0_i32_33 : BitVec 32 := 0#32
  let v58 : BitVec 1 := Scalar.cmpi .ne v57 c0_i32_33
  v58

def k1_off7 (i : grid1.Coords) (k1_t1 : Fin k1_t1_loop.trips) : Fin 3 → Nat :=
  let c28_i32_43 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v68 : BitVec 32 := Scalar.addi c28_i32_43 v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c1_i32_30 : BitVec 32 := 1#32
  let v54 : BitVec 32 := Scalar.addi v40 c1_i32_30
  let c1_i32_42 : BitVec 32 := 1#32
  let v67 : BitVec 32 := Scalar.addi v54 c1_i32_42
  let c128_i32_44 : BitVec 32 := 128#32
  let v69 : BitVec 32 := Scalar.muli v67 c128_i32_44
  let v70 : BitVec 32 := Scalar.addi v29 v69
  let c0_i32_45 : BitVec 32 := 0#32
  ![v68.toNat, v70.toNat, 0]
@[reducible] def k1_t3_loop : Scf.Loop 32 :=
  let c0_i32_38 : BitVec 32 := 0#32
  let c8_i32_39 : BitVec 32 := 8#32
  let v66 : BitVec 32 := Scalar.addi c0_i32_38 c8_i32_39
  let c1_i32_40 : BitVec 32 := 1#32
  ⟨c0_i32_38, v66, c1_i32_40⟩
def k1_off8 (k1_t1 : Fin k1_t1_loop.trips) (k1_t3 : Fin k1_t3_loop.trips) : Fin 1 → Nat :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c1_i32_30 : BitVec 32 := 1#32
  let v54 : BitVec 32 := Scalar.addi v40 c1_i32_30
  let c128_i32_44 : BitVec 32 := 128#32
  let v69 : BitVec 32 := Scalar.muli v54 c128_i32_44
  let c0_i32_43 : BitVec 32 := 0#32
  let c0_i32_38 : BitVec 32 := 0#32
  let c1_i32_40 : BitVec 32 := 1#32
  let arg12 : BitVec 32 := Scf.iv c0_i32_38 c1_i32_40 k1_t3
  let c1_i32_42 : BitVec 32 := 1#32
  let v67 : BitVec 32 := Scalar.muli arg12 c1_i32_42
  let v68 : BitVec 32 := Scalar.addi c0_i32_43 v67
  let c16_i32_45 : BitVec 32 := 16#32
  let v70 : BitVec 32 := Scalar.muli v68 c16_i32_45
  let v71 : BitVec 32 := Scalar.addi v69 v70
  let v72 : Index := Scalar.indexCast v71
  ![v72.toNat]

def k1_chk66 (v76 : IVec S16 32) (v79 : IVec S16 32) : Prop :=
  (∀ a x, ((![v76, v79] : Fin 2 → IVec S16 32) a x).toNat < S128x65.size a)
theorem k1_idx66_inb : ∀ (v76 : IVec S16 32) (v79 : IVec S16 32) (k1_hw66 : k1_chk66 v76 v79), ∀ a x, ((![v76, v79] : Fin 2 → IVec S16 32) a x).toNat < S128x65.size a := fun v76 v79 k1_hw66 => k1_hw66

def k1_chk67 (v76 : IVec S16 32) (v86 : IVec S16 32) : Prop :=
  (∀ a x, ((![v76, v86] : Fin 2 → IVec S16 32) a x).toNat < S128x65.size a)
theorem k1_idx67_inb : ∀ (v76 : IVec S16 32) (v86 : IVec S16 32) (k1_hw67 : k1_chk67 v76 v86), ∀ a x, ((![v76, v86] : Fin 2 → IVec S16 32) a x).toNat < S128x65.size a := fun v76 v86 k1_hw67 => k1_hw67

def k1_chk68 (v76 : IVec S16 32) (v93 : IVec S16 32) : Prop :=
  (∀ a x, ((![v76, v93] : Fin 2 → IVec S16 32) a x).toNat < S128x65.size a)
theorem k1_idx68_inb : ∀ (v76 : IVec S16 32) (v93 : IVec S16 32) (k1_hw68 : k1_chk68 v76 v93), ∀ a x, ((![v76, v93] : Fin 2 → IVec S16 32) a x).toNat < S128x65.size a := fun v76 v93 k1_hw68 => k1_hw68

def k1_chk69 (v76 : IVec S16 32) (v100 : IVec S16 32) : Prop :=
  (∀ a x, ((![v76, v100] : Fin 2 → IVec S16 32) a x).toNat < S128x65.size a)
theorem k1_idx69_inb : ∀ (v76 : IVec S16 32) (v100 : IVec S16 32) (k1_hw69 : k1_chk69 v76 v100), ∀ a x, ((![v76, v100] : Fin 2 → IVec S16 32) a x).toNat < S128x65.size a := fun v76 v100 k1_hw69 => k1_hw69

def k1_chk70 (v76 : IVec S16 32) (v107 : IVec S16 32) : Prop :=
  (∀ a x, ((![v76, v107] : Fin 2 → IVec S16 32) a x).toNat < S128x65.size a)
theorem k1_idx70_inb : ∀ (v76 : IVec S16 32) (v107 : IVec S16 32) (k1_hw70 : k1_chk70 v76 v107), ∀ a x, ((![v76, v107] : Fin 2 → IVec S16 32) a x).toNat < S128x65.size a := fun v76 v107 k1_hw70 => k1_hw70

def k1_chk71 (v76 : IVec S16 32) (v114 : IVec S16 32) : Prop :=
  (∀ a x, ((![v76, v114] : Fin 2 → IVec S16 32) a x).toNat < S128x65.size a)
theorem k1_idx71_inb : ∀ (v76 : IVec S16 32) (v114 : IVec S16 32) (k1_hw71 : k1_chk71 v76 v114), ∀ a x, ((![v76, v114] : Fin 2 → IVec S16 32) a x).toNat < S128x65.size a := fun v76 v114 k1_hw71 => k1_hw71

def k1_chk72 (v76 : IVec S16 32) (v121 : IVec S16 32) : Prop :=
  (∀ a x, ((![v76, v121] : Fin 2 → IVec S16 32) a x).toNat < S128x65.size a)
theorem k1_idx72_inb : ∀ (v76 : IVec S16 32) (v121 : IVec S16 32) (k1_hw72 : k1_chk72 v76 v121), ∀ a x, ((![v76, v121] : Fin 2 → IVec S16 32) a x).toNat < S128x65.size a := fun v76 v121 k1_hw72 => k1_hw72

def k1_chk73 (v76 : IVec S16 32) (v128 : IVec S16 32) : Prop :=
  (∀ a x, ((![v76, v128] : Fin 2 → IVec S16 32) a x).toNat < S128x65.size a)
theorem k1_idx73_inb : ∀ (v76 : IVec S16 32) (v128 : IVec S16 32) (k1_hw73 : k1_chk73 v76 v128), ∀ a x, ((![v76, v128] : Fin 2 → IVec S16 32) a x).toNat < S128x65.size a := fun v76 v128 k1_hw73 => k1_hw73

def k1_chk74 (v76 : IVec S16 32) (v135 : IVec S16 32) : Prop :=
  (∀ a x, ((![v76, v135] : Fin 2 → IVec S16 32) a x).toNat < S128x65.size a)
theorem k1_idx74_inb : ∀ (v76 : IVec S16 32) (v135 : IVec S16 32) (k1_hw74 : k1_chk74 v76 v135), ∀ a x, ((![v76, v135] : Fin 2 → IVec S16 32) a x).toNat < S128x65.size a := fun v76 v135 k1_hw74 => k1_hw74

def k1_chk75 (v76 : IVec S16 32) (v142 : IVec S16 32) : Prop :=
  (∀ a x, ((![v76, v142] : Fin 2 → IVec S16 32) a x).toNat < S128x65.size a)
theorem k1_idx75_inb : ∀ (v76 : IVec S16 32) (v142 : IVec S16 32) (k1_hw75 : k1_chk75 v76 v142), ∀ a x, ((![v76, v142] : Fin 2 → IVec S16 32) a x).toNat < S128x65.size a := fun v76 v142 k1_hw75 => k1_hw75

def k1_chk76 (v76 : IVec S16 32) (v149 : IVec S16 32) : Prop :=
  (∀ a x, ((![v76, v149] : Fin 2 → IVec S16 32) a x).toNat < S128x65.size a)
theorem k1_idx76_inb : ∀ (v76 : IVec S16 32) (v149 : IVec S16 32) (k1_hw76 : k1_chk76 v76 v149), ∀ a x, ((![v76, v149] : Fin 2 → IVec S16 32) a x).toNat < S128x65.size a := fun v76 v149 k1_hw76 => k1_hw76

def k1_chk77 (v76 : IVec S16 32) (v156 : IVec S16 32) : Prop :=
  (∀ a x, ((![v76, v156] : Fin 2 → IVec S16 32) a x).toNat < S128x65.size a)
theorem k1_idx77_inb : ∀ (v76 : IVec S16 32) (v156 : IVec S16 32) (k1_hw77 : k1_chk77 v76 v156), ∀ a x, ((![v76, v156] : Fin 2 → IVec S16 32) a x).toNat < S128x65.size a := fun v76 v156 k1_hw77 => k1_hw77

def k1_chk78 (v76 : IVec S16 32) (v163 : IVec S16 32) : Prop :=
  (∀ a x, ((![v76, v163] : Fin 2 → IVec S16 32) a x).toNat < S128x65.size a)
theorem k1_idx78_inb : ∀ (v76 : IVec S16 32) (v163 : IVec S16 32) (k1_hw78 : k1_chk78 v76 v163), ∀ a x, ((![v76, v163] : Fin 2 → IVec S16 32) a x).toNat < S128x65.size a := fun v76 v163 k1_hw78 => k1_hw78

def k1_chk79 (v76 : IVec S16 32) (v170 : IVec S16 32) : Prop :=
  (∀ a x, ((![v76, v170] : Fin 2 → IVec S16 32) a x).toNat < S128x65.size a)
theorem k1_idx79_inb : ∀ (v76 : IVec S16 32) (v170 : IVec S16 32) (k1_hw79 : k1_chk79 v76 v170), ∀ a x, ((![v76, v170] : Fin 2 → IVec S16 32) a x).toNat < S128x65.size a := fun v76 v170 k1_hw79 => k1_hw79

def k1_chk80 (v76 : IVec S16 32) (v177 : IVec S16 32) : Prop :=
  (∀ a x, ((![v76, v177] : Fin 2 → IVec S16 32) a x).toNat < S128x65.size a)
theorem k1_idx80_inb : ∀ (v76 : IVec S16 32) (v177 : IVec S16 32) (k1_hw80 : k1_chk80 v76 v177), ∀ a x, ((![v76, v177] : Fin 2 → IVec S16 32) a x).toNat < S128x65.size a := fun v76 v177 k1_hw80 => k1_hw80

def k1_chk81 (v76 : IVec S16 32) (v184 : IVec S16 32) : Prop :=
  (∀ a x, ((![v76, v184] : Fin 2 → IVec S16 32) a x).toNat < S128x65.size a)
theorem k1_idx81_inb : ∀ (v76 : IVec S16 32) (v184 : IVec S16 32) (k1_hw81 : k1_chk81 v76 v184), ∀ a x, ((![v76, v184] : Fin 2 → IVec S16 32) a x).toNat < S128x65.size a := fun v76 v184 k1_hw81 => k1_hw81

def k1_chk82 (v76 : IVec S16 32) (v191 : IVec S16 32) : Prop :=
  (∀ a x, ((![v76, v191] : Fin 2 → IVec S16 32) a x).toNat < S128x65.size a)
theorem k1_idx82_inb : ∀ (v76 : IVec S16 32) (v191 : IVec S16 32) (k1_hw82 : k1_chk82 v76 v191), ∀ a x, ((![v76, v191] : Fin 2 → IVec S16 32) a x).toNat < S128x65.size a := fun v76 v191 k1_hw82 => k1_hw82

def k1_chk83 (v76 : IVec S16 32) (v198 : IVec S16 32) : Prop :=
  (∀ a x, ((![v76, v198] : Fin 2 → IVec S16 32) a x).toNat < S128x65.size a)
theorem k1_idx83_inb : ∀ (v76 : IVec S16 32) (v198 : IVec S16 32) (k1_hw83 : k1_chk83 v76 v198), ∀ a x, ((![v76, v198] : Fin 2 → IVec S16 32) a x).toNat < S128x65.size a := fun v76 v198 k1_hw83 => k1_hw83

def k1_chk84 (v76 : IVec S16 32) (v205 : IVec S16 32) : Prop :=
  (∀ a x, ((![v76, v205] : Fin 2 → IVec S16 32) a x).toNat < S128x65.size a)
theorem k1_idx84_inb : ∀ (v76 : IVec S16 32) (v205 : IVec S16 32) (k1_hw84 : k1_chk84 v76 v205), ∀ a x, ((![v76, v205] : Fin 2 → IVec S16 32) a x).toNat < S128x65.size a := fun v76 v205 k1_hw84 => k1_hw84

def k1_chk85 (v76 : IVec S16 32) (v212 : IVec S16 32) : Prop :=
  (∀ a x, ((![v76, v212] : Fin 2 → IVec S16 32) a x).toNat < S128x65.size a)
theorem k1_idx85_inb : ∀ (v76 : IVec S16 32) (v212 : IVec S16 32) (k1_hw85 : k1_chk85 v76 v212), ∀ a x, ((![v76, v212] : Fin 2 → IVec S16 32) a x).toNat < S128x65.size a := fun v76 v212 k1_hw85 => k1_hw85

def k1_chk86 (v76 : IVec S16 32) (v219 : IVec S16 32) : Prop :=
  (∀ a x, ((![v76, v219] : Fin 2 → IVec S16 32) a x).toNat < S128x65.size a)
theorem k1_idx86_inb : ∀ (v76 : IVec S16 32) (v219 : IVec S16 32) (k1_hw86 : k1_chk86 v76 v219), ∀ a x, ((![v76, v219] : Fin 2 → IVec S16 32) a x).toNat < S128x65.size a := fun v76 v219 k1_hw86 => k1_hw86

def k1_chk87 (v76 : IVec S16 32) (v226 : IVec S16 32) : Prop :=
  (∀ a x, ((![v76, v226] : Fin 2 → IVec S16 32) a x).toNat < S128x65.size a)
theorem k1_idx87_inb : ∀ (v76 : IVec S16 32) (v226 : IVec S16 32) (k1_hw87 : k1_chk87 v76 v226), ∀ a x, ((![v76, v226] : Fin 2 → IVec S16 32) a x).toNat < S128x65.size a := fun v76 v226 k1_hw87 => k1_hw87

def k1_chk88 (v76 : IVec S16 32) (v233 : IVec S16 32) : Prop :=
  (∀ a x, ((![v76, v233] : Fin 2 → IVec S16 32) a x).toNat < S128x65.size a)
theorem k1_idx88_inb : ∀ (v76 : IVec S16 32) (v233 : IVec S16 32) (k1_hw88 : k1_chk88 v76 v233), ∀ a x, ((![v76, v233] : Fin 2 → IVec S16 32) a x).toNat < S128x65.size a := fun v76 v233 k1_hw88 => k1_hw88

def k1_chk89 (v76 : IVec S16 32) (v240 : IVec S16 32) : Prop :=
  (∀ a x, ((![v76, v240] : Fin 2 → IVec S16 32) a x).toNat < S128x65.size a)
theorem k1_idx89_inb : ∀ (v76 : IVec S16 32) (v240 : IVec S16 32) (k1_hw89 : k1_chk89 v76 v240), ∀ a x, ((![v76, v240] : Fin 2 → IVec S16 32) a x).toNat < S128x65.size a := fun v76 v240 k1_hw89 => k1_hw89

def k1_chk90 (v76 : IVec S16 32) (v247 : IVec S16 32) : Prop :=
  (∀ a x, ((![v76, v247] : Fin 2 → IVec S16 32) a x).toNat < S128x65.size a)
theorem k1_idx90_inb : ∀ (v76 : IVec S16 32) (v247 : IVec S16 32) (k1_hw90 : k1_chk90 v76 v247), ∀ a x, ((![v76, v247] : Fin 2 → IVec S16 32) a x).toNat < S128x65.size a := fun v76 v247 k1_hw90 => k1_hw90

def k1_chk91 (v76 : IVec S16 32) (v254 : IVec S16 32) : Prop :=
  (∀ a x, ((![v76, v254] : Fin 2 → IVec S16 32) a x).toNat < S128x65.size a)
theorem k1_idx91_inb : ∀ (v76 : IVec S16 32) (v254 : IVec S16 32) (k1_hw91 : k1_chk91 v76 v254), ∀ a x, ((![v76, v254] : Fin 2 → IVec S16 32) a x).toNat < S128x65.size a := fun v76 v254 k1_hw91 => k1_hw91

def k1_chk92 (v76 : IVec S16 32) (v261 : IVec S16 32) : Prop :=
  (∀ a x, ((![v76, v261] : Fin 2 → IVec S16 32) a x).toNat < S128x65.size a)
theorem k1_idx92_inb : ∀ (v76 : IVec S16 32) (v261 : IVec S16 32) (k1_hw92 : k1_chk92 v76 v261), ∀ a x, ((![v76, v261] : Fin 2 → IVec S16 32) a x).toNat < S128x65.size a := fun v76 v261 k1_hw92 => k1_hw92

def k1_chk93 (v76 : IVec S16 32) (v268 : IVec S16 32) : Prop :=
  (∀ a x, ((![v76, v268] : Fin 2 → IVec S16 32) a x).toNat < S128x65.size a)
theorem k1_idx93_inb : ∀ (v76 : IVec S16 32) (v268 : IVec S16 32) (k1_hw93 : k1_chk93 v76 v268), ∀ a x, ((![v76, v268] : Fin 2 → IVec S16 32) a x).toNat < S128x65.size a := fun v76 v268 k1_hw93 => k1_hw93

def k1_chk94 (v76 : IVec S16 32) (v275 : IVec S16 32) : Prop :=
  (∀ a x, ((![v76, v275] : Fin 2 → IVec S16 32) a x).toNat < S128x65.size a)
theorem k1_idx94_inb : ∀ (v76 : IVec S16 32) (v275 : IVec S16 32) (k1_hw94 : k1_chk94 v76 v275), ∀ a x, ((![v76, v275] : Fin 2 → IVec S16 32) a x).toNat < S128x65.size a := fun v76 v275 k1_hw94 => k1_hw94

def k1_chk95 (v76 : IVec S16 32) (v282 : IVec S16 32) : Prop :=
  (∀ a x, ((![v76, v282] : Fin 2 → IVec S16 32) a x).toNat < S128x65.size a)
theorem k1_idx95_inb : ∀ (v76 : IVec S16 32) (v282 : IVec S16 32) (k1_hw95 : k1_chk95 v76 v282), ∀ a x, ((![v76, v282] : Fin 2 → IVec S16 32) a x).toNat < S128x65.size a := fun v76 v282 k1_hw95 => k1_hw95

def k1_chk96 (v76 : IVec S16 32) (v289 : IVec S16 32) : Prop :=
  (∀ a x, ((![v76, v289] : Fin 2 → IVec S16 32) a x).toNat < S128x65.size a)
theorem k1_idx96_inb : ∀ (v76 : IVec S16 32) (v289 : IVec S16 32) (k1_hw96 : k1_chk96 v76 v289), ∀ a x, ((![v76, v289] : Fin 2 → IVec S16 32) a x).toNat < S128x65.size a := fun v76 v289 k1_hw96 => k1_hw96

def k1_chk97 (v76 : IVec S16 32) (v296 : IVec S16 32) : Prop :=
  (∀ a x, ((![v76, v296] : Fin 2 → IVec S16 32) a x).toNat < S128x65.size a)
theorem k1_idx97_inb : ∀ (v76 : IVec S16 32) (v296 : IVec S16 32) (k1_hw97 : k1_chk97 v76 v296), ∀ a x, ((![v76, v296] : Fin 2 → IVec S16 32) a x).toNat < S128x65.size a := fun v76 v296 k1_hw97 => k1_hw97

def k1_chk98 (v76 : IVec S16 32) (v303 : IVec S16 32) : Prop :=
  (∀ a x, ((![v76, v303] : Fin 2 → IVec S16 32) a x).toNat < S128x65.size a)
theorem k1_idx98_inb : ∀ (v76 : IVec S16 32) (v303 : IVec S16 32) (k1_hw98 : k1_chk98 v76 v303), ∀ a x, ((![v76, v303] : Fin 2 → IVec S16 32) a x).toNat < S128x65.size a := fun v76 v303 k1_hw98 => k1_hw98

def k1_chk99 (v76 : IVec S16 32) (v310 : IVec S16 32) : Prop :=
  (∀ a x, ((![v76, v310] : Fin 2 → IVec S16 32) a x).toNat < S128x65.size a)
theorem k1_idx99_inb : ∀ (v76 : IVec S16 32) (v310 : IVec S16 32) (k1_hw99 : k1_chk99 v76 v310), ∀ a x, ((![v76, v310] : Fin 2 → IVec S16 32) a x).toNat < S128x65.size a := fun v76 v310 k1_hw99 => k1_hw99

def k1_chk100 (v76 : IVec S16 32) (v317 : IVec S16 32) : Prop :=
  (∀ a x, ((![v76, v317] : Fin 2 → IVec S16 32) a x).toNat < S128x65.size a)
theorem k1_idx100_inb : ∀ (v76 : IVec S16 32) (v317 : IVec S16 32) (k1_hw100 : k1_chk100 v76 v317), ∀ a x, ((![v76, v317] : Fin 2 → IVec S16 32) a x).toNat < S128x65.size a := fun v76 v317 k1_hw100 => k1_hw100

def k1_chk101 (v76 : IVec S16 32) (v324 : IVec S16 32) : Prop :=
  (∀ a x, ((![v76, v324] : Fin 2 → IVec S16 32) a x).toNat < S128x65.size a)
theorem k1_idx101_inb : ∀ (v76 : IVec S16 32) (v324 : IVec S16 32) (k1_hw101 : k1_chk101 v76 v324), ∀ a x, ((![v76, v324] : Fin 2 → IVec S16 32) a x).toNat < S128x65.size a := fun v76 v324 k1_hw101 => k1_hw101

def k1_chk102 (v76 : IVec S16 32) (v331 : IVec S16 32) : Prop :=
  (∀ a x, ((![v76, v331] : Fin 2 → IVec S16 32) a x).toNat < S128x65.size a)
theorem k1_idx102_inb : ∀ (v76 : IVec S16 32) (v331 : IVec S16 32) (k1_hw102 : k1_chk102 v76 v331), ∀ a x, ((![v76, v331] : Fin 2 → IVec S16 32) a x).toNat < S128x65.size a := fun v76 v331 k1_hw102 => k1_hw102

def k1_chk103 (v76 : IVec S16 32) (v338 : IVec S16 32) : Prop :=
  (∀ a x, ((![v76, v338] : Fin 2 → IVec S16 32) a x).toNat < S128x65.size a)
theorem k1_idx103_inb : ∀ (v76 : IVec S16 32) (v338 : IVec S16 32) (k1_hw103 : k1_chk103 v76 v338), ∀ a x, ((![v76, v338] : Fin 2 → IVec S16 32) a x).toNat < S128x65.size a := fun v76 v338 k1_hw103 => k1_hw103

def k1_chk104 (v76 : IVec S16 32) (v345 : IVec S16 32) : Prop :=
  (∀ a x, ((![v76, v345] : Fin 2 → IVec S16 32) a x).toNat < S128x65.size a)
theorem k1_idx104_inb : ∀ (v76 : IVec S16 32) (v345 : IVec S16 32) (k1_hw104 : k1_chk104 v76 v345), ∀ a x, ((![v76, v345] : Fin 2 → IVec S16 32) a x).toNat < S128x65.size a := fun v76 v345 k1_hw104 => k1_hw104

def k1_chk105 (v76 : IVec S16 32) (v352 : IVec S16 32) : Prop :=
  (∀ a x, ((![v76, v352] : Fin 2 → IVec S16 32) a x).toNat < S128x65.size a)
theorem k1_idx105_inb : ∀ (v76 : IVec S16 32) (v352 : IVec S16 32) (k1_hw105 : k1_chk105 v76 v352), ∀ a x, ((![v76, v352] : Fin 2 → IVec S16 32) a x).toNat < S128x65.size a := fun v76 v352 k1_hw105 => k1_hw105

def k1_chk106 (v76 : IVec S16 32) (v359 : IVec S16 32) : Prop :=
  (∀ a x, ((![v76, v359] : Fin 2 → IVec S16 32) a x).toNat < S128x65.size a)
theorem k1_idx106_inb : ∀ (v76 : IVec S16 32) (v359 : IVec S16 32) (k1_hw106 : k1_chk106 v76 v359), ∀ a x, ((![v76, v359] : Fin 2 → IVec S16 32) a x).toNat < S128x65.size a := fun v76 v359 k1_hw106 => k1_hw106

def k1_chk107 (v76 : IVec S16 32) (v366 : IVec S16 32) : Prop :=
  (∀ a x, ((![v76, v366] : Fin 2 → IVec S16 32) a x).toNat < S128x65.size a)
theorem k1_idx107_inb : ∀ (v76 : IVec S16 32) (v366 : IVec S16 32) (k1_hw107 : k1_chk107 v76 v366), ∀ a x, ((![v76, v366] : Fin 2 → IVec S16 32) a x).toNat < S128x65.size a := fun v76 v366 k1_hw107 => k1_hw107

def k1_chk108 (v76 : IVec S16 32) (v373 : IVec S16 32) : Prop :=
  (∀ a x, ((![v76, v373] : Fin 2 → IVec S16 32) a x).toNat < S128x65.size a)
theorem k1_idx108_inb : ∀ (v76 : IVec S16 32) (v373 : IVec S16 32) (k1_hw108 : k1_chk108 v76 v373), ∀ a x, ((![v76, v373] : Fin 2 → IVec S16 32) a x).toNat < S128x65.size a := fun v76 v373 k1_hw108 => k1_hw108

def k1_chk109 (v76 : IVec S16 32) (v380 : IVec S16 32) : Prop :=
  (∀ a x, ((![v76, v380] : Fin 2 → IVec S16 32) a x).toNat < S128x65.size a)
theorem k1_idx109_inb : ∀ (v76 : IVec S16 32) (v380 : IVec S16 32) (k1_hw109 : k1_chk109 v76 v380), ∀ a x, ((![v76, v380] : Fin 2 → IVec S16 32) a x).toNat < S128x65.size a := fun v76 v380 k1_hw109 => k1_hw109

def k1_chk110 (v76 : IVec S16 32) (v387 : IVec S16 32) : Prop :=
  (∀ a x, ((![v76, v387] : Fin 2 → IVec S16 32) a x).toNat < S128x65.size a)
theorem k1_idx110_inb : ∀ (v76 : IVec S16 32) (v387 : IVec S16 32) (k1_hw110 : k1_chk110 v76 v387), ∀ a x, ((![v76, v387] : Fin 2 → IVec S16 32) a x).toNat < S128x65.size a := fun v76 v387 k1_hw110 => k1_hw110

def k1_chk111 (v76 : IVec S16 32) (v394 : IVec S16 32) : Prop :=
  (∀ a x, ((![v76, v394] : Fin 2 → IVec S16 32) a x).toNat < S128x65.size a)
theorem k1_idx111_inb : ∀ (v76 : IVec S16 32) (v394 : IVec S16 32) (k1_hw111 : k1_chk111 v76 v394), ∀ a x, ((![v76, v394] : Fin 2 → IVec S16 32) a x).toNat < S128x65.size a := fun v76 v394 k1_hw111 => k1_hw111

def k1_chk112 (v76 : IVec S16 32) (v401 : IVec S16 32) : Prop :=
  (∀ a x, ((![v76, v401] : Fin 2 → IVec S16 32) a x).toNat < S128x65.size a)
theorem k1_idx112_inb : ∀ (v76 : IVec S16 32) (v401 : IVec S16 32) (k1_hw112 : k1_chk112 v76 v401), ∀ a x, ((![v76, v401] : Fin 2 → IVec S16 32) a x).toNat < S128x65.size a := fun v76 v401 k1_hw112 => k1_hw112

def k1_chk113 (v76 : IVec S16 32) (v408 : IVec S16 32) : Prop :=
  (∀ a x, ((![v76, v408] : Fin 2 → IVec S16 32) a x).toNat < S128x65.size a)
theorem k1_idx113_inb : ∀ (v76 : IVec S16 32) (v408 : IVec S16 32) (k1_hw113 : k1_chk113 v76 v408), ∀ a x, ((![v76, v408] : Fin 2 → IVec S16 32) a x).toNat < S128x65.size a := fun v76 v408 k1_hw113 => k1_hw113

def k1_chk114 (v76 : IVec S16 32) (v415 : IVec S16 32) : Prop :=
  (∀ a x, ((![v76, v415] : Fin 2 → IVec S16 32) a x).toNat < S128x65.size a)
theorem k1_idx114_inb : ∀ (v76 : IVec S16 32) (v415 : IVec S16 32) (k1_hw114 : k1_chk114 v76 v415), ∀ a x, ((![v76, v415] : Fin 2 → IVec S16 32) a x).toNat < S128x65.size a := fun v76 v415 k1_hw114 => k1_hw114

def k1_chk115 (v76 : IVec S16 32) (v422 : IVec S16 32) : Prop :=
  (∀ a x, ((![v76, v422] : Fin 2 → IVec S16 32) a x).toNat < S128x65.size a)
theorem k1_idx115_inb : ∀ (v76 : IVec S16 32) (v422 : IVec S16 32) (k1_hw115 : k1_chk115 v76 v422), ∀ a x, ((![v76, v422] : Fin 2 → IVec S16 32) a x).toNat < S128x65.size a := fun v76 v422 k1_hw115 => k1_hw115

def k1_chk116 (v76 : IVec S16 32) (v429 : IVec S16 32) : Prop :=
  (∀ a x, ((![v76, v429] : Fin 2 → IVec S16 32) a x).toNat < S128x65.size a)
theorem k1_idx116_inb : ∀ (v76 : IVec S16 32) (v429 : IVec S16 32) (k1_hw116 : k1_chk116 v76 v429), ∀ a x, ((![v76, v429] : Fin 2 → IVec S16 32) a x).toNat < S128x65.size a := fun v76 v429 k1_hw116 => k1_hw116

def k1_chk117 (v76 : IVec S16 32) (v436 : IVec S16 32) : Prop :=
  (∀ a x, ((![v76, v436] : Fin 2 → IVec S16 32) a x).toNat < S128x65.size a)
theorem k1_idx117_inb : ∀ (v76 : IVec S16 32) (v436 : IVec S16 32) (k1_hw117 : k1_chk117 v76 v436), ∀ a x, ((![v76, v436] : Fin 2 → IVec S16 32) a x).toNat < S128x65.size a := fun v76 v436 k1_hw117 => k1_hw117

def k1_chk118 (v76 : IVec S16 32) (v443 : IVec S16 32) : Prop :=
  (∀ a x, ((![v76, v443] : Fin 2 → IVec S16 32) a x).toNat < S128x65.size a)
theorem k1_idx118_inb : ∀ (v76 : IVec S16 32) (v443 : IVec S16 32) (k1_hw118 : k1_chk118 v76 v443), ∀ a x, ((![v76, v443] : Fin 2 → IVec S16 32) a x).toNat < S128x65.size a := fun v76 v443 k1_hw118 => k1_hw118

def k1_chk119 (v76 : IVec S16 32) (v450 : IVec S16 32) : Prop :=
  (∀ a x, ((![v76, v450] : Fin 2 → IVec S16 32) a x).toNat < S128x65.size a)
theorem k1_idx119_inb : ∀ (v76 : IVec S16 32) (v450 : IVec S16 32) (k1_hw119 : k1_chk119 v76 v450), ∀ a x, ((![v76, v450] : Fin 2 → IVec S16 32) a x).toNat < S128x65.size a := fun v76 v450 k1_hw119 => k1_hw119

def k1_chk120 (v76 : IVec S16 32) (v457 : IVec S16 32) : Prop :=
  (∀ a x, ((![v76, v457] : Fin 2 → IVec S16 32) a x).toNat < S128x65.size a)
theorem k1_idx120_inb : ∀ (v76 : IVec S16 32) (v457 : IVec S16 32) (k1_hw120 : k1_chk120 v76 v457), ∀ a x, ((![v76, v457] : Fin 2 → IVec S16 32) a x).toNat < S128x65.size a := fun v76 v457 k1_hw120 => k1_hw120

def k1_chk121 (v76 : IVec S16 32) (v464 : IVec S16 32) : Prop :=
  (∀ a x, ((![v76, v464] : Fin 2 → IVec S16 32) a x).toNat < S128x65.size a)
theorem k1_idx121_inb : ∀ (v76 : IVec S16 32) (v464 : IVec S16 32) (k1_hw121 : k1_chk121 v76 v464), ∀ a x, ((![v76, v464] : Fin 2 → IVec S16 32) a x).toNat < S128x65.size a := fun v76 v464 k1_hw121 => k1_hw121

def k1_chk122 (v76 : IVec S16 32) (v471 : IVec S16 32) : Prop :=
  (∀ a x, ((![v76, v471] : Fin 2 → IVec S16 32) a x).toNat < S128x65.size a)
theorem k1_idx122_inb : ∀ (v76 : IVec S16 32) (v471 : IVec S16 32) (k1_hw122 : k1_chk122 v76 v471), ∀ a x, ((![v76, v471] : Fin 2 → IVec S16 32) a x).toNat < S128x65.size a := fun v76 v471 k1_hw122 => k1_hw122

def k1_chk123 (v76 : IVec S16 32) (v478 : IVec S16 32) : Prop :=
  (∀ a x, ((![v76, v478] : Fin 2 → IVec S16 32) a x).toNat < S128x65.size a)
theorem k1_idx123_inb : ∀ (v76 : IVec S16 32) (v478 : IVec S16 32) (k1_hw123 : k1_chk123 v76 v478), ∀ a x, ((![v76, v478] : Fin 2 → IVec S16 32) a x).toNat < S128x65.size a := fun v76 v478 k1_hw123 => k1_hw123

def k1_chk124 (v76 : IVec S16 32) (v485 : IVec S16 32) : Prop :=
  (∀ a x, ((![v76, v485] : Fin 2 → IVec S16 32) a x).toNat < S128x65.size a)
theorem k1_idx124_inb : ∀ (v76 : IVec S16 32) (v485 : IVec S16 32) (k1_hw124 : k1_chk124 v76 v485), ∀ a x, ((![v76, v485] : Fin 2 → IVec S16 32) a x).toNat < S128x65.size a := fun v76 v485 k1_hw124 => k1_hw124

def k1_chk125 (v76 : IVec S16 32) (v492 : IVec S16 32) : Prop :=
  (∀ a x, ((![v76, v492] : Fin 2 → IVec S16 32) a x).toNat < S128x65.size a)
theorem k1_idx125_inb : ∀ (v76 : IVec S16 32) (v492 : IVec S16 32) (k1_hw125 : k1_chk125 v76 v492), ∀ a x, ((![v76, v492] : Fin 2 → IVec S16 32) a x).toNat < S128x65.size a := fun v76 v492 k1_hw125 => k1_hw125

def k1_chk126 (v76 : IVec S16 32) (v499 : IVec S16 32) : Prop :=
  (∀ a x, ((![v76, v499] : Fin 2 → IVec S16 32) a x).toNat < S128x65.size a)
theorem k1_idx126_inb : ∀ (v76 : IVec S16 32) (v499 : IVec S16 32) (k1_hw126 : k1_chk126 v76 v499), ∀ a x, ((![v76, v499] : Fin 2 → IVec S16 32) a x).toNat < S128x65.size a := fun v76 v499 k1_hw126 => k1_hw126

def k1_chk127 (v76 : IVec S16 32) (v506 : IVec S16 32) : Prop :=
  (∀ a x, ((![v76, v506] : Fin 2 → IVec S16 32) a x).toNat < S128x65.size a)
theorem k1_idx127_inb : ∀ (v76 : IVec S16 32) (v506 : IVec S16 32) (k1_hw127 : k1_chk127 v76 v506), ∀ a x, ((![v76, v506] : Fin 2 → IVec S16 32) a x).toNat < S128x65.size a := fun v76 v506 k1_hw127 => k1_hw127

def k1_chk128 (v76 : IVec S16 32) (v513 : IVec S16 32) : Prop :=
  (∀ a x, ((![v76, v513] : Fin 2 → IVec S16 32) a x).toNat < S128x65.size a)
theorem k1_idx128_inb : ∀ (v76 : IVec S16 32) (v513 : IVec S16 32) (k1_hw128 : k1_chk128 v76 v513), ∀ a x, ((![v76, v513] : Fin 2 → IVec S16 32) a x).toNat < S128x65.size a := fun v76 v513 k1_hw128 => k1_hw128

def k1_chk129 (v76 : IVec S16 32) (v520 : IVec S16 32) : Prop :=
  (∀ a x, ((![v76, v520] : Fin 2 → IVec S16 32) a x).toNat < S128x65.size a)
theorem k1_idx129_inb : ∀ (v76 : IVec S16 32) (v520 : IVec S16 32) (k1_hw129 : k1_chk129 v76 v520), ∀ a x, ((![v76, v520] : Fin 2 → IVec S16 32) a x).toNat < S128x65.size a := fun v76 v520 k1_hw129 => k1_hw129

def k1_chk130 (v76 : IVec S16 32) (v527 : IVec S16 32) : Prop :=
  (∀ a x, ((![v76, v527] : Fin 2 → IVec S16 32) a x).toNat < S128x65.size a)
theorem k1_idx130_inb : ∀ (v76 : IVec S16 32) (v527 : IVec S16 32) (k1_hw130 : k1_chk130 v76 v527), ∀ a x, ((![v76, v527] : Fin 2 → IVec S16 32) a x).toNat < S128x65.size a := fun v76 v527 k1_hw130 => k1_hw130
def k1_off9 (k1_t1 : Fin k1_t1_loop.trips) (k1_t3 : Fin k1_t3_loop.trips) : Fin 1 → Nat :=
  let c0_i32_19 : BitVec 32 := 0#32
  let c0_i32_14 : BitVec 32 := 0#32
  let c1_i32_16 : BitVec 32 := 1#32
  let arg11 : BitVec 32 := Scf.iv c0_i32_14 c1_i32_16 k1_t1
  let c2_i32_18 : BitVec 32 := 2#32
  let v39 : BitVec 32 := Scalar.muli arg11 c2_i32_18
  let v40 : BitVec 32 := Scalar.addi c0_i32_19 v39
  let c1_i32_30 : BitVec 32 := 1#32
  let v54 : BitVec 32 := Scalar.addi v40 c1_i32_30
  let c128_i32_44 : BitVec 32 := 128#32
  let v69 : BitVec 32 := Scalar.muli v54 c128_i32_44
  let c0_i32_43 : BitVec 32 := 0#32
  let c0_i32_38 : BitVec 32 := 0#32
  let c1_i32_40 : BitVec 32 := 1#32
  let arg12 : BitVec 32 := Scf.iv c0_i32_38 c1_i32_40 k1_t3
  let c1_i32_42 : BitVec 32 := 1#32
  let v67 : BitVec 32 := Scalar.muli arg12 c1_i32_42
  let v68 : BitVec 32 := Scalar.addi c0_i32_43 v67
  let c16_i32_45 : BitVec 32 := 16#32
  let v70 : BitVec 32 := Scalar.muli v68 c16_i32_45
  let v71 : BitVec 32 := Scalar.addi v69 v70
  let v534 : Index := Scalar.indexCast v71
  ![v534.toNat]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x16384x65 : Shape := ⟨3, ![32, 16384, 65]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x16384x1 : Shape := ⟨3, ![32, 16384, 1]⟩
abbrev S32x16384 : Shape := ⟨2, ![32, 16384]⟩

abbrev nBuf : Space → Nat
  | .hbm => 288
  | .vmem => 0
  | .smem => 0
  | _ => 0

abbrev hbmTy0_0 (i : Nat) : BufTy := match i % 128 with
  | 0 => ⟨S32x16384x65, .f32⟩
  | 1 => ⟨S_, .f32⟩
  | 2 => ⟨S_, .f32⟩
  | 3 => ⟨S32x16384x65, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1x1, .f32⟩
  | 19 => ⟨S1x1x1, .f32⟩
  | 20 => ⟨S1, .i32⟩
  | 21 => ⟨S_, .i32⟩
  | 22 => ⟨S1, .i32⟩
  | 23 => ⟨S_, .i32⟩
  | 24 => ⟨S32x16384x1, .i64⟩
  | 25 => ⟨S32x16384x1, .i64⟩
  | 26 => ⟨S32x16384x1, .i64⟩
  | 27 => ⟨S_, .i64⟩
  | 28 => ⟨S32x16384x1, .i64⟩
  | 29 => ⟨S32x16384x1, .i64⟩
  | 30 => ⟨S_, .i64⟩
  | 31 => ⟨S32x16384x1, .i64⟩
  | 32 => ⟨S32x16384x1, .i64⟩
  | 33 => ⟨S_, .i64⟩
  | 34 => ⟨S32x16384x1, .i64⟩
  | 35 => ⟨S32x16384x1, .i64⟩
  | 36 => ⟨S32x16384x1, .i64⟩
  | 37 => ⟨S32x16384x1, .i64⟩
  | 38 => ⟨S_, .i64⟩
  | 39 => ⟨S32x16384x1, .i64⟩
  | 40 => ⟨S32x16384x1, .i64⟩
  | 41 => ⟨S32x16384x1, .i32⟩
  | 42 => ⟨S32x16384x1, .i32⟩
  | 43 => ⟨S_, .i32⟩
  | 44 => ⟨S_, .i32⟩
  | 45 => ⟨S_, .i32⟩
  | 46 => ⟨S32x16384x1, .i32⟩
  | 47 => ⟨S32x16384x1, .i32⟩
  | 48 => ⟨S32x16384x1, .i32⟩
  | 49 => ⟨S32x16384x1, .i32⟩
  | 50 => ⟨S32x16384x1, .i32⟩
  | 51 => ⟨S_, .i32⟩
  | 52 => ⟨S32x16384x1, .i32⟩
  | 53 => ⟨S32x16384x1, .i32⟩
  | 54 => ⟨S_, .i32⟩
  | 55 => ⟨S32x16384x1, .i32⟩
  | 56 => ⟨S32x16384x1, .i32⟩
  | 57 => ⟨S32x16384x1, .i32⟩
  | 58 => ⟨S32x16384x1, .i32⟩
  | 59 => ⟨S32x16384x1, .i32⟩
  | 60 => ⟨S_, .i32⟩
  | 61 => ⟨S32x16384x1, .i32⟩
  | 62 => ⟨S32x16384x1, .i32⟩
  | 63 => ⟨S_, .i32⟩
  | 64 => ⟨S32x16384x1, .i32⟩
  | 65 => ⟨S32x16384x1, .i32⟩
  | 66 => ⟨S32x16384x1, .i32⟩
  | 67 => ⟨S32x16384x1, .i32⟩
  | 68 => ⟨S32x16384x1, .i32⟩
  | 69 => ⟨S_, .i32⟩
  | 70 => ⟨S32x16384x1, .i32⟩
  | 71 => ⟨S32x16384x1, .i32⟩
  | 72 => ⟨S_, .i32⟩
  | 73 => ⟨S32x16384x1, .i32⟩
  | 74 => ⟨S32x16384x1, .i32⟩
  | 75 => ⟨S32x16384x1, .i32⟩
  | 76 => ⟨S32x16384x1, .i32⟩
  | 77 => ⟨S32x16384x1, .i32⟩
  | 78 => ⟨S_, .i32⟩
  | 79 => ⟨S32x16384x1, .i32⟩
  | 80 => ⟨S32x16384x1, .i32⟩
  | 81 => ⟨S_, .i32⟩
  | 82 => ⟨S32x16384x1, .i32⟩
  | 83 => ⟨S32x16384x1, .i32⟩
  | 84 => ⟨S32x16384x1, .i32⟩
  | 85 => ⟨S32x16384x1, .i32⟩
  | 86 => ⟨S32x16384x1, .i32⟩
  | 87 => ⟨S32x16384x1, .i32⟩
  | 88 => ⟨S32x16384x1, .i32⟩
  | 89 => ⟨S32x16384x1, .i32⟩
  | 90 => ⟨S_, .i32⟩
  | 91 => ⟨S32x16384x1, .i32⟩
  | 92 => ⟨S32x16384x1, .i32⟩
  | 93 => ⟨S32x16384x1, .i32⟩
  | 94 => ⟨S_, .i32⟩
  | 95 => ⟨S32x16384x1, .i32⟩
  | 96 => ⟨S32x16384x1, .i32⟩
  | 97 => ⟨S_, .i32⟩
  | 98 => ⟨S32x16384x1, .i32⟩
  | 99 => ⟨S32x16384x1, .i32⟩
  | 100 => ⟨S32x16384x1, .i32⟩
  | 101 => ⟨S32x16384x1, .i32⟩
  | 102 => ⟨S32x16384x1, .i32⟩
  | 103 => ⟨S_, .i32⟩
  | 104 => ⟨S32x16384x1, .i32⟩
  | 105 => ⟨S32x16384x1, .i32⟩
  | 106 => ⟨S_, .i32⟩
  | 107 => ⟨S32x16384x1, .i32⟩
  | 108 => ⟨S32x16384x1, .i32⟩
  | 109 => ⟨S32x16384x1, .i32⟩
  | 110 => ⟨S32x16384x1, .i32⟩
  | 111 => ⟨S32x16384x1, .i32⟩
  | 112 => ⟨S_, .i32⟩
  | 113 => ⟨S32x16384x1, .i32⟩
  | 114 => ⟨S32x16384x1, .i32⟩
  | 115 => ⟨S_, .i32⟩
  | 116 => ⟨S32x16384x1, .i32⟩
  | 117 => ⟨S32x16384x1, .i32⟩
  | 118 => ⟨S32x16384x1, .i32⟩
  | 119 => ⟨S32x16384x1, .i32⟩
  | 120 => ⟨S32x16384x1, .i32⟩
  | 121 => ⟨S_, .i32⟩
  | 122 => ⟨S32x16384x1, .i32⟩
  | 123 => ⟨S32x16384x1, .i32⟩
  | 124 => ⟨S_, .i32⟩
  | 125 => ⟨S32x16384x1, .i32⟩
  | 126 => ⟨S32x16384x1, .i32⟩
  | 127 => ⟨S32x16384x1, .i32⟩
  | _ => ⟨S32x16384x65, .f32⟩

abbrev hbmTy0_1 (i : Nat) : BufTy := match i % 128 with
  | 0 => ⟨S32x16384x1, .i32⟩
  | 1 => ⟨S32x16384x1, .i32⟩
  | 2 => ⟨S32x16384x1, .i32⟩
  | 3 => ⟨S32x16384x1, .i32⟩
  | 4 => ⟨S32x16384x1, .i32⟩
  | 5 => ⟨S_, .i32⟩
  | 6 => ⟨S32x16384x1, .i32⟩
  | 7 => ⟨S32x16384x1, .i32⟩
  | 8 => ⟨S32x16384x1, .i32⟩
  | 9 => ⟨S_, .i32⟩
  | 10 => ⟨S32x16384x1, .i32⟩
  | 11 => ⟨S32x16384x1, .i32⟩
  | 12 => ⟨S_, .i32⟩
  | 13 => ⟨S32x16384x1, .i32⟩
  | 14 => ⟨S32x16384x1, .i32⟩
  | 15 => ⟨S32x16384x1, .i32⟩
  | 16 => ⟨S32x16384x1, .i32⟩
  | 17 => ⟨S32x16384x1, .i32⟩
  | 18 => ⟨S_, .i32⟩
  | 19 => ⟨S32x16384x1, .i32⟩
  | 20 => ⟨S32x16384x1, .i32⟩
  | 21 => ⟨S_, .i32⟩
  | 22 => ⟨S32x16384x1, .i32⟩
  | 23 => ⟨S32x16384x1, .i32⟩
  | 24 => ⟨S32x16384x1, .i32⟩
  | 25 => ⟨S32x16384x1, .i32⟩
  | 26 => ⟨S32x16384x1, .i32⟩
  | 27 => ⟨S_, .i32⟩
  | 28 => ⟨S32x16384x1, .i32⟩
  | 29 => ⟨S32x16384x1, .i32⟩
  | 30 => ⟨S_, .i32⟩
  | 31 => ⟨S32x16384x1, .i32⟩
  | 32 => ⟨S32x16384x1, .i32⟩
  | 33 => ⟨S32x16384x1, .i32⟩
  | 34 => ⟨S32x16384x1, .i32⟩
  | 35 => ⟨S32x16384x1, .i32⟩
  | 36 => ⟨S_, .i32⟩
  | 37 => ⟨S32x16384x1, .i32⟩
  | 38 => ⟨S32x16384x1, .i32⟩
  | 39 => ⟨S_, .i32⟩
  | 40 => ⟨S32x16384x1, .i32⟩
  | 41 => ⟨S32x16384x1, .i32⟩
  | 42 => ⟨S32x16384x1, .i32⟩
  | 43 => ⟨S32x16384x1, .i32⟩
  | 44 => ⟨S32x16384x1, .i32⟩
  | 45 => ⟨S32x16384x1, .i32⟩
  | 46 => ⟨S32x16384x1, .i32⟩
  | 47 => ⟨S32x16384x1, .i32⟩
  | 48 => ⟨S_, .i32⟩
  | 49 => ⟨S32x16384x1, .i32⟩
  | 50 => ⟨S32x16384x1, .i32⟩
  | 51 => ⟨S32x16384x1, .i32⟩
  | 52 => ⟨S_, .i32⟩
  | 53 => ⟨S32x16384x1, .i32⟩
  | 54 => ⟨S32x16384x1, .i32⟩
  | 55 => ⟨S_, .i32⟩
  | 56 => ⟨S32x16384x1, .i32⟩
  | 57 => ⟨S32x16384x1, .i32⟩
  | 58 => ⟨S32x16384x1, .i32⟩
  | 59 => ⟨S32x16384x1, .i32⟩
  | 60 => ⟨S32x16384x1, .i32⟩
  | 61 => ⟨S_, .i32⟩
  | 62 => ⟨S32x16384x1, .i32⟩
  | 63 => ⟨S32x16384x1, .i32⟩
  | 64 => ⟨S_, .i32⟩
  | 65 => ⟨S32x16384x1, .i32⟩
  | 66 => ⟨S32x16384x1, .i32⟩
  | 67 => ⟨S32x16384x1, .i32⟩
  | 68 => ⟨S32x16384x1, .i32⟩
  | 69 => ⟨S32x16384x1, .i32⟩
  | 70 => ⟨S_, .i32⟩
  | 71 => ⟨S32x16384x1, .i32⟩
  | 72 => ⟨S32x16384x1, .i32⟩
  | 73 => ⟨S_, .i32⟩
  | 74 => ⟨S32x16384x1, .i32⟩
  | 75 => ⟨S32x16384x1, .i32⟩
  | 76 => ⟨S32x16384x1, .i32⟩
  | 77 => ⟨S32x16384x1, .i32⟩
  | 78 => ⟨S32x16384x1, .i32⟩
  | 79 => ⟨S_, .i32⟩
  | 80 => ⟨S32x16384x1, .i32⟩
  | 81 => ⟨S32x16384x1, .i32⟩
  | 82 => ⟨S_, .i32⟩
  | 83 => ⟨S32x16384x1, .i32⟩
  | 84 => ⟨S32x16384x1, .i32⟩
  | 85 => ⟨S32x16384x1, .i32⟩
  | 86 => ⟨S32x16384x1, .i32⟩
  | 87 => ⟨S32x16384x1, .i32⟩
  | 88 => ⟨S32x16384x1, .i32⟩
  | 89 => ⟨S32x16384x1, .i32⟩
  | 90 => ⟨S32x16384x1, .i32⟩
  | 91 => ⟨S_, .i32⟩
  | 92 => ⟨S32x16384x1, .i32⟩
  | 93 => ⟨S32x16384x1, .i32⟩
  | 94 => ⟨S32x16384x1, .i32⟩
  | 95 => ⟨S_, .i32⟩
  | 96 => ⟨S32x16384x1, .i32⟩
  | 97 => ⟨S32x16384x1, .i32⟩
  | 98 => ⟨S_, .i32⟩
  | 99 => ⟨S32x16384x1, .i32⟩
  | 100 => ⟨S32x16384x1, .i32⟩
  | 101 => ⟨S32x16384x1, .i32⟩
  | 102 => ⟨S32x16384x1, .i32⟩
  | 103 => ⟨S32x16384x1, .i32⟩
  | 104 => ⟨S_, .i32⟩
  | 105 => ⟨S32x16384x1, .i32⟩
  | 106 => ⟨S32x16384x1, .i32⟩
  | 107 => ⟨S_, .i32⟩
  | 108 => ⟨S32x16384x1, .i32⟩
  | 109 => ⟨S32x16384x1, .i32⟩
  | 110 => ⟨S32x16384x1, .i32⟩
  | 111 => ⟨S32x16384x1, .i32⟩
  | 112 => ⟨S32x16384x1, .i32⟩
  | 113 => ⟨S_, .i32⟩
  | 114 => ⟨S32x16384x1, .i32⟩
  | 115 => ⟨S32x16384x1, .i32⟩
  | 116 => ⟨S_, .i32⟩
  | 117 => ⟨S32x16384x1, .i32⟩
  | 118 => ⟨S32x16384x1, .i32⟩
  | 119 => ⟨S32x16384x1, .i32⟩
  | 120 => ⟨S32x16384x1, .i32⟩
  | 121 => ⟨S32x16384x1, .i32⟩
  | 122 => ⟨S_, .i32⟩
  | 123 => ⟨S32x16384x1, .i32⟩
  | 124 => ⟨S32x16384x1, .i32⟩
  | 125 => ⟨S_, .i32⟩
  | 126 => ⟨S32x16384x1, .i32⟩
  | 127 => ⟨S32x16384x1, .i32⟩
  | _ => ⟨S32x16384x65, .f32⟩

abbrev hbmTy0_2 (i : Nat) : BufTy := match i % 128 with
  | 0 => ⟨S32x16384x1, .i32⟩
  | 1 => ⟨S32x16384x1, .i32⟩
  | 2 => ⟨S32x16384x1, .i32⟩
  | 3 => ⟨S32x16384x1, .i32⟩
  | 4 => ⟨S32x16384x1, .i32⟩
  | 5 => ⟨S32x16384x1, .i32⟩
  | 6 => ⟨S_, .i32⟩
  | 7 => ⟨S32x16384x1, .i32⟩
  | 8 => ⟨S32x16384x1, .i32⟩
  | 9 => ⟨S32x16384x1, .i32⟩
  | 10 => ⟨S_, .i32⟩
  | 11 => ⟨S32x16384x1, .i32⟩
  | 12 => ⟨S32x16384x1, .i32⟩
  | 13 => ⟨S_, .i32⟩
  | 14 => ⟨S32x16384x1, .i32⟩
  | 15 => ⟨S32x16384x1, .i32⟩
  | 16 => ⟨S32x16384x1, .f32⟩
  | 17 => ⟨S_, .f32⟩
  | 18 => ⟨S32x16384x1, .f32⟩
  | 19 => ⟨S32x16384x1, .f32⟩
  | 20 => ⟨S1x1x1, .f32⟩
  | 21 => ⟨S32x16384x1, .f32⟩
  | 22 => ⟨S32x16384x1, .f32⟩
  | 23 => ⟨S32x16384x1, .f32⟩
  | 24 => ⟨S32x16384x1, .f32⟩
  | 25 => ⟨S32x16384x1, .f32⟩
  | 26 => ⟨S32x16384x1, .f32⟩
  | 27 => ⟨S32x16384x65, .f32⟩
  | 28 => ⟨S32x16384x65, .i1⟩
  | 29 => ⟨S32x16384x65, .i32⟩
  | 30 => ⟨S_, .i32⟩
  | 31 => ⟨S32x16384, .i32⟩
  | _ => ⟨S32x16384x65, .f32⟩

abbrev hbmTy (i : Nat) : BufTy := match i / 128 with
  | 0 => hbmTy0_0 i
  | 1 => hbmTy0_1 i
  | 2 => hbmTy0_2 i
  | _ => ⟨S32x16384x65, .f32⟩

abbrev bufTy : (tb : Table) → Fin (tcTables nBuf tb) → BufTy
  | .hbm, ⟨i, _⟩ => hbmTy i
  | _, _ => ⟨S32x16384x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_c : Ref sig .tc := ⟨.hbm, 27, rfl⟩
abbrev main_call1_v11 : Ref sig .tc := ⟨.hbm, 28, rfl⟩
abbrev main_call1_v12 : Ref sig .tc := ⟨.hbm, 29, rfl⟩
abbrev main_call1_c_0 : Ref sig .tc := ⟨.hbm, 30, rfl⟩
abbrev main_call1_v13 : Ref sig .tc := ⟨.hbm, 31, rfl⟩
abbrev main_call1_v14 : Ref sig .tc := ⟨.hbm, 32, rfl⟩
abbrev main_call1_c_1 : Ref sig .tc := ⟨.hbm, 33, rfl⟩
abbrev main_call1_v15 : Ref sig .tc := ⟨.hbm, 34, rfl⟩
abbrev main_call1_v16 : Ref sig .tc := ⟨.hbm, 35, rfl⟩
abbrev main_call1_v17 : Ref sig .tc := ⟨.hbm, 36, rfl⟩
abbrev main_call1_v18 : Ref sig .tc := ⟨.hbm, 37, rfl⟩
abbrev main_call1_c_2 : Ref sig .tc := ⟨.hbm, 38, rfl⟩
abbrev main_call1_v19 : Ref sig .tc := ⟨.hbm, 39, rfl⟩
abbrev main_call1_v20 : Ref sig .tc := ⟨.hbm, 40, rfl⟩
abbrev main_call1_v21 : Ref sig .tc := ⟨.hbm, 41, rfl⟩
abbrev main_call1_v22 : Ref sig .tc := ⟨.hbm, 42, rfl⟩
abbrev main_call1_call0_v0 : Ref sig .tc := ⟨.hbm, 43, rfl⟩
abbrev main_call1_call0_c : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_c_0 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_c_1 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_call0_v12 : Ref sig .tc := ⟨.hbm, 58, rfl⟩
abbrev main_call1_call0_v13 : Ref sig .tc := ⟨.hbm, 59, rfl⟩
abbrev main_call1_call0_c_2 : Ref sig .tc := ⟨.hbm, 60, rfl⟩
abbrev main_call1_call0_v14 : Ref sig .tc := ⟨.hbm, 61, rfl⟩
abbrev main_call1_call0_v15 : Ref sig .tc := ⟨.hbm, 62, rfl⟩
abbrev main_call1_call0_c_3 : Ref sig .tc := ⟨.hbm, 63, rfl⟩
abbrev main_call1_call0_v16 : Ref sig .tc := ⟨.hbm, 64, rfl⟩
abbrev main_call1_call0_v17 : Ref sig .tc := ⟨.hbm, 65, rfl⟩
abbrev main_call1_call0_v18 : Ref sig .tc := ⟨.hbm, 66, rfl⟩
abbrev main_call1_call0_v19 : Ref sig .tc := ⟨.hbm, 67, rfl⟩
abbrev main_call1_call0_v20 : Ref sig .tc := ⟨.hbm, 68, rfl⟩
abbrev main_call1_call0_c_4 : Ref sig .tc := ⟨.hbm, 69, rfl⟩
abbrev main_call1_call0_v21 : Ref sig .tc := ⟨.hbm, 70, rfl⟩
abbrev main_call1_call0_v22 : Ref sig .tc := ⟨.hbm, 71, rfl⟩
abbrev main_call1_call0_c_5 : Ref sig .tc := ⟨.hbm, 72, rfl⟩
abbrev main_call1_call0_v23 : Ref sig .tc := ⟨.hbm, 73, rfl⟩
abbrev main_call1_call0_v24 : Ref sig .tc := ⟨.hbm, 74, rfl⟩
abbrev main_call1_call0_v25 : Ref sig .tc := ⟨.hbm, 75, rfl⟩
abbrev main_call1_call0_v26 : Ref sig .tc := ⟨.hbm, 76, rfl⟩
abbrev main_call1_call0_v27 : Ref sig .tc := ⟨.hbm, 77, rfl⟩
abbrev main_call1_call0_c_6 : Ref sig .tc := ⟨.hbm, 78, rfl⟩
abbrev main_call1_call0_v28 : Ref sig .tc := ⟨.hbm, 79, rfl⟩
abbrev main_call1_call0_v29 : Ref sig .tc := ⟨.hbm, 80, rfl⟩
abbrev main_call1_call0_c_7 : Ref sig .tc := ⟨.hbm, 81, rfl⟩
abbrev main_call1_call0_v30 : Ref sig .tc := ⟨.hbm, 82, rfl⟩
abbrev main_call1_call0_v31 : Ref sig .tc := ⟨.hbm, 83, rfl⟩
abbrev main_call1_call0_v32 : Ref sig .tc := ⟨.hbm, 84, rfl⟩
abbrev main_call1_call0_v33 : Ref sig .tc := ⟨.hbm, 85, rfl⟩
abbrev main_call1_call0_v34 : Ref sig .tc := ⟨.hbm, 86, rfl⟩
abbrev main_call1_call0_v35 : Ref sig .tc := ⟨.hbm, 87, rfl⟩
abbrev main_call1_call0_v36 : Ref sig .tc := ⟨.hbm, 88, rfl⟩
abbrev main_call1_call0_v37 : Ref sig .tc := ⟨.hbm, 89, rfl⟩
abbrev main_call1_call0_c_8 : Ref sig .tc := ⟨.hbm, 90, rfl⟩
abbrev main_call1_call0_v38 : Ref sig .tc := ⟨.hbm, 91, rfl⟩
abbrev main_call1_call0_v39 : Ref sig .tc := ⟨.hbm, 92, rfl⟩
abbrev main_call1_call0_v40 : Ref sig .tc := ⟨.hbm, 93, rfl⟩
abbrev main_call1_call0_c_9 : Ref sig .tc := ⟨.hbm, 94, rfl⟩
abbrev main_call1_call0_v41 : Ref sig .tc := ⟨.hbm, 95, rfl⟩
abbrev main_call1_call0_v42 : Ref sig .tc := ⟨.hbm, 96, rfl⟩
abbrev main_call1_call0_c_10 : Ref sig .tc := ⟨.hbm, 97, rfl⟩
abbrev main_call1_call0_v43 : Ref sig .tc := ⟨.hbm, 98, rfl⟩
abbrev main_call1_call0_v44 : Ref sig .tc := ⟨.hbm, 99, rfl⟩
abbrev main_call1_call0_v45 : Ref sig .tc := ⟨.hbm, 100, rfl⟩
abbrev main_call1_call0_v46 : Ref sig .tc := ⟨.hbm, 101, rfl⟩
abbrev main_call1_call0_v47 : Ref sig .tc := ⟨.hbm, 102, rfl⟩
abbrev main_call1_call0_c_11 : Ref sig .tc := ⟨.hbm, 103, rfl⟩
abbrev main_call1_call0_v48 : Ref sig .tc := ⟨.hbm, 104, rfl⟩
abbrev main_call1_call0_v49 : Ref sig .tc := ⟨.hbm, 105, rfl⟩
abbrev main_call1_call0_c_12 : Ref sig .tc := ⟨.hbm, 106, rfl⟩
abbrev main_call1_call0_v50 : Ref sig .tc := ⟨.hbm, 107, rfl⟩
abbrev main_call1_call0_v51 : Ref sig .tc := ⟨.hbm, 108, rfl⟩
abbrev main_call1_call0_v52 : Ref sig .tc := ⟨.hbm, 109, rfl⟩
abbrev main_call1_call0_v53 : Ref sig .tc := ⟨.hbm, 110, rfl⟩
abbrev main_call1_call0_v54 : Ref sig .tc := ⟨.hbm, 111, rfl⟩
abbrev main_call1_call0_c_13 : Ref sig .tc := ⟨.hbm, 112, rfl⟩
abbrev main_call1_call0_v55 : Ref sig .tc := ⟨.hbm, 113, rfl⟩
abbrev main_call1_call0_v56 : Ref sig .tc := ⟨.hbm, 114, rfl⟩
abbrev main_call1_call0_c_14 : Ref sig .tc := ⟨.hbm, 115, rfl⟩
abbrev main_call1_call0_v57 : Ref sig .tc := ⟨.hbm, 116, rfl⟩
abbrev main_call1_call0_v58 : Ref sig .tc := ⟨.hbm, 117, rfl⟩
abbrev main_call1_call0_v59 : Ref sig .tc := ⟨.hbm, 118, rfl⟩
abbrev main_call1_call0_v60 : Ref sig .tc := ⟨.hbm, 119, rfl⟩
abbrev main_call1_call0_v61 : Ref sig .tc := ⟨.hbm, 120, rfl⟩
abbrev main_call1_call0_c_15 : Ref sig .tc := ⟨.hbm, 121, rfl⟩
abbrev main_call1_call0_v62 : Ref sig .tc := ⟨.hbm, 122, rfl⟩
abbrev main_call1_call0_v63 : Ref sig .tc := ⟨.hbm, 123, rfl⟩
abbrev main_call1_call0_c_16 : Ref sig .tc := ⟨.hbm, 124, rfl⟩
abbrev main_call1_call0_v64 : Ref sig .tc := ⟨.hbm, 125, rfl⟩
abbrev main_call1_call0_v65 : Ref sig .tc := ⟨.hbm, 126, rfl⟩
abbrev main_call1_call0_v66 : Ref sig .tc := ⟨.hbm, 127, rfl⟩
abbrev main_call1_call0_v67 : Ref sig .tc := ⟨.hbm, 128, rfl⟩
abbrev main_call1_call0_v68 : Ref sig .tc := ⟨.hbm, 129, rfl⟩
abbrev main_call1_call0_v69 : Ref sig .tc := ⟨.hbm, 130, rfl⟩
abbrev main_call1_call0_v70 : Ref sig .tc := ⟨.hbm, 131, rfl⟩
abbrev main_call1_call0_v71 : Ref sig .tc := ⟨.hbm, 132, rfl⟩
abbrev main_call1_call0_c_17 : Ref sig .tc := ⟨.hbm, 133, rfl⟩
abbrev main_call1_call0_v72 : Ref sig .tc := ⟨.hbm, 134, rfl⟩
abbrev main_call1_call0_v73 : Ref sig .tc := ⟨.hbm, 135, rfl⟩
abbrev main_call1_call0_v74 : Ref sig .tc := ⟨.hbm, 136, rfl⟩
abbrev main_call1_call0_c_18 : Ref sig .tc := ⟨.hbm, 137, rfl⟩
abbrev main_call1_call0_v75 : Ref sig .tc := ⟨.hbm, 138, rfl⟩
abbrev main_call1_call0_v76 : Ref sig .tc := ⟨.hbm, 139, rfl⟩
abbrev main_call1_call0_c_19 : Ref sig .tc := ⟨.hbm, 140, rfl⟩
abbrev main_call1_call0_v77 : Ref sig .tc := ⟨.hbm, 141, rfl⟩
abbrev main_call1_call0_v78 : Ref sig .tc := ⟨.hbm, 142, rfl⟩
abbrev main_call1_call0_v79 : Ref sig .tc := ⟨.hbm, 143, rfl⟩
abbrev main_call1_call0_v80 : Ref sig .tc := ⟨.hbm, 144, rfl⟩
abbrev main_call1_call0_v81 : Ref sig .tc := ⟨.hbm, 145, rfl⟩
abbrev main_call1_call0_c_20 : Ref sig .tc := ⟨.hbm, 146, rfl⟩
abbrev main_call1_call0_v82 : Ref sig .tc := ⟨.hbm, 147, rfl⟩
abbrev main_call1_call0_v83 : Ref sig .tc := ⟨.hbm, 148, rfl⟩
abbrev main_call1_call0_c_21 : Ref sig .tc := ⟨.hbm, 149, rfl⟩
abbrev main_call1_call0_v84 : Ref sig .tc := ⟨.hbm, 150, rfl⟩
abbrev main_call1_call0_v85 : Ref sig .tc := ⟨.hbm, 151, rfl⟩
abbrev main_call1_call0_v86 : Ref sig .tc := ⟨.hbm, 152, rfl⟩
abbrev main_call1_call0_v87 : Ref sig .tc := ⟨.hbm, 153, rfl⟩
abbrev main_call1_call0_v88 : Ref sig .tc := ⟨.hbm, 154, rfl⟩
abbrev main_call1_call0_c_22 : Ref sig .tc := ⟨.hbm, 155, rfl⟩
abbrev main_call1_call0_v89 : Ref sig .tc := ⟨.hbm, 156, rfl⟩
abbrev main_call1_call0_v90 : Ref sig .tc := ⟨.hbm, 157, rfl⟩
abbrev main_call1_call0_c_23 : Ref sig .tc := ⟨.hbm, 158, rfl⟩
abbrev main_call1_call0_v91 : Ref sig .tc := ⟨.hbm, 159, rfl⟩
abbrev main_call1_call0_v92 : Ref sig .tc := ⟨.hbm, 160, rfl⟩
abbrev main_call1_call0_v93 : Ref sig .tc := ⟨.hbm, 161, rfl⟩
abbrev main_call1_call0_v94 : Ref sig .tc := ⟨.hbm, 162, rfl⟩
abbrev main_call1_call0_v95 : Ref sig .tc := ⟨.hbm, 163, rfl⟩
abbrev main_call1_call0_c_24 : Ref sig .tc := ⟨.hbm, 164, rfl⟩
abbrev main_call1_call0_v96 : Ref sig .tc := ⟨.hbm, 165, rfl⟩
abbrev main_call1_call0_v97 : Ref sig .tc := ⟨.hbm, 166, rfl⟩
abbrev main_call1_call0_c_25 : Ref sig .tc := ⟨.hbm, 167, rfl⟩
abbrev main_call1_call0_v98 : Ref sig .tc := ⟨.hbm, 168, rfl⟩
abbrev main_call1_call0_v99 : Ref sig .tc := ⟨.hbm, 169, rfl⟩
abbrev main_call1_call0_v100 : Ref sig .tc := ⟨.hbm, 170, rfl⟩
abbrev main_call1_call0_v101 : Ref sig .tc := ⟨.hbm, 171, rfl⟩
abbrev main_call1_call0_v102 : Ref sig .tc := ⟨.hbm, 172, rfl⟩
abbrev main_call1_call0_v103 : Ref sig .tc := ⟨.hbm, 173, rfl⟩
abbrev main_call1_call0_v104 : Ref sig .tc := ⟨.hbm, 174, rfl⟩
abbrev main_call1_call0_v105 : Ref sig .tc := ⟨.hbm, 175, rfl⟩
abbrev main_call1_call0_c_26 : Ref sig .tc := ⟨.hbm, 176, rfl⟩
abbrev main_call1_call0_v106 : Ref sig .tc := ⟨.hbm, 177, rfl⟩
abbrev main_call1_call0_v107 : Ref sig .tc := ⟨.hbm, 178, rfl⟩
abbrev main_call1_call0_v108 : Ref sig .tc := ⟨.hbm, 179, rfl⟩
abbrev main_call1_call0_c_27 : Ref sig .tc := ⟨.hbm, 180, rfl⟩
abbrev main_call1_call0_v109 : Ref sig .tc := ⟨.hbm, 181, rfl⟩
abbrev main_call1_call0_v110 : Ref sig .tc := ⟨.hbm, 182, rfl⟩
abbrev main_call1_call0_c_28 : Ref sig .tc := ⟨.hbm, 183, rfl⟩
abbrev main_call1_call0_v111 : Ref sig .tc := ⟨.hbm, 184, rfl⟩
abbrev main_call1_call0_v112 : Ref sig .tc := ⟨.hbm, 185, rfl⟩
abbrev main_call1_call0_v113 : Ref sig .tc := ⟨.hbm, 186, rfl⟩
abbrev main_call1_call0_v114 : Ref sig .tc := ⟨.hbm, 187, rfl⟩
abbrev main_call1_call0_v115 : Ref sig .tc := ⟨.hbm, 188, rfl⟩
abbrev main_call1_call0_c_29 : Ref sig .tc := ⟨.hbm, 189, rfl⟩
abbrev main_call1_call0_v116 : Ref sig .tc := ⟨.hbm, 190, rfl⟩
abbrev main_call1_call0_v117 : Ref sig .tc := ⟨.hbm, 191, rfl⟩
abbrev main_call1_call0_c_30 : Ref sig .tc := ⟨.hbm, 192, rfl⟩
abbrev main_call1_call0_v118 : Ref sig .tc := ⟨.hbm, 193, rfl⟩
abbrev main_call1_call0_v119 : Ref sig .tc := ⟨.hbm, 194, rfl⟩
abbrev main_call1_call0_v120 : Ref sig .tc := ⟨.hbm, 195, rfl⟩
abbrev main_call1_call0_v121 : Ref sig .tc := ⟨.hbm, 196, rfl⟩
abbrev main_call1_call0_v122 : Ref sig .tc := ⟨.hbm, 197, rfl⟩
abbrev main_call1_call0_c_31 : Ref sig .tc := ⟨.hbm, 198, rfl⟩
abbrev main_call1_call0_v123 : Ref sig .tc := ⟨.hbm, 199, rfl⟩
abbrev main_call1_call0_v124 : Ref sig .tc := ⟨.hbm, 200, rfl⟩
abbrev main_call1_call0_c_32 : Ref sig .tc := ⟨.hbm, 201, rfl⟩
abbrev main_call1_call0_v125 : Ref sig .tc := ⟨.hbm, 202, rfl⟩
abbrev main_call1_call0_v126 : Ref sig .tc := ⟨.hbm, 203, rfl⟩
abbrev main_call1_call0_v127 : Ref sig .tc := ⟨.hbm, 204, rfl⟩
abbrev main_call1_call0_v128 : Ref sig .tc := ⟨.hbm, 205, rfl⟩
abbrev main_call1_call0_v129 : Ref sig .tc := ⟨.hbm, 206, rfl⟩
abbrev main_call1_call0_c_33 : Ref sig .tc := ⟨.hbm, 207, rfl⟩
abbrev main_call1_call0_v130 : Ref sig .tc := ⟨.hbm, 208, rfl⟩
abbrev main_call1_call0_v131 : Ref sig .tc := ⟨.hbm, 209, rfl⟩
abbrev main_call1_call0_c_34 : Ref sig .tc := ⟨.hbm, 210, rfl⟩
abbrev main_call1_call0_v132 : Ref sig .tc := ⟨.hbm, 211, rfl⟩
abbrev main_call1_call0_v133 : Ref sig .tc := ⟨.hbm, 212, rfl⟩
abbrev main_call1_call0_v134 : Ref sig .tc := ⟨.hbm, 213, rfl⟩
abbrev main_call1_call0_v135 : Ref sig .tc := ⟨.hbm, 214, rfl⟩
abbrev main_call1_call0_v136 : Ref sig .tc := ⟨.hbm, 215, rfl⟩
abbrev main_call1_call0_v137 : Ref sig .tc := ⟨.hbm, 216, rfl⟩
abbrev main_call1_call0_v138 : Ref sig .tc := ⟨.hbm, 217, rfl⟩
abbrev main_call1_call0_v139 : Ref sig .tc := ⟨.hbm, 218, rfl⟩
abbrev main_call1_call0_c_35 : Ref sig .tc := ⟨.hbm, 219, rfl⟩
abbrev main_call1_call0_v140 : Ref sig .tc := ⟨.hbm, 220, rfl⟩
abbrev main_call1_call0_v141 : Ref sig .tc := ⟨.hbm, 221, rfl⟩
abbrev main_call1_call0_v142 : Ref sig .tc := ⟨.hbm, 222, rfl⟩
abbrev main_call1_call0_c_36 : Ref sig .tc := ⟨.hbm, 223, rfl⟩
abbrev main_call1_call0_v143 : Ref sig .tc := ⟨.hbm, 224, rfl⟩
abbrev main_call1_call0_v144 : Ref sig .tc := ⟨.hbm, 225, rfl⟩
abbrev main_call1_call0_c_37 : Ref sig .tc := ⟨.hbm, 226, rfl⟩
abbrev main_call1_call0_v145 : Ref sig .tc := ⟨.hbm, 227, rfl⟩
abbrev main_call1_call0_v146 : Ref sig .tc := ⟨.hbm, 228, rfl⟩
abbrev main_call1_call0_v147 : Ref sig .tc := ⟨.hbm, 229, rfl⟩
abbrev main_call1_call0_v148 : Ref sig .tc := ⟨.hbm, 230, rfl⟩
abbrev main_call1_call0_v149 : Ref sig .tc := ⟨.hbm, 231, rfl⟩
abbrev main_call1_call0_c_38 : Ref sig .tc := ⟨.hbm, 232, rfl⟩
abbrev main_call1_call0_v150 : Ref sig .tc := ⟨.hbm, 233, rfl⟩
abbrev main_call1_call0_v151 : Ref sig .tc := ⟨.hbm, 234, rfl⟩
abbrev main_call1_call0_c_39 : Ref sig .tc := ⟨.hbm, 235, rfl⟩
abbrev main_call1_call0_v152 : Ref sig .tc := ⟨.hbm, 236, rfl⟩
abbrev main_call1_call0_v153 : Ref sig .tc := ⟨.hbm, 237, rfl⟩
abbrev main_call1_call0_v154 : Ref sig .tc := ⟨.hbm, 238, rfl⟩
abbrev main_call1_call0_v155 : Ref sig .tc := ⟨.hbm, 239, rfl⟩
abbrev main_call1_call0_v156 : Ref sig .tc := ⟨.hbm, 240, rfl⟩
abbrev main_call1_call0_c_40 : Ref sig .tc := ⟨.hbm, 241, rfl⟩
abbrev main_call1_call0_v157 : Ref sig .tc := ⟨.hbm, 242, rfl⟩
abbrev main_call1_call0_v158 : Ref sig .tc := ⟨.hbm, 243, rfl⟩
abbrev main_call1_call0_c_41 : Ref sig .tc := ⟨.hbm, 244, rfl⟩
abbrev main_call1_call0_v159 : Ref sig .tc := ⟨.hbm, 245, rfl⟩
abbrev main_call1_call0_v160 : Ref sig .tc := ⟨.hbm, 246, rfl⟩
abbrev main_call1_call0_v161 : Ref sig .tc := ⟨.hbm, 247, rfl⟩
abbrev main_call1_call0_v162 : Ref sig .tc := ⟨.hbm, 248, rfl⟩
abbrev main_call1_call0_v163 : Ref sig .tc := ⟨.hbm, 249, rfl⟩
abbrev main_call1_call0_c_42 : Ref sig .tc := ⟨.hbm, 250, rfl⟩
abbrev main_call1_call0_v164 : Ref sig .tc := ⟨.hbm, 251, rfl⟩
abbrev main_call1_call0_v165 : Ref sig .tc := ⟨.hbm, 252, rfl⟩
abbrev main_call1_call0_c_43 : Ref sig .tc := ⟨.hbm, 253, rfl⟩
abbrev main_call1_call0_v166 : Ref sig .tc := ⟨.hbm, 254, rfl⟩
abbrev main_call1_call0_v167 : Ref sig .tc := ⟨.hbm, 255, rfl⟩
abbrev main_call1_call0_v168 : Ref sig .tc := ⟨.hbm, 256, rfl⟩
abbrev main_call1_call0_v169 : Ref sig .tc := ⟨.hbm, 257, rfl⟩
abbrev main_call1_call0_v170 : Ref sig .tc := ⟨.hbm, 258, rfl⟩
abbrev main_call1_v23_0 : Ref sig .tc := ⟨.hbm, 259, rfl⟩
abbrev main_call1_call0_v172 : Ref sig .tc := ⟨.hbm, 260, rfl⟩
abbrev main_call1_call0_v173 : Ref sig .tc := ⟨.hbm, 261, rfl⟩
abbrev main_call1_call0_c_44 : Ref sig .tc := ⟨.hbm, 262, rfl⟩
abbrev main_call1_call0_v174 : Ref sig .tc := ⟨.hbm, 263, rfl⟩
abbrev main_call1_v23_1 : Ref sig .tc := ⟨.hbm, 264, rfl⟩
abbrev main_call1_v24 : Ref sig .tc := ⟨.hbm, 265, rfl⟩
abbrev main_call1_c_3 : Ref sig .tc := ⟨.hbm, 266, rfl⟩
abbrev main_call1_v25 : Ref sig .tc := ⟨.hbm, 267, rfl⟩
abbrev main_call1_v26 : Ref sig .tc := ⟨.hbm, 268, rfl⟩
abbrev main_call1_c_4 : Ref sig .tc := ⟨.hbm, 269, rfl⟩
abbrev main_call1_v27 : Ref sig .tc := ⟨.hbm, 270, rfl⟩
abbrev main_call1_v28 : Ref sig .tc := ⟨.hbm, 271, rfl⟩
abbrev main_call1_v29 : Ref sig .tc := ⟨.hbm, 272, rfl⟩
abbrev main_call1_cst : Ref sig .tc := ⟨.hbm, 273, rfl⟩
abbrev main_call1_v30 : Ref sig .tc := ⟨.hbm, 274, rfl⟩
abbrev main_call1_v31 : Ref sig .tc := ⟨.hbm, 275, rfl⟩
abbrev main_call1_v32 : Ref sig .tc := ⟨.hbm, 276, rfl⟩
abbrev main_call1_v33 : Ref sig .tc := ⟨.hbm, 277, rfl⟩
abbrev main_call1_v34 : Ref sig .tc := ⟨.hbm, 278, rfl⟩
abbrev main_call1_v35 : Ref sig .tc := ⟨.hbm, 279, rfl⟩
abbrev main_call1_v36 : Ref sig .tc := ⟨.hbm, 280, rfl⟩
abbrev main_call1_v37 : Ref sig .tc := ⟨.hbm, 281, rfl⟩
abbrev main_v8 : Ref sig .tc := ⟨.hbm, 282, rfl⟩
abbrev main_v9 : Ref sig .tc := ⟨.hbm, 283, rfl⟩
abbrev main_v10 : Ref sig .tc := ⟨.hbm, 284, rfl⟩
abbrev main_v11 : Ref sig .tc := ⟨.hbm, 285, rfl⟩
abbrev main_c_3 : Ref sig .tc := ⟨.hbm, 286, rfl⟩
abbrev main_v12 : Ref sig .tc := ⟨.hbm, 287, rfl⟩

abbrev nD : Nat := 1
abbrev τ : Topo := Topo.v7x

variable {F : FTy → Type} [FloatOps F]
-- ==== Proof.Scan.lean ====
/- The gather-and-count loop of the SparseCore kernel, as one program. The printed tile body unrolls 65 gathers per group of sixteen
   rows into eleven definitions, twice (once per staging buffer); each is `scan` below at a starting column and a length,
   and both groups are the program `group`. -/
module

public import proofs.«01_k».proof.Defs
public import Idealize.ShloMosaic.Lib.Tactic
public import Idealize.ShloMosaic.Lib.SparseCore.Quiescent
public import proofs.«01_k».proof.Proof.Gen.KernelIdeal
public import proofs.«01_k».proof.Proof.Gen.KernelIdeal.Skeleton

@[expose] public section

noncomputable section

namespace Cert.Rows

open Cert.KernelIdeal Cert.KernelIdeal.Gen
open Idealize.ShloMosaic Idealize.SL Idealize.SL.Sem

variable {F : FTy → Type} [FloatOps F]

/-- One column's step over a vector of sixteen rows: the running sums `p.1` take the column's entries `v`, and the counts `p.2`
    go up by one in the lanes where `u` exceeds the new sum. -/
def step (u v : FVec F S16 .f32) (p : (_ : FVec F S16 .f32) ×' IVec S16 32) : (_ : FVec F S16 .f32) ×' IVec S16 32 :=
  ⟨addf p.1 v, select (cmpf .ogt u (addf p.1 v)) (addi p.2 (broadcast S16 1#32)) p.2⟩

/-- `n` gathers of the columns `j, j+1, …` of `buf` at the rows `rows`, the running sums and counts carried from `p`. -/
def scan {q : Proc τ} (buf : Memref sig q.kind .vmem S128x65 .f32) (u : FVec F S16 .f32) (rows : IVec S16 32) :
    Nat → Nat → ((_ : FVec F S16 .f32) ×' IVec S16 32) → Prog (TpuEff nD τ sig (Elt F) Λ₀ q) ((_ : FVec F S16 .f32) ×' IVec S16 32)
  | 0, _, p => pure p
  | n + 1, j, p => do
    have hw : k1_chk1 rows (broadcast S16 (BitVec.ofNat 32 j)) :=
      (← Prog.lift (TpuEff.assume (k1_chk1 rows (broadcast S16 (BitVec.ofNat 32 j))) (k1_chk1.dec rows (broadcast S16 (BitVec.ofNat 32 j))))).down
    let v : Vec F S16 .f32 ← SparseCore.vectorLoadIdx buf ![rows, broadcast S16 (BitVec.ofNat 32 j)] (k1_idx1_inb rows _ hw) (View.loads_vmem h_S128x65)
    scan buf u rows n (j + 1) (step u v p)

theorem scan_succ {q : Proc τ} (buf : Memref sig q.kind .vmem S128x65 .f32) (u : FVec F S16 .f32) (rows : IVec S16 32) (n j : Nat)
    (p : (_ : FVec F S16 .f32) ×' IVec S16 32) :
    scan buf u rows (n + 1) j p =
      (Prog.lift (TpuEff.assume (k1_chk1 rows (broadcast S16 (BitVec.ofNat 32 j))) (k1_chk1.dec rows (broadcast S16 (BitVec.ofNat 32 j)))) >>= fun h =>
        SparseCore.vectorLoadIdx buf ![rows, broadcast S16 (BitVec.ofNat 32 j)] (k1_idx1_inb rows _ h.down) (View.loads_vmem h_S128x65) >>= fun v =>
        scan buf u rows n (j + 1) (step u v p)) := rfl

/-- A scan of `n + m` columns is one of `n` and then one of `m`. -/
theorem scan_add {q : Proc τ} (buf : Memref sig q.kind .vmem S128x65 .f32) (u : FVec F S16 .f32) (rows : IVec S16 32) (n m j : Nat)
    (p : (_ : FVec F S16 .f32) ×' IVec S16 32) :
    scan buf u rows (n + m) j p = scan buf u rows n j p >>= fun r => scan buf u rows m (j + n) r := by
  induction n generalizing j p with
  | zero => rw [Nat.zero_add]; rfl
  | succ n ih =>
    rw [Nat.succ_add, scan_succ, scan_succ, bind_assoc]
    congr 1; funext h; rw [bind_assoc]; congr 1; funext v; rw [ih, show j + 1 + n = j + (n + 1) by omega]

/-- The sums and counts a group starts from. -/
def zeroPair : (_ : FVec F S16 .f32) ×' IVec S16 32 := ⟨broadcast S16 (Scalar.ofBits .f32 0x00000000#32), broadcast S16 0#32⟩

/-- One group of sixteen rows: their thresholds read out of `ub` at `r`, the 65 columns scanned, the counts stored into `ob` at `r'`. -/
def group {q : Proc τ} (buf : Memref sig q.kind .vmem S128x65 .f32) (ub : Memref sig q.kind .vmem S2048 .f32) (ob : Memref sig q.kind .vmem S2048 .i32)
    (rows : IVec S16 32) (o o' : Fin 1 → Nat) (h : ∀ a, o a + S16.size a ≤ S2048.size a) (h' : ∀ a, o' a + S16.size a ≤ S2048.size a) :
    Prog (TpuEff nD τ sig (Elt F) Λ₀ q) Unit := do
  let u : Vec F S16 .f32 ← Prog.lift (.load ub (Rect.unit (s := S2048) o S16.size h).toLoadRect (View.loadsAt_vmem h_S16))
  let p ← scan buf u rows 65 0 zeroPair
  let _ : Vec F S16 .i32 ← Prog.lift (.load ob (Rect.unit (s := S2048) o' S16.size h').toLoadRect (View.loadsAt_vmem h_S16))
  Prog.lift (.store ob (Rect.unit (s := S2048) o' S16.size h') p.2 Finset.univ (View.stores_vmem_bits_univ h_S16 rfl) (.inl rfl))
  pure ⟨⟩

/-- The same group with its scan cut where the printed body is cut. -/
def groupCut {q : Proc τ} (buf : Memref sig q.kind .vmem S128x65 .f32) (ub : Memref sig q.kind .vmem S2048 .f32) (ob : Memref sig q.kind .vmem S2048 .i32)
    (rows : IVec S16 32) (o o' : Fin 1 → Nat) (h : ∀ a, o a + S16.size a ≤ S2048.size a) (h' : ∀ a, o' a + S16.size a ≤ S2048.size a) :
    Prog (TpuEff nD τ sig (Elt F) Λ₀ q) Unit := do
  let u : Vec F S16 .f32 ← Prog.lift (.load ub (Rect.unit (s := S2048) o S16.size h).toLoadRect (View.loadsAt_vmem h_S16))
  let p ← scan buf u rows 4 0 zeroPair
  let p ← scan buf u rows 6 4 p
  let p ← scan buf u rows 6 10 p
  let p ← scan buf u rows 6 16 p
  let p ← scan buf u rows 6 22 p
  let p ← scan buf u rows 6 28 p
  let p ← scan buf u rows 6 34 p
  let p ← scan buf u rows 6 40 p
  let p ← scan buf u rows 6 46 p
  let p ← scan buf u rows 6 52 p
  let p ← scan buf u rows 6 58 p
  let p ← scan buf u rows 1 64 p
  let _ : Vec F S16 .i32 ← Prog.lift (.load ob (Rect.unit (s := S2048) o' S16.size h').toLoadRect (View.loadsAt_vmem h_S16))
  Prog.lift (.store ob (Rect.unit (s := S2048) o' S16.size h') p.2 Finset.univ (View.stores_vmem_bits_univ h_S16 rfl) (.inl rfl))
  pure ⟨⟩

seal scan in
/-- The cut scans joined again. -/
theorem groupCut_eq {q : Proc τ} (buf : Memref sig q.kind .vmem S128x65 .f32) (ub : Memref sig q.kind .vmem S2048 .f32) (ob : Memref sig q.kind .vmem S2048 .i32)
    (rows : IVec S16 32) (o o' : Fin 1 → Nat) (h : ∀ a, o a + S16.size a ≤ S2048.size a) (h' : ∀ a, o' a + S16.size a ≤ S2048.size a) :
    groupCut (F := F) buf ub ob rows o o' h h' = group buf ub ob rows o o' h h' := by
  unfold groupCut group
  have cut : ∀ (N n m j j' : Nat) (u : FVec F S16 .f32) (p : (_ : FVec F S16 .f32) ×' IVec S16 32), N = n + m → j' = j + n →
      scan buf u rows N j p = scan buf u rows n j p >>= fun r => scan buf u rows m j' r := by
    intro N n m j j' u p hN hj; subst hN; subst hj; exact scan_add buf u rows n m j p
  congr 1; funext u
  rw [cut 65 4 61 0 4 u _ rfl rfl]; simp only [bind_assoc]; congr 1; funext p
  rw [cut 61 6 55 4 10 u _ rfl rfl]; simp only [bind_assoc]; congr 1; funext p
  rw [cut 55 6 49 10 16 u _ rfl rfl]; simp only [bind_assoc]; congr 1; funext p
  rw [cut 49 6 43 16 22 u _ rfl rfl]; simp only [bind_assoc]; congr 1; funext p
  rw [cut 43 6 37 22 28 u _ rfl rfl]; simp only [bind_assoc]; congr 1; funext p
  rw [cut 37 6 31 28 34 u _ rfl rfl]; simp only [bind_assoc]; congr 1; funext p
  rw [cut 31 6 25 34 40 u _ rfl rfl]; simp only [bind_assoc]; congr 1; funext p
  rw [cut 25 6 19 40 46 u _ rfl rfl]; simp only [bind_assoc]; congr 1; funext p
  rw [cut 19 6 13 46 52 u _ rfl rfl]; simp only [bind_assoc]; congr 1; funext p
  rw [cut 13 6 7 52 58 u _ rfl rfl]; simp only [bind_assoc]; congr 1; funext p
  rw [cut 7 6 1 58 64 u _ rfl rfl]; simp only [bind_assoc]

section Bodies

variable (i : grid1.Coords) (arg2 : Memref sig .scVector .hbm S32x16384x65 .f32) (harg2 : arg2.IsWhole) (arg3 : Memref sig .scVector .hbm S32x16384 .f32) (harg3 : arg3.IsWhole) (arg4 : Memref sig .scVector .hbm S4x16384 .i32) (harg4 : arg4.IsWhole) (arg5 : Memref sig .scVector .vmem S128x65 .f32) (harg5 : arg5.IsWhole) (arg6 : Memref sig .scVector .vmem S128x65 .f32) (harg6 : arg6.IsWhole) (arg7 : Memref sig .scVector .vmem S2048 .f32) (harg7 : arg7.IsWhole) (arg8 : Memref sig .scVector .vmem S2048 .i32) (harg8 : arg8.IsWhole) (arg9 : DmaSems sig S_) (arg10 : DmaSems sig S_) (v39_r0 : DmaSems sig S_) (v39_r1 : DmaSems sig S_)

set_option maxRecDepth 65536 in
set_option maxHeartbeats 4000000 in
/-- A trip of the first staging buffer's loop is a group over it. -/
theorem t2_body_eq (v18 v29 : BitVec 32) (lanes : IVec S16 32) (c0 c1 : BitVec 32) (t1 : Fin k1_t1_loop.trips) (v41 : BitVec 32) (t2 : Fin k1_t2_loop.trips) (x : Unit) :
    k1_t2_body (F := F) i arg2 harg2 arg3 harg3 arg4 harg4 arg5 harg5 arg6 harg6 arg7 harg7 arg8 harg8 arg9 arg10 v39_r0 v39_r1 v18 v29 lanes c0 c1 t1 v41 t2 x
      = group (q := .scVector ((i 0).castLE hcore1) ((i 1).castLE hsub1)) arg5 arg7 arg8 (k1_pay1 lanes 0#32 1#32 t2) (k1_off5 t1 t2) (k1_off6 t1 t2) (k1_off5_inb t1 t2) (k1_off6_inb t1 t2) := by
  rw [← groupCut_eq]; rfl

set_option maxRecDepth 65536 in
set_option maxHeartbeats 4000000 in
/-- A trip of the second staging buffer's loop is a group over it. -/
theorem t3_body_eq (v18 v29 : BitVec 32) (lanes : IVec S16 32) (c0 c1 : BitVec 32) (t1 : Fin k1_t1_loop.trips) (v54 : BitVec 32) (t3 : Fin k1_t3_loop.trips) (x : Unit) :
    k1_t3_body (F := F) i arg2 harg2 arg3 harg3 arg4 harg4 arg5 harg5 arg6 harg6 arg7 harg7 arg8 harg8 arg9 arg10 v39_r0 v39_r1 v18 v29 lanes c0 c1 t1 v54 t3 x
      = group (q := .scVector ((i 0).castLE hcore1) ((i 1).castLE hsub1)) arg6 arg7 arg8 (k1_pay77 lanes 0#32 1#32 t3) (k1_off8 t1 t3) (k1_off9 t1 t3) (k1_off8_inb t1 t3) (k1_off9_inb t1 t3) := by
  rw [← groupCut_eq]; rfl

end Bodies

end Cert.Rows

end
-- ==== Proof.Count.lean ====
/- What a scan leaves and how a thread runs one: the running sum and count of one row (`rowScan`), the value of every lane of a
   scan in those terms, and the weakest-precondition rules of `scan` and `group` over any owned staging buffer. -/
module

public import proofs.«01_k».proof.Proof.Scan
public import Idealize.ShloMosaic.Lib.SparseCore.Ops
public import Idealize.ShloMosaic.Lib.SparseCore.Quiescent
public import Idealize.ShloMosaic.Lib.StableHlo.Run
public import Idealize.ShloMosaic.Lib.Pipeline.Kit
public import Idealize.ShloMosaic.Lib.WritesUnit

@[expose] public section

noncomputable section

namespace Cert.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- One column's step over one row. -/
def rowStep (u x : F .f32) (p : F .f32 × BitVec 32) : F .f32 × BitVec 32 :=
  (FloatOps.addf p.1 x, Scalar.select (FloatOps.cmpf .ogt u (FloatOps.addf p.1 x)) (p.2 + 1#32) p.2)

/-- The columns `j, …, j + n - 1` of a row, in order. -/
def rowScan (xs : Nat → F .f32) (u : F .f32) : Nat → Nat → F .f32 × BitVec 32 → F .f32 × BitVec 32
  | 0, _, p => p
  | n + 1, j, p => rowScan xs u n (j + 1) (rowStep u (xs j) p)

/-- How many of the 65 prefix sums of the row `xs`, summed in order, `u` exceeds. -/
def rowCount (xs : Nat → F .f32) (u : F .f32) : BitVec 32 := (rowScan xs u 65 0 (Scalar.ofBits .f32 0x00000000#32, 0#32)).2

theorem rowScan_congr {xs ys : Nat → F .f32} {u : F .f32} : ∀ (n j : Nat) (p : F .f32 × BitVec 32), (∀ k, k < j + n → xs k = ys k) →
    rowScan xs u n j p = rowScan ys u n j p
  | 0, _, _, _ => rfl
  | n + 1, j, p, h => by
    rw [rowScan, rowScan, h j (by omega)]
    exact rowScan_congr n (j + 1) _ fun k hk => h k (by omega)

theorem rowCount_congr {xs ys : Nat → F .f32} {u v : F .f32} (h : ∀ k, k < 65 → xs k = ys k) (hu : u = v) : rowCount xs u = rowCount ys v := by
  subst hu; unfold rowCount; rw [rowScan_congr 65 0 _ fun k hk => h k (by omega)]

/-- The cell of a `128 × 65` staging buffer at row `r` and column `j`, taken inside the buffer. -/
def cell (r j : Nat) : S128x65.Idx := fun a => ⟨(![r % 128, j % 65] : Fin 2 → Nat) a, by
  fin_cases a
  · exact Nat.mod_lt r (by decide)
  · exact Nat.mod_lt j (by decide)⟩

/-- A gather of one column at the rows `rows`, lane by lane. -/
theorem gather_apply (g : S128x65.Idx → F .f32) (rows : IVec S16 32) (j : Nat) (hj : j < 65) (x : S16.Idx)
    (h : ∀ a x, ((![rows, broadcast S16 (BitVec.ofNat 32 j)] : Fin 2 → IVec S16 32) a x).toNat < S128x65.size a) :
    g (idxAt (s := S128x65) ![rows, broadcast S16 (BitVec.ofNat 32 j)] h x) = g (cell (rows x).toNat j) := by
  congr 1; funext a; apply Fin.ext
  have h0 := h 0 x
  fin_cases a
  · exact (Nat.mod_eq_of_lt h0).symm
  · show (BitVec.ofNat 32 j).toNat = j % 65
    rw [BitVec.toNat_ofNat, Nat.mod_eq_of_lt hj, Nat.mod_eq_of_lt (by omega)]

/-- The pair of vectors a scan over contents `g` leaves. -/
def scanV (g : S128x65.Idx → F .f32) (u : FVec F S16 .f32) (rows : IVec S16 32) (n j : Nat) (p : (_ : FVec F S16 .f32) ×' IVec S16 32) :
    (_ : FVec F S16 .f32) ×' IVec S16 32 :=
  ⟨fun x => (rowScan (fun k => g (cell (rows x).toNat k)) (u x) n j (p.1 x, p.2 x)).1,
   fun x => (rowScan (fun k => g (cell (rows x).toNat k)) (u x) n j (p.1 x, p.2 x)).2⟩

/-- The counts a group leaves. -/
def groupV (g : S128x65.Idx → F .f32) (u : FVec F S16 .f32) (rows : IVec S16 32) : IVec S16 32 :=
  fun x => rowCount (fun k => g (cell (rows x).toNat k)) (u x)

section Rules

variable {Ix : Type} [DecidableEq Ix] {Name : Type} [DecidableEq Name] {U : Type} [URA U] {Lvl : Type} [Preorder Lvl]
variable {defs : Defs nD τ sig (Elt F) Λ₀} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

/-- Every row index below 128 and the column below 65, the gather's side condition holds. -/
theorem chk_of (rows : IVec S16 32) (hr : ∀ x, (rows x).toNat < 128) (j : Nat) (hj : j < 65) : k1_chk1 rows (broadcast S16 (BitVec.ofNat 32 j)) := by
  intro a x
  fin_cases a
  · exact hr x
  · show (BitVec.ofNat 32 j).toNat < 65
    rw [BitVec.toNat_ofNat, Nat.mod_eq_of_lt (by omega)]; exact hj

/-- A scan run over an owned staging buffer continues at the pair it computes, the buffer as it was. -/
theorem wp_scan (buf : Memref sig c.2.kind .vmem S128x65 .f32) {S : Finset (Idx ((buf.access (.whole S128x65)).loc c))} {q : PosShare TreeShare}
    {f : Buf (Elt F) ((buf.access (.whole S128x65)).loc c)} (hS : (buf.access (.whole S128x65)).set ⊆ S)
    (u : FVec F S16 .f32) (rows : IVec S16 32) (hr : ∀ x, (rows x).toNat < 128) :
    ∀ (n j : Nat) (_ : j + n ≤ 65) (p : (_ : FVec F S16 .f32) ×' IVec S16 32)
      (k : ((_ : FVec F S16 .f32) ×' IVec S16 32) → Prog (TpuEff nD τ sig (Elt F) Λ₀ c.2) α),
      ((buf.access (.whole S128x65)).loc c ↦[S]{q} f : sProp 𝕄)
        ⊢ iprop((((buf.access (.whole S128x65)).loc c ↦[S]{q} f)
            -∗ wp frame (wpE defs 𝒱 c bd) E (k (scanV ((buf.access (.whole S128x65)).read (Elt F) f) u rows n j p)) Q)
          -∗ wp frame (wpE defs 𝒱 c bd) E (scan buf u rows n j p >>= k) Q)
  | 0, j, _, p, k => by
    iintro H Hk
    iapply Hk; iexact H
  | n + 1, j, hn, p, k => by
    have hc := chk_of rows hr j (by omega)
    have hv : scanV ((buf.access (.whole S128x65)).read (Elt F) f) u rows (n + 1) j p
        = scanV ((buf.access (.whole S128x65)).read (Elt F) f) u rows n (j + 1)
            (step u (loadIdx ((buf.access (.whole S128x65)).read (Elt F) f) ![rows, broadcast S16 (BitVec.ofNat 32 j)] (k1_idx1_inb rows _ hc)) p) := by
      have hg : ∀ x, loadIdx ((buf.access (.whole S128x65)).read (Elt F) f) ![rows, broadcast S16 (BitVec.ofNat 32 j)] (k1_idx1_inb rows _ hc) x
          = (buf.access (.whole S128x65)).read (Elt F) f (cell (rows x).toNat j) := fun x =>
        gather_apply _ rows j (by omega) x _
      unfold scanV
      refine congrArg₂ PSigma.mk ?_ ?_ <;>
      · funext x
        rw [rowScan]; unfold rowStep step; simp only [addf, cmpf, select, addi, broadcast, hg]; try rfl
    rw [hv, scan_succ, bind_assoc]
    refine BI.Entails.trans ?_ (wand_mono_right (wp_assume 𝒱 c bd E hc))
    change _ ⊢ iprop(_ -∗ wp frame (wpE defs 𝒱 c bd) E
      ((SparseCore.vectorLoadIdx buf ![rows, broadcast S16 (BitVec.ofNat 32 j)] (k1_idx1_inb rows _ hc) (View.loads_vmem h_S128x65)
        >>= fun v => scan buf u rows n (j + 1) (step u v p)) >>= k) Q)
    rw [bind_assoc]
    iintro H Hk
    iapply (SparseCore.wp_vectorLoadIdx (defs := defs) (Q := Q) (q := q) (f := f) 𝒱 c bd E (h := k1_idx1_inb rows _ hc)
      (hl := View.loads_vmem h_S128x65) (base := buf) (k := fun v : Vec F S16 .f32 => scan buf u rows n (j + 1) (step u v p) >>= k) hS) $$ H
    iintro H
    iapply (wp_scan buf hS u rows hr n (j + 1) (by omega) _ k) $$ H
    iexact Hk

/-- A group run over an owned staging buffer, thresholds and counts: the counts of its sixteen rows are stored. -/
theorem wp_group (buf : Memref sig c.2.kind .vmem S128x65 .f32) (ub : Memref sig c.2.kind .vmem S2048 .f32) (ob : Memref sig c.2.kind .vmem S2048 .i32)
    (rows : IVec S16 32) (hr : ∀ x, (rows x).toNat < 128) (o o' : Fin 1 → Nat)
    (h : ∀ a, o a + S16.size a ≤ S2048.size a) (h' : ∀ a, o' a + S16.size a ≤ S2048.size a)
    {fb : Buf (Elt F) ((buf.access (.whole S128x65)).loc c)} {fu : Buf (Elt F) (ub.view.loc c)} {fo : Buf (Elt F) (ob.view.loc c)}
    {q q' : PosShare TreeShare} (k : Unit → Prog (TpuEff nD τ sig (Elt F) Λ₀ c.2) α) :
    iprop(((buf.access (.whole S128x65)).loc c ↦[Finset.univ]{q} fb) ∗ (ub.view.loc c ↦[Finset.univ]{q'} fu) ∗ (ob.view.loc c ↦[Finset.univ]{fullShare} fo) : sProp 𝕄)
      ⊢ iprop((((buf.access (.whole S128x65)).loc c ↦[Finset.univ]{q} fb) ∗ (ub.view.loc c ↦[Finset.univ]{q'} fu)
            ∗ (ob.view.loc c ↦[Finset.univ]{fullShare} ((ob.access (Rect.unit (s := S2048) o' S16.size h')).write (Elt F) fo
                (groupV ((buf.access (.whole S128x65)).read (Elt F) fb) ((ub.access (Rect.unit (s := S2048) o S16.size h)).read (Elt F) fu) rows) Finset.univ))
            -∗ wp frame (wpE defs 𝒱 c bd) E (k ⟨⟩) Q)
          -∗ wp frame (wpE defs 𝒱 c bd) E (group buf ub ob rows o o' h h' >>= k) Q) := by
  unfold group
  simp only [bind_assoc]
  iintro ⟨Hb, Hu, Ho⟩ Hk
  iapply (wp_load_rect 𝒱 c bd E (m := ub) (r := Rect.unit (s := S2048) o S16.size h) (f := fu) (q := q') (hl := View.loadsAt_vmem h_S16) (Finset.subset_univ _)) $$ Hu
  iintro Hu
  iapply (wp_scan 𝒱 c bd E buf (Finset.subset_univ _) _ rows hr 65 0 (by omega) zeroPair _) $$ Hb
  iintro Hb
  iapply (wp_load_rect 𝒱 c bd E (m := ob) (r := Rect.unit (s := S2048) o' S16.size h') (f := fo) (q := fullShare) (hl := View.loadsAt_vmem h_S16) (Finset.subset_univ _)) $$ Ho
  iintro Ho
  iapply (wp_store 𝒱 c bd E (m := ob) (r := Rect.unit (s := S2048) o' S16.size h') (f := fo) (hx := View.stores_vmem_bits_univ h_S16 rfl) (hm := .inl rfl) (Finset.subset_univ _)) $$ Ho
  iintro Ho
  iapply Hk
  iframe Hb; iframe Hu; iexact Ho

end Rules

end Cert.Rows

end
-- ==== Proof.Groups.lean ====
/- The inner loop over the eight groups of one staged chunk: what rows of the count buffer are done (`Done`), what one group
   adds, and the rule of the loop. -/
module

public import proofs.«01_k».proof.Proof.Count

@[expose] public section

noncomputable section

namespace Cert.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem lane_lt (x : S16.Idx) : (x 0).val < 16 := (x 0).isLt

theorem row_lt (y : S2048.Idx) : (y 0).val < 2048 := (y 0).isLt

/-- The sixteen row numbers of group `t`: `16 t, …, 16 t + 15`. -/
theorem rows_t2 (t : Fin k1_t2_loop.trips) (x : S16.Idx) :
    (k1_pay1 (iota .scVector S16 32 [0] iota_S16_d0_w32_scVector) 0#32 1#32 t x).toNat = 16 * t.val + (x 0).val := by
  have h : ∀ (t : Fin k1_t2_loop.trips) (n : Fin 16),
      (Scalar.addi (Scalar.muli (Scalar.addi 0#32 (Scalar.muli (Scf.iv 0#32 1#32 t) 1#32)) 16#32) (BitVec.ofNat 32 (0 * 16 + n.val))).toNat = 16 * t.val + n.val := by
    decide +kernel
  exact h t ⟨(x 0).val, lane_lt x⟩

theorem rows_t3 (t : Fin k1_t3_loop.trips) (x : S16.Idx) :
    (k1_pay77 (iota .scVector S16 32 [0] iota_S16_d0_w32_scVector) 0#32 1#32 t x).toNat = 16 * t.val + (x 0).val := by
  have h : ∀ (t : Fin k1_t3_loop.trips) (n : Fin 16),
      (Scalar.addi (Scalar.muli (Scalar.addi 0#32 (Scalar.muli (Scf.iv 0#32 1#32 t) 1#32)) 16#32) (BitVec.ofNat 32 (0 * 16 + n.val))).toNat = 16 * t.val + n.val := by
    decide +kernel
  exact h t ⟨(x 0).val, lane_lt x⟩

/-- The count of row `y`, of the row's entries `X` and thresholds `T`. -/
def counts (X : Nat → Nat → F .f32) (T : S2048.Idx → F .f32) (y : S2048.Idx) : BitVec 32 := rowCount (X (y 0).val) (T y)

/-- The rows below `n` hold their counts. -/
def Done {κ : Kind} (ob : Memref sig κ .vmem S2048 .i32) (fo : ob.view.ty.Contents (Elt F)) (C : S2048.Idx → BitVec 32) (n : Nat) : Prop :=
  ∀ y : S2048.Idx, (y 0).val < n → ob.view.read (Elt F) fo y = C y

/-- A group's store extends what is done by sixteen rows. -/
theorem Done.group {κ : Kind} {ob : Memref sig κ .vmem S2048 .i32} {fo : ob.view.ty.Contents (Elt F)} {X : Nat → Nat → F .f32} {T : S2048.Idx → F .f32}
    {b t : Nat} (hd : Done ob fo (counts X T) (b + 16 * t))
    {o' : Fin 1 → Nat} (h' : ∀ a, o' a + S16.size a ≤ S2048.size a) (ho' : o' = ![b + 16 * t]) (w : IVec S16 32)
    (hw : ∀ (x : S16.Idx) (y : S2048.Idx), (y 0).val = b + 16 * t + (x 0).val → w x = counts X T y) :
    Done ob ((ob.access (Rect.unit (s := S2048) o' S16.size h')).write (Elt F) fo w Finset.univ) (counts X T) (b + 16 * (t + 1)) := by
  intro y hy
  rw [show (ob.access (Rect.unit (s := S2048) o' S16.size h')).write (Elt F) fo w Finset.univ
    = ob.view.writes (Elt F) fo [⟨Rect.unit (s := S2048) o' S16.size h', w⟩] from rfl]
  by_cases hlt : (y 0).val < b + 16 * t
  · rw [View.read_writes_cons_unit_of_not_mem ob.view fo h' w [] y ho' 0 (.inl hlt)]
    exact hd y hlt
  · let x : S16.Idx := fun a => ⟨(y 0).val - (b + 16 * t), by
      have : a = 0 := Subsingleton.elim _ _
      subst this; show _ < 16; omega⟩
    have hx : (y 0).val = b + 16 * t + (x 0).val := by show _ = _ + ((y 0).val - (b + 16 * t)); omega
    rw [View.read_writes_cons_unit_of_mem ob.view fo h' w [] y x ho' (fun a => by
      have : a = 0 := Subsingleton.elim _ _
      subst this; exact hx)]
    exact hw x y hx

section Rules

variable {Ix : Type} [DecidableEq Ix] {Name : Type} [DecidableEq Name] {U : Type} [URA U] {Lvl : Type} [Preorder Lvl]
variable {defs : Defs nD τ sig (Elt F) Λ₀} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

/-- The loop over the eight groups of a staged chunk takes the count buffer from the rows below `b` done to those below `b + 128`. -/
theorem wp_groups (buf : Memref sig c.2.kind .vmem S128x65 .f32) (ub : Memref sig c.2.kind .vmem S2048 .f32) (ob : Memref sig c.2.kind .vmem S2048 .i32)
    (l : Scf.Loop 32) (hok : l.OK) (ht : l.trips = 8)
    (body : Fin l.trips → Unit → Prog (TpuEff nD τ sig (Elt F) Λ₀ c.2) Unit)
    (R : Fin l.trips → IVec S16 32) (hR : ∀ t x, (R t x).toNat = 16 * t.val + (x 0).val) (b : Nat)
    (o o' : Fin l.trips → Fin 1 → Nat) (h : ∀ t a, o t a + S16.size a ≤ S2048.size a) (h' : ∀ t a, o' t a + S16.size a ≤ S2048.size a)
    (ho : ∀ t, o t = ![b + 16 * t.val]) (ho' : ∀ t, o' t = ![b + 16 * t.val])
    (hb : ∀ t x, body t x = group buf ub ob (R t) (o t) (o' t) (h t) (h' t))
    {fb : Buf (Elt F) ((buf.access (.whole S128x65)).loc c)} {fu : Buf (Elt F) (ub.view.loc c)} {q q' : PosShare TreeShare}
    (X : Nat → Nat → F .f32) (T : S2048.Idx → F .f32)
    (hX : ∀ r j, r < 128 → j < 65 → (buf.access (.whole S128x65)).read (Elt F) fb (cell r j) = X (b + r) j)
    (hT : ∀ y, ub.view.read (Elt F) fu y = T y)
    (k : Unit → Prog (TpuEff nD τ sig (Elt F) Λ₀ c.2) α) :
    iprop(((buf.access (.whole S128x65)).loc c ↦[Finset.univ]{q} fb) ∗ (ub.view.loc c ↦[Finset.univ]{q'} fu)
        ∗ ∃ fo, ⌜Done ob fo (counts X T) b⌝ ∗ (ob.view.loc c ↦[Finset.univ]{fullShare} fo) : sProp 𝕄)
      ⊢ iprop((((buf.access (.whole S128x65)).loc c ↦[Finset.univ]{q} fb) ∗ (ub.view.loc c ↦[Finset.univ]{q'} fu)
            ∗ (∃ fo, ⌜Done ob fo (counts X T) (b + 128)⌝ ∗ (ob.view.loc c ↦[Finset.univ]{fullShare} fo))
            -∗ wp frame (wpE defs 𝒱 c bd) E (k ⟨⟩) Q)
          -∗ wp frame (wpE defs 𝒱 c bd) E (Scf.Loop.for l hok ⟨⟩ body >>= k) Q) := by
  have ht' : Scf.trips l.lb l.ub l.st = 8 := ht
  iintro H Hk
  iapply (Scf.wp_for_bind frame (wpE defs 𝒱 c bd) E l.lb l.ub l.st hok ⟨⟩ body
    (fun t _ => iprop(((buf.access (.whole S128x65)).loc c ↦[Finset.univ]{q} fb) ∗ (ub.view.loc c ↦[Finset.univ]{q'} fu)
        ∗ ∃ fo, ⌜Done ob fo (counts X T) (b + 16 * t)⌝ ∗ (ob.view.loc c ↦[Finset.univ]{fullShare} fo))) ?_) $$ [H]
  · intro t x
    have htt : t.val < 8 := by have := t.isLt; omega
    rw [hb]
    iintro ⟨Hb, Hu, %fo, %hd, Ho⟩
    rw [← bind_pure (group buf ub ob (R t) (o t) (o' t) (h t) (h' t))]
    iapply (wp_group 𝒱 c bd E buf ub ob (R t) (fun x => by have := lane_lt x; rw [hR]; omega) (o t) (o' t) (h t) (h' t) pure) $$ [Hb Hu Ho]
    · isplitl [Hb]; · iexact Hb
      isplitl [Hu]; · iexact Hu
      iexact Ho
    iintro ⟨Hb, Hu, Ho⟩
    sl_step
    isplitl [Hb]; · iexact Hb
    isplitl [Hu]; · iexact Hu
    iexists _; isplitr; swap; · iexact Ho
    ipureintro
    refine hd.group (h' t) (ho' t) _ fun x y hy => ?_
    unfold groupV counts
    have hlx := lane_lt x
    refine rowCount_congr (fun j hj => ?_) ?_
    · rw [hX _ _ (by rw [hR]; omega) hj, hR, hy]; congr 1; omega
    · rw [← hT y]
      show ub.view.read (Elt F) fu ((Rect.unit (s := S2048) (o t) S16.size (h t)).emb x) = ub.view.read (Elt F) fu y
      congr 1; funext a; apply Fin.ext
      have : a = 0 := Subsingleton.elim _ _
      subst this
      show o t 0 + 1 * (x 0).val = (y 0).val
      rw [ho t, hy, Nat.one_mul]; rfl
  · iexact H
  · rw [ht']
    iintro %_ H
    iapply Hk
    iexact H

end Rules

end Cert.Rows

end
-- ==== Proof.Setup.lean ====
/- The program as the launch theorem sees it, the resource algebra, and the offsets of the tiles' copies in closed form. -/
module

public import proofs.«01_k».proof.Defs
public import proofs.«01_k».proof.Proof.Groups
public import proofs.«01_k».proof.Proof.Gen.KernelIdeal.Launch
public import Idealize.ShloMosaic.Lib.Tactic
public import Idealize.ShloMosaic.Lib.ValueLayout

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## Where a tile's rows are -/

/-- The tile's number among the 32. -/
abbrev wid (L : grid1.Coords) : Nat := 2 * (L 1).val + (L 0).val
/-- The tile's row of matrices, counted from the first of the SparseCores' four, -/
abbrev slab (L : grid1.Coords) : Nat := wid L / 8
/-- and its first row in it. -/
abbrev row0 (L : grid1.Coords) : Nat := 2048 * (wid L % 8)

theorem wid_lt (L : grid1.Coords) : wid L < 32 := by
  have h0 : (L 0).val < 2 := (L 0).isLt
  have h1 : (L 1).val < 16 := (L 1).isLt
  unfold wid; omega
theorem slab_lt (L : grid1.Coords) : slab L < 4 := by have := wid_lt L; unfold slab; omega
theorem row0_le (L : grid1.Coords) : row0 L + 2048 ≤ 16384 := by unfold row0; omega

/-- The offsets of the tile's chunk `n` of 128 rows. -/
abbrev chunkOff (L : grid1.Coords) (n : Nat) : Fin 3 → Nat := ![28 + slab L, row0 L + 128 * n, 0]

theorem off1_eq : ∀ L : grid1.Coords, k1_off1 L = ![28 + slab L, row0 L] := by decide +kernel
theorem off2_eq : ∀ L : grid1.Coords, k1_off2 L = chunkOff L 0 := by decide +kernel
theorem off3_eq : ∀ (L : grid1.Coords) (t : Fin k1_t1_loop.trips), k1_off3 L t = chunkOff L (2 * t.val + 1) := by decide +kernel
theorem off4_eq0 : ∀ (L : grid1.Coords) (t : Fin k1_t1_loop.trips), k1_off4 L t 0#32 = chunkOff L (2 * t.val) := by decide +kernel
theorem off4_eq1 : ∀ (L : grid1.Coords) (t : Fin k1_t1_loop.trips), k1_off4 L t 1#32 = chunkOff L (2 * t.val + 1) := by decide +kernel
theorem off7_eq : ∀ (L : grid1.Coords) (t : Fin k1_t1_loop.trips), k1_off7 L t = chunkOff L (2 * t.val + 2) := by decide +kernel
theorem off10_eq : ∀ L : grid1.Coords, k1_off10 L = ![slab L, row0 L] := by decide +kernel
theorem cond1_true : ∀ t : Fin k1_t1_loop.trips, k1_cond1 t = 1#1 := by decide +kernel
theorem cond2_iff : ∀ t : Fin k1_t1_loop.trips, k1_cond2 t = 1#1 ↔ t.val < 7 := by decide +kernel
theorem trips1 : k1_t1_loop.trips = 8 := by decide +kernel
theorem trips2 : k1_t2_loop.trips = 8 := by decide +kernel
theorem trips3 : k1_t3_loop.trips = 8 := by decide +kernel

theorem chunkOff_inb (L : grid1.Coords) (n : Nat) (hn : n < 16) : ∀ a, chunkOff L n a + S1x128x65.size a ≤ S32x16384x65.size a := by
  have hs := slab_lt L
  have hr := row0_le L
  intro a
  match a with
  | 0 => show 28 + slab L + 1 ≤ 32; omega
  | 1 => show row0 L + 128 * n + 128 ≤ 16384; omega
  | 2 => show 0 + 65 ≤ 65; omega

/-! ## The buffers -/

abbrev pLoc (d : Dev nD) : Loc nD τ sig := (SparseCore.T d).loc main_arg0
abbrev uLoc (d : Dev nD) : Loc nD τ sig := (SparseCore.T d).loc main_v8
abbrev oLoc (d : Dev nD) : Loc nD τ sig := (SparseCore.T d).loc main_v12

/-- The arrays and scratch buffers of the SparseCore kernel as a tile names them: `pi`, -/
abbrev pV : Memref Cert.KernelIdeal.sig Kind.scVector Space.hbm Cert.KernelIdeal.S32x16384x65 EltTy.f32 := Memref.whole Cert.KernelIdeal.main_arg0_scv
/-- its thresholds, -/
abbrev uV : Memref Cert.KernelIdeal.sig Kind.scVector Space.hbm Cert.KernelIdeal.S32x16384 EltTy.f32 := Memref.whole Cert.KernelIdeal.main_v8_scv
/-- its result, -/
abbrev oV : Memref Cert.KernelIdeal.sig Kind.scVector Space.hbm Cert.KernelIdeal.S4x16384 EltTy.i32 := Memref.whole Cert.KernelIdeal.main_v12_scv
/-- the two staging buffers, -/
abbrev aV : Memref Cert.KernelIdeal.sig Kind.scVector Space.vmem Cert.KernelIdeal.S128x65 EltTy.f32 := Memref.whole Cert.KernelIdeal.cc1_scratch0
abbrev bV : Memref Cert.KernelIdeal.sig Kind.scVector Space.vmem Cert.KernelIdeal.S128x65 EltTy.f32 := Memref.whole Cert.KernelIdeal.cc1_scratch1
/-- the tile's thresholds, -/
abbrev tV : Memref Cert.KernelIdeal.sig Kind.scVector Space.vmem Cert.KernelIdeal.S2048 EltTy.f32 := Memref.whole Cert.KernelIdeal.cc1_scratch2
/-- and its counts. -/
abbrev cV : Memref Cert.KernelIdeal.sig Kind.scVector Space.vmem Cert.KernelIdeal.S2048 EltTy.i32 := Memref.whole Cert.KernelIdeal.cc1_scratch3

/-- Chunk of `pi` at the offsets `off`, as a tile addresses it. -/
abbrev chunk (off : Fin 3 → Nat) (h : ∀ a, off a + S1x128x65.size a ≤ S32x16384x65.size a) : Memref sig .scVector .hbm S128x65 .f32 :=
  ((pV).slice (Rect.unit (s := S32x16384x65) off S1x128x65.size h) (fun _ => rfl)).squeeze S128x65 squeezes_S1x128x65_S128x65
/-- The tile's 2048 thresholds, -/
abbrev uPart (off : Fin 2 → Nat) (h : ∀ a, off a + S1x2048.size a ≤ S32x16384.size a) : Memref sig .scVector .hbm S2048 .f32 :=
  ((uV).slice (Rect.unit (s := S32x16384) off S1x2048.size h) (fun _ => rfl)).squeeze S2048 squeezes_S1x2048_S2048
/-- and its 2048 counts. -/
abbrev oPart (off : Fin 2 → Nat) (h : ∀ a, off a + S1x2048.size a ≤ S4x16384.size a) : Memref sig .scVector .hbm S2048 .i32 :=
  ((oV).slice (Rect.unit (s := S4x16384) off S1x2048.size h) (fun _ => rfl)).squeeze S2048 squeezes_S1x2048_S2048

/-- An entry of `pi`, its coordinates taken inside the array. -/
def piAt {α : Type} (f : S32x16384x65.Idx → α) (i r k : Nat) : α :=
  f (ix3 (⟨i % 32, Nat.mod_lt _ (by decide)⟩ : Fin 32) (⟨r % 16384, Nat.mod_lt _ (by decide)⟩ : Fin 16384) (⟨k % 65, Nat.mod_lt _ (by decide)⟩ : Fin 65))
/-- An entry of the `[32, 16384]` array of thresholds, likewise. -/
def uAt {α : Type} (f : S32x16384.Idx → α) (i r : Nat) : α :=
  f (ix2 (⟨i % 32, Nat.mod_lt _ (by decide)⟩ : Fin 32) (⟨r % 16384, Nat.mod_lt _ (by decide)⟩ : Fin 16384))

/-- What a chunk reads, in coordinates of `pi`. -/
theorem chunk_read (L : grid1.Coords) (n : Nat) (hn : n < 16) (off : Fin 3 → Nat) (h) (he : off = chunkOff L n)
    (f : S32x16384x65.Idx → Elt F .f32) (r j : Nat) (hr : r < 128) (hj : j < 65) :
    (chunk off h).view.read (Elt F) f (cell r j) = piAt f (28 + slab L) (row0 L + (128 * n + r)) j := by
  subst he
  have hs := slab_lt L
  have hl := row0_le L
  have hc : cell r j = ix2 (⟨r, hr⟩ : Fin 128) (⟨j, hj⟩ : Fin 65) := by
    funext a; apply Fin.ext
    match a with
    | 0 => exact Nat.mod_eq_of_lt hr
    | 1 => exact Nat.mod_eq_of_lt hj
  rw [hc, Memref.read_squeeze_slice (hc := (show S1x128x65.ShapeCasts S128x65 by decide)), shapeCast_1ab_ab_apply]
  unfold piAt
  show f _ = f _
  congr 1; funext a; apply Fin.ext
  match a with
  | 0 => show 28 + slab L + 1 * 0 = (28 + slab L) % 32; rw [Nat.mod_eq_of_lt (by omega)]; omega
  | 1 => show row0 L + 128 * n + 1 * r = (row0 L + (128 * n + r)) % 16384; rw [Nat.mod_eq_of_lt (by omega)]; omega
  | 2 => show 0 + 1 * j = j % 65; rw [Nat.mod_eq_of_lt hj]; omega

/-- What the thresholds' part reads. -/
theorem uPart_read (L : grid1.Coords) (off : Fin 2 → Nat) (h) (he : off = ![28 + slab L, row0 L])
    (f : S32x16384.Idx → Elt F .f32) (y : S2048.Idx) :
    (uPart off h).view.read (Elt F) f y = uAt f (28 + slab L) (row0 L + (y 0).val) := by
  subst he
  have hs := slab_lt L
  have hl := row0_le L
  have hy := row_lt y
  have hc : y = ix1 (⟨(y 0).val, hy⟩ : Fin 2048) := by
    funext a; have : a = 0 := Subsingleton.elim _ _
    subst this; rfl
  rw [Memref.read_squeeze_slice (hc := (show S1x2048.ShapeCasts S2048 by decide))]
  conv_lhs => rw [hc]
  rw [shapeCast_1a_a_apply]
  unfold uAt
  show f _ = f _
  congr 1; funext a; apply Fin.ext
  match a with
  | 0 => show 28 + slab L + 1 * 0 = (28 + slab L) % 32; rw [Nat.mod_eq_of_lt (by omega)]; omega
  | 1 => show row0 L + 1 * (y 0).val = (row0 L + (y 0).val) % 16384; rw [Nat.mod_eq_of_lt (by omega)]; omega

end Cert.Rows

end
-- ==== Proof.Copies.lean ====
/- The two ends of a tile's chunk copy: started (`InFlight`) and waited for, the chunk's contents in the staging buffer and the
   share of `pi` back. -/
module

public import proofs.«01_k».proof.Proof.Setup

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {U : Type} [URA U] [CountersIn U]

local notation "𝕄" => MT nD τ sig (HIx 1) (Elt F) ℕ U ℕ

variable (d : Dev nD) (cc : Fin τ.nSC) (jj : Fin τ.nSub)

/-- The staging buffer `dst` reads what the chunk of `f` at `off` reads. -/
def Staged (dst : Memref sig .scVector .vmem S128x65 .f32) (f : Buf (Elt F) (pLoc d)) (off : Fin 3 → Nat)
    (h : ∀ a, off a + S1x128x65.size a ≤ S32x16384x65.size a) (g : Buf (Elt F) ((dst.access (.whole S128x65)).loc (V d cc jj))) : Prop :=
  ∀ x, (dst.access (.whole S128x65)).read (Elt F) g x = (chunk off h).view.read (Elt F) f x

/-- A copy of a chunk into `dst` under way on the semaphore `sem`, and the rest of the share of `pi` it reads. -/
def InFlight (dst : Memref sig .scVector .vmem S128x65 .f32) (sem : DmaSem sig) (q : PosShare TreeShare) (f : Buf (Elt F) (pLoc d)) (off : Fin 3 → Nat)
    (h : ∀ a, off a + S1x128x65.size a ≤ S32x16384x65.size a) : sProp 𝕄 :=
  iprop(∃ fd, Transfers.Flight countersEmb (V d cc jj) (.dma sem) (default : HIx 1) dst.view.dmaCredit
      iprop((dst.view.loc (V d cc jj) ↦[Finset.univ]{fullShare} (dst.view.write (Elt F) fd ((chunk off h).view.read (Elt F) f) Finset.univ))
        ∗ ((chunk off h).view.loc (V d cc jj) ↦[(chunk off h).view.set]{q} f))
    ∗ ((chunk off h).view.loc (V d cc jj) ↦[Finset.univ \ (chunk off h).view.set]{q} f))

variable {defs : Defs nD τ sig (Elt F) Λ₀} (𝒱 : Variants) (bd : Option 𝒱.V)
variable {α : Type} {Q : α → sProp (MT nD τ sig (HIx 1) (Elt F) ℕ U ℕ)}

theorem wp_start (dst : Memref sig .scVector .vmem S128x65 .f32) (sem : DmaSem sig) (off : Fin 3 → Nat)
    (h : ∀ a, off a + S1x128x65.size a ≤ S32x16384x65.size a) {hsrc : (chunk off h).view.WordExact} {hdst : dst.view.WordExact}
    {hsem : DmaTarget.Typed (nD := nD) (τ := τ) (p := .scVector cc jj) .hbm (SemLoc.dma sem) (.here dst)} (q : PosShare TreeShare) (f : Buf (Elt F) (pLoc d))
    (fd : Buf (Elt F) (dst.view.loc (V d cc jj)))
    (k : PUnit → Prog (TpuEff nD τ sig (Elt F) Λ₀ (.scVector cc jj)) α) :
    iprop(((pV).view.loc (V d cc jj) ↦[Finset.univ]{q} f) ∗ (dst.view.loc (V d cc jj) ↦[Finset.univ]{fullShare} fd) ∗ semVal (V d cc jj, .dma sem) 0 : sProp 𝕄)
      ⊢ iprop((InFlight d cc jj dst sem q f off h -∗ wp frame (wpE defs 𝒱 (V d cc jj) bd) Set.univ (k ⟨⟩) Q)
          -∗ wp frame (wpE defs 𝒱 (V d cc jj) bd) Set.univ (Prog.lift (.enqueueDma (chunk off h) (.here dst) (.dma sem) hsrc hdst hsem) >>= k) Q) := by
  iintro ⟨Hp, Hd, Hs⟩ Hk
  ihave Hp' := (pointsTo_split_subset (q := q) (f := f) (S := Finset.univ) (Finset.subset_univ (chunk off h).view.set)).1 $$ Hp
  icases Hp' with ⟨Hp, Hr⟩
  iapply (Transfers.wp_dmaLocal countersEmb 𝒱 (V d cc jj) bd (src := chunk off h) (dst := dst) (sm := .dma sem) (hsrc := hsrc) (hdst := hdst) (hsem := hsem)
    (q := q) (fs := f) (fd := fd) (default : HIx 1) dst.view.dmaCredit rfl (View.dmaCredit_pos _ (by decide)) (Finset.subset_univ _)) $$ [Hp Hd Hs]
  · isplitl [Hp]; · iexact Hp
    isplitl [Hd]; · iexact Hd
    iexact Hs
  iintro Hf
  iapply Hk
  unfold InFlight
  iexists fd
  isplitl [Hf]; · iexact Hf
  iexact Hr

theorem wp_wait (dst : Memref sig .scVector .vmem S128x65 .f32) (sem : DmaSem sig) (off : Fin 3 → Nat)
    (h : ∀ a, off a + S1x128x65.size a ≤ S32x16384x65.size a) (srcw : Memref sig .scVector .hbm S128x65 .f32) {hsrc : srcw.view.WordExact} {hdst : dst.view.WordExact}
    (q : PosShare TreeShare) (f : Buf (Elt F) (pLoc d)) (O : CellTallies nD τ sig (HIx 1)) (W : Waits sig (HIx 1))
    (k : PUnit → Prog (TpuEff nD τ sig (Elt F) Λ₀ (.scVector cc jj)) α) :
    iprop(Transfers.MayWaits (V d cc jj) (default : HIx 1) O ∗ InFlight d cc jj dst sem q f off h ∗ owes (V d cc jj) O W : sProp 𝕄)
      ⊢ iprop((iprop((∃ g, ⌜Staged d cc jj dst f off h g⌝ ∗ (dst.view.loc (V d cc jj) ↦[Finset.univ]{fullShare} g)) ∗ ((pV).view.loc (V d cc jj) ↦[Finset.univ]{q} f)
              ∗ semVal (V d cc jj, .dma sem) 0 ∗ owes (V d cc jj) O (insert (SemLoc.dma sem, (default : HIx 1)) W))
            -∗ wp frame (wpE defs 𝒱 (V d cc jj) bd) Set.univ (k ⟨⟩) Q)
          -∗ wp frame (wpE defs 𝒱 (V d cc jj) bd) Set.univ (Prog.lift (.waitDma2 sem srcw dst hsrc hdst) >>= k) Q) := by
  unfold InFlight
  iintro ⟨#Hmw, ⟨%fd, Hf, Hr⟩, HO⟩ Hk
  iapply (Transfers.wp_waitLocalO countersEmb 𝒱 (V d cc jj) bd (sem := sem) (srcw := srcw) (dstw := dst) (hsrc := hsrc) (hdst := hdst) (default : HIx 1) rfl) $$ [Hf HO]
  · isplitl [Hf]; · iexact Hf
    isplitl [HO]; · iexact HO
    iapply (Transfers.MayWaits.elim (SemLoc.dma sem)) $$ Hmw
  iintro ⟨⟨Hd, Hp⟩, Hs, HO⟩
  ihave Hp' := (pointsTo_split_subset (q := q) (f := f) (S := Finset.univ) (Finset.subset_univ (chunk off h).view.set)).2 $$ [Hp Hr]
  · isplitl [Hp]; · iexact Hp
    iexact Hr
  iapply Hk
  isplitl [Hd]
  · iexists _; isplitr; swap; · iexact Hd
    ipureintro; intro x
    have hx : (dst.access (.whole S128x65)).emb x = dst.view.emb x := by
      show dst.view.emb ((Rect.whole S128x65).emb x) = _
      rw [Rect.emb_whole_apply]
    have := congrFun (View.read_write_univ (v := dst.view) (Val := Elt F) fd ((chunk off h).view.read (Elt F) f)) x
    rw [← this]
    rw [View.read_apply, View.read_apply, hx]
  isplitl [Hp']; · iexact Hp'
  isplitl [Hs]; · iexact Hs
  iexact HO

end Cert.Rows

end
-- ==== Proof.Trip.lean ====
/- One trip of a tile's main loop: two chunks, each waited for, counted and followed by the next copy into its buffer. -/
module

public import proofs.«01_k».proof.Proof.Copies

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {U : Type} [URA U] [CountersIn U]

local notation "𝕄" => MT nD τ sig (HIx 1) (Elt F) ℕ U ℕ

/-- The tile at the coordinates `L`: its SparseCore and its subcore. -/
abbrev coreOf (L : grid1.Coords) : Fin τ.nSC := (L 0).castLE hcore1
abbrev subOf (L : grid1.Coords) : Fin τ.nSub := (L 1).castLE hsub1
abbrev thr (d : Dev nD) (L : grid1.Coords) : Thread nD τ := V d (coreOf L) (subOf L)

variable (d : Dev nD) (L : grid1.Coords)

/-- A tile's rows of `pi`, by row in the tile and column; -/
def rowsOf (f : Buf (Elt F) (pLoc d)) (r k : Nat) : F .f32 := piAt (α := F .f32) f (28 + slab L) (row0 L + r) k
/-- and its thresholds. -/
def thrOf (fu : Buf (Elt F) (uLoc d)) (y : S2048.Idx) : F .f32 := uAt (α := F .f32) fu (28 + slab L) (row0 L + (y 0).val)

theorem staged_rows (dst : Memref sig .scVector .vmem S128x65 .f32) (f : Buf (Elt F) (pLoc d)) (n : Nat) (hn : n < 16) (off : Fin 3 → Nat) (h)
    (he : off = chunkOff L n) (g : Buf (Elt F) ((dst.access (.whole S128x65)).loc (thr d L)))
    (hg : Staged d (coreOf L) (subOf L) dst f off h g) (r j : Nat) (hr : r < 128) (hj : j < 65) :
    (dst.access (.whole S128x65)).read (Elt F) g (cell r j) = rowsOf d L f (128 * n + r) j := by
  rw [hg, chunk_read L n hn off h he f r j hr hj]; rfl

theorem inFlight_congr {dst : Memref sig .scVector .vmem S128x65 .f32} {sem : DmaSem sig} {q : PosShare TreeShare} {f : Buf (Elt F) (pLoc d)}
    {off off' : Fin 3 → Nat} {h} {h'} (he : off = off') :
    (InFlight d (coreOf L) (subOf L) dst sem q f off h : sProp 𝕄) = InFlight d (coreOf L) (subOf L) dst sem q f off' h' := by subst he; rfl

/-- The first staging buffer before trip `t`: chunk `2 t` on its way into it, or after the last trip the buffer and its semaphore free. -/
def slotA (q : PosShare TreeShare) (f : Buf (Elt F) (pLoc d)) (t : Nat) : sProp 𝕄 :=
  if h : t < 8 then InFlight d (coreOf L) (subOf L) aV cc1_scratch4.sem q f (chunkOff L (2 * t)) (chunkOff_inb L (2 * t) (by omega))
  else iprop((∃ g, ((aV).view.loc (thr d L) ↦[Finset.univ]{fullShare} g)) ∗ ((pV).view.loc (thr d L) ↦[Finset.univ]{q} f)
    ∗ semVal (thr d L, .dma cc1_scratch4.sem) 0)

/-- The first staging buffer and its semaphore free. -/
def freeA (q : PosShare TreeShare) (f : Buf (Elt F) (pLoc d)) : sProp 𝕄 :=
  iprop((∃ g, ((aV).view.loc (thr d L) ↦[Finset.univ]{fullShare} g)) ∗ ((pV).view.loc (thr d L) ↦[Finset.univ]{q} f)
    ∗ semVal (thr d L, .dma cc1_scratch4.sem) 0)

theorem slotA_flight (q : PosShare TreeShare) (f : Buf (Elt F) (pLoc d)) (t : Nat) (h : t < 8) :
    (slotA d L q f t : sProp 𝕄) = InFlight d (coreOf L) (subOf L) aV cc1_scratch4.sem q f (chunkOff L (2 * t)) (chunkOff_inb L (2 * t) (by omega)) := by
  unfold slotA; rw [dif_pos h]
theorem slotA_free (q : PosShare TreeShare) (f : Buf (Elt F) (pLoc d)) (t : Nat) (h : ¬ t < 8) : (slotA d L q f t : sProp 𝕄) = freeA d L q f := by
  unfold slotA freeA; rw [dif_neg h]

/-- What a tile holds before trip `t`. -/
def tripInv (qA qB : PosShare TreeShare) (f : Buf (Elt F) (pLoc d)) (T : S2048.Idx → F .f32) (ft : Buf (Elt F) ((tV).view.loc (thr d L)))
    (O : CellTallies nD τ sig (HIx 1)) (W : Waits sig (HIx 1)) (t : Nat) : sProp 𝕄 :=
  iprop(slotA d L qA f t
    ∗ (∃ g, ((bV).view.loc (thr d L) ↦[Finset.univ]{fullShare} g)) ∗ ((pV).view.loc (thr d L) ↦[Finset.univ]{qB} f)
    ∗ semVal (thr d L, .dma cc1_scratch5.sem) 0
    ∗ ((tV).view.loc (thr d L) ↦[Finset.univ]{fullShare} ft)
    ∗ (∃ fo, ⌜Done cV fo (counts (rowsOf d L f) T) (256 * t)⌝ ∗ ((cV).view.loc (thr d L) ↦[Finset.univ]{fullShare} fo))
    ∗ ∃ W', ⌜∀ p ∈ W', p ∈ W ∨ p.2 = none⌝ ∗ owes (thr d L) O W')

variable {defs : Defs nD τ sig (Elt F) Λ₀} (𝒱 : Variants) (bd : Option 𝒱.V)

set_option maxRecDepth 65536 in
set_option maxHeartbeats 400000 in
/-- The second half of a trip: the odd chunk arrives and is counted. -/
theorem wp_tail (qA qB : PosShare TreeShare) (f : Buf (Elt F) (pLoc d)) (T : S2048.Idx → F .f32) (ft : Buf (Elt F) ((tV).view.loc (thr d L)))
    (hT : ∀ y, (tV).view.read (Elt F) ft y = T y)
    (O : CellTallies nD τ sig (HIx 1)) (W W' : Waits sig (HIx 1)) (hW : ∀ p ∈ W', p ∈ W ∨ p.2 = none) (v18 v29 : BitVec 32) (t : Fin k1_t1_loop.trips)
    (ht : t.val < 8) (fo1 : Buf (Elt F) ((cV).view.loc (thr d L))) (hd1 : Done cV fo1 (counts (rowsOf d L f) T) (256 * t.val + 128))
    (fA : sProp 𝕄) (hA : fA ⊢ slotA d L qA f (t.val + 1)) :
    iprop(Transfers.MayWaits (thr d L) (default : HIx 1) O ∗ fA
      ∗ InFlight d (coreOf L) (subOf L) bV cc1_scratch5.sem qB f (k1_off3 L t) (k1_off3_inb L t (cond1_true t))
      ∗ ((tV).view.loc (thr d L) ↦[Finset.univ]{fullShare} ft) ∗ ((cV).view.loc (thr d L) ↦[Finset.univ]{fullShare} fo1)
      ∗ owes (thr d L) O (insert (SemLoc.dma cc1_scratch4.sem, (default : HIx 1)) W'))
    ⊢ wp frame (wpE defs 𝒱 (thr d L) bd) Set.univ
        (Prog.lift (.waitDma2 cc1_scratch5.sem (chunk (k1_off4 L t 1#32) (k1_off4_inb L t 1)) bV ((View.wordExact_bits rfl).reshape _ _) (Memref.isWhole_whole _).wordExact) >>= fun _ =>
          Scf.Loop.for k1_t3_loop k1_t3_ok ⟨⟩ (k1_t3_body (F := F) L pV (Memref.isWhole_whole _) uV (Memref.isWhole_whole _) oV (Memref.isWhole_whole _)
            aV (Memref.isWhole_whole _) bV (Memref.isWhole_whole _) tV (Memref.isWhole_whole _) cV (Memref.isWhole_whole _)
            cc1_scratch4 cc1_scratch5 cc1_scoped0 cc1_scoped1 v18 v29 (iota .scVector S16 32 [0] iota_S16_d0_w32_scVector) 0#32 1#32 t
            (Scalar.addi (Scalar.addi 0#32 (Scalar.muli (Scf.iv 0#32 1#32 t) 2#32)) 1#32))
            >>= fun _ => (pure PUnit.unit : Prog (TpuEff nD τ sig (Elt F) Λ₀ (.scVector (coreOf L) (subOf L))) PUnit))
        (fun _ => tripInv d L qA qB f T ft O W (t.val + 1)) := by
  iintro ⟨#Hmw, HA, HB, Ht, Hc, HO⟩
  iapply (wp_wait d (coreOf L) (subOf L) 𝒱 bd bV cc1_scratch5.sem (k1_off3 L t) _ _ qB f O _ _) $$ [HB HO]
  · isplitr; · iexact Hmw
    isplitl [HB]; · iexact HB
    iexact HO
  iintro ⟨⟨%gb, %hgb, Hb⟩, HpB, HsB, HO⟩
  iapply (wp_groups 𝒱 (thr d L) bd Set.univ bV tV cV k1_t3_loop k1_t3_ok trips3 _
    (fun t3 => k1_pay77 (iota .scVector S16 32 [0] iota_S16_d0_w32_scVector) 0#32 1#32 t3) rows_t3 (256 * t.val + 128)
    (k1_off8 t) (k1_off9 t) (k1_off8_inb t) (k1_off9_inb t)
    (fun t3 => by rw [k1_off8_eq]; congr 1; omega) (fun t3 => by rw [k1_off9_eq]; congr 1; omega)
    (fun t3 x => t3_body_eq _ _ _ _ _ _ _ _ _ _ _ _ _ _ _ _ _ _ _ _ _ _ _ _ _ _ t3 x)
    (rowsOf d L f) T (fun r j hr hj => (staged_rows d L bV f (2 * t.val + 1) (by omega) _ _ (off3_eq L t) gb hgb r j hr hj).trans (by
      congr 1; omega))
    hT _) $$ [Hb Ht Hc]
  · isplitl [Hb]; · iexact Hb
    isplitl [Ht]; · iexact Ht
    iexists fo1; isplitr; swap; · iexact Hc
    ipureintro; exact hd1
  iintro ⟨Hb, Ht, %fo2, %hd2, Hc⟩
  sl_step
  unfold tripInv
  isplitl [HA]; · iapply hA; iexact HA
  isplitl [Hb]; · iexists _; iexact Hb
  isplitl [HpB]; · iexact HpB
  isplitl [HsB]; · iexact HsB
  isplitl [Ht]; · iexact Ht
  isplitl [Hc]
  · iexists fo2; isplitr; swap; · iexact Hc
    ipureintro
    have e : 256 * (t.val + 1) = 256 * t.val + 128 + 128 := by omega
    rw [e]; exact hd2
  iexists _; isplitr; swap; · iexact HO
  ipureintro; intro p hp
  rcases Finset.mem_insert.mp hp with hp | hp; · exact .inr (hp ▸ rfl)
  rcases Finset.mem_insert.mp hp with hp | hp; · exact .inr (hp ▸ rfl)
  exact hW p hp

set_option maxRecDepth 65536 in
set_option maxHeartbeats 1000000 in
theorem wp_trip (qA qB : PosShare TreeShare) (f : Buf (Elt F) (pLoc d)) (T : S2048.Idx → F .f32) (ft : Buf (Elt F) ((tV).view.loc (thr d L)))
    (hT : ∀ y, (tV).view.read (Elt F) ft y = T y)
    (O : CellTallies nD τ sig (HIx 1)) (W : Waits sig (HIx 1)) (v18 v29 : BitVec 32) (t : Fin k1_t1_loop.trips) (x : PUnit) :
    iprop(Transfers.MayWaits (thr d L) (default : HIx 1) O ∗ tripInv d L qA qB f T ft O W t.val : sProp 𝕄)
      ⊢ wp frame (wpE defs 𝒱 (thr d L) bd) Set.univ
          (k1_t1_body (F := F) L pV (Memref.isWhole_whole _) uV (Memref.isWhole_whole _) oV (Memref.isWhole_whole _)
            aV (Memref.isWhole_whole _) bV (Memref.isWhole_whole _) tV (Memref.isWhole_whole _) cV (Memref.isWhole_whole _)
            cc1_scratch4 cc1_scratch5 cc1_scoped0 cc1_scoped1 v18 v29 (iota .scVector S16 32 [0] iota_S16_d0_w32_scVector) t x)
          (fun _ => tripInv d L qA qB f T ft O W (t.val + 1)) := by
  have ht : t.val < 8 := t.isLt.trans_eq trips1
  unfold k1_t1_body
  rw [k1_part23_eq_skeleton]; unfold k1_part23_skel
  unfold tripInv
  rw [slotA_flight d L qA f t.val ht, dif_pos (cond1_true t)]
  simp only [bind_assoc, pure_bind]
  iintro ⟨#Hmw, HA, ⟨%gb, Hb⟩, HpB, HsB, Ht, ⟨%fo, %hd, Hc⟩, %W', %hW, HO⟩
  -- the odd chunk's copy starts
  iapply (wp_start d (coreOf L) (subOf L) 𝒱 bd bV cc1_scratch5.sem (k1_off3 L t) (k1_off3_inb L t (cond1_true t)) qB f gb _) $$ [HpB Hb HsB]
  · isplitl [HpB]; · iexact HpB
    isplitl [Hb]; · iexact Hb
    iexact HsB
  iintro HB
  -- the even chunk arrives and is counted
  iapply (wp_wait d (coreOf L) (subOf L) 𝒱 bd aV cc1_scratch4.sem (chunkOff L (2 * t.val)) _ _ qA f O W' _) $$ [HA HO]
  · isplitr; · iexact Hmw
    isplitl [HA]; · iexact HA
    iexact HO
  iintro ⟨⟨%ga, %hga, Ha⟩, HpA, HsA, HO⟩
  iapply (wp_groups 𝒱 (thr d L) bd Set.univ aV tV cV k1_t2_loop k1_t2_ok trips2 _
    (fun t2 => k1_pay1 (iota .scVector S16 32 [0] iota_S16_d0_w32_scVector) 0#32 1#32 t2) rows_t2 (256 * t.val)
    (k1_off5 t) (k1_off6 t) (k1_off5_inb t) (k1_off6_inb t) (k1_off5_eq t) (k1_off6_eq t)
    (fun t2 x => t2_body_eq _ _ _ _ _ _ _ _ _ _ _ _ _ _ _ _ _ _ _ _ _ _ _ _ _ _ t2 x)
    (rowsOf d L f) T (fun r j hr hj => (staged_rows d L aV f (2 * t.val) (by omega) _ _ rfl ga hga r j hr hj).trans (by rw [← Nat.mul_assoc]))
    hT _) $$ [Ha Ht Hc]
  · isplitl [Ha]; · iexact Ha
    isplitl [Ht]; · iexact Ht
    iexists fo; isplitr; swap; · iexact Hc
    ipureintro; exact hd
  iintro ⟨Ha, Ht, %fo1, %hd1, Hc⟩
  by_cases h7 : t.val < 7
  · rw [dif_pos ((cond2_iff t).mpr h7)]
    simp only [bind_assoc, pure_bind]
    iapply (wp_start d (coreOf L) (subOf L) 𝒱 bd aV cc1_scratch4.sem (k1_off7 L t) (k1_off7_inb L t ((cond2_iff t).mpr h7)) qA f ga _) $$ [HpA Ha HsA]
    · isplitl [HpA]; · iexact HpA
      isplitl [Ha]; · iexact Ha
      iexact HsA
    iintro HA
    have hA : (InFlight d (coreOf L) (subOf L) aV cc1_scratch4.sem qA f (k1_off7 L t) (k1_off7_inb L t ((cond2_iff t).mpr h7)) : sProp 𝕄)
        ⊢ slotA d L qA f (t.val + 1) := by
      rw [slotA_flight d L qA f (t.val + 1) (by omega)]
      exact Entails.of_eq (inFlight_congr d L ((off7_eq L t).trans (by rw [Nat.mul_add])))
    iapply (wp_tail d L 𝒱 bd qA qB f T ft hT O W W' hW v18 v29 t ht fo1 hd1 _ hA)
    isplitr; · iexact Hmw
    isplitl [HA]; · iexact HA
    isplitl [HB]; · iexact HB
    isplitl [Ht]; · iexact Ht
    isplitl [Hc]; · iexact Hc
    iexact HO
  · rw [dif_neg (fun h => h7 ((cond2_iff t).mp h))]
    simp only [bind_assoc, pure_bind]
    have hA : (freeA d L qA f : sProp 𝕄) ⊢ slotA d L qA f (t.val + 1) := Entails.of_eq (slotA_free d L qA f (t.val + 1) (by omega)).symm
    iapply (wp_tail d L 𝒱 bd qA qB f T ft hT O W W' hW v18 v29 t ht fo1 hd1 _ hA)
    isplitr; · iexact Hmw
    isplitl [HpA Ha HsA]
    · unfold freeA
      isplitl [Ha]; · iexists ga; iexact Ha
      isplitl [HpA]; · iexact HpA
      iexact HsA
    isplitl [HB]; · iexact HB
    isplitl [Ht]; · iexact Ht
    isplitl [Hc]; · iexact Hc
    iexact HO

end Cert.Rows

end
-- ==== Proof.Tile.lean ====
/- A tile's task, whole: its thresholds fetched, its sixteen chunks counted, its counts written out. -/
module

public import proofs.«01_k».proof.Proof.Trip

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {U : Type} [URA U] [CountersIn U]

local notation "𝕄" => MT nD τ sig (HIx 1) (Elt F) ℕ U ℕ

/-- What the SparseCores leave in their `[4, 16384]` result: row `(28 + i, r)`'s count at `(i, r)`. -/
def outF (f : S32x16384x65.Idx → F .f32) (fu : S32x16384.Idx → F .f32) : S4x16384.Idx → BitVec 32 :=
  fun x => rowCount (fun k => piAt f (28 + (x 0).val) (x 1).val k) (uAt fu (28 + (x 0).val) (x 1).val)

variable (d : Dev nD) (L : grid1.Coords)

/-- The tile's counts as it addresses them. -/
abbrev oPartL : Memref sig .scVector .hbm S2048 .i32 := oPart (k1_off10 L) (k1_off10_inb L)

theorem oPart_read (g : S4x16384.Idx → BitVec 32) (y : S2048.Idx) :
    (oPartL L).view.read (Elt F) g y = g (ix2 (⟨slab L, slab_lt L⟩ : Fin 4) (⟨row0 L + (y 0).val, by have := row0_le L; have := row_lt y; omega⟩ : Fin 16384)) := by
  have hy := row_lt y
  have hc : y = ix1 (⟨(y 0).val, hy⟩ : Fin 2048) := by
    funext a; have : a = 0 := Subsingleton.elim _ _
    subst this; rfl
  rw [Memref.read_squeeze_slice (hq := squeezes_S1x2048_S2048) (hc := (show S1x2048.ShapeCasts S2048 by decide))]
  conv_lhs => rw [hc]
  rw [shapeCast_1a_a_apply]
  show g _ = g _
  congr 1; funext a; apply Fin.ext
  match a with
  | 0 => show k1_off10 L 0 + 1 * 0 = slab L; rw [off10_eq]; rfl
  | 1 => show k1_off10 L 1 + 1 * (y 0).val = row0 L + (y 0).val; rw [off10_eq, Nat.one_mul]; rfl

/-- Counts written through the tile's part are the result's there. -/
theorem oPart_written (f : Buf (Elt F) (pLoc d)) (fu : Buf (Elt F) (uLoc d)) (fo0 : Buf (Elt F) (oLoc d)) (w : S2048.Idx → BitVec 32)
    (hw : ∀ y, w y = counts (rowsOf d L f) (thrOf d L fu) y) :
    ∀ i ∈ (oPartL L).view.set, ((oPartL L).view.write (Elt F) fo0 w Finset.univ) i = outF (F := F) f fu i := by
  intro i hi
  obtain ⟨y, -, rfl⟩ := Finset.mem_map.mp hi
  have h1 := congrFun (View.read_write_univ (v := (oPartL L).view) (Val := Elt F) fo0 w) y
  rw [oPart_read] at h1
  have h2 := oPart_read (F := F) L (fun i => (oPartL L).view.write (Elt F) fo0 w Finset.univ i) y
  have h3 := oPart_read (F := F) L (outF f fu) y
  have e : ∀ g : S4x16384.Idx → BitVec 32, (oPartL L).view.read (Elt F) g y = g ((oPartL L).view.emb y) := fun g => rfl
  rw [e] at h2 h3
  refine h2.trans (Eq.trans ?_ h3.symm)
  refine h1.trans ((hw y).trans ?_)
  rfl

abbrev cell4 : GSem nD τ sig := (thr d L, .dma cc1_scratch4.sem)
abbrev cell5 : GSem nD τ sig := (thr d L, .dma cc1_scratch5.sem)
abbrev cell0 : GSem nD τ sig := (thr d L, .dma cc1_scoped0.sem)
abbrev cell1 : GSem nD τ sig := (thr d L, .dma cc1_scoped1.sem)

/-- The tile's four semaphores among its own cells. -/
theorem ownSems0_tile :
    (ownSems0 (thr d L) : sProp 𝕄)
      = iprop(semVal (cell4 d L) 0 ∗ semVal (cell5 d L) 0 ∗ semVal (cell0 d L) 0 ∗ semVal (cell1 d L) 0
          ∗ bigSep (((((ownCells (thr d L)).erase (cell4 d L)).erase (cell5 d L)).erase (cell0 d L)).erase (cell1 d L)) fun g => semVal g 0) := by
  unfold SparseCore.Cfg.ownSems0
  have m4 : cell4 d L ∈ ownCells (thr d L) := (mem_ownCells (g := cell4 d L)).mpr ⟨rfl, by
    show (SemLoc.dma cc1_scratch4.sem : SemLoc sig).isScoped .scVector = true; decide⟩
  have m5 : cell5 d L ∈ ownCells (thr d L) := (mem_ownCells (g := cell5 d L)).mpr ⟨rfl, by
    show (SemLoc.dma cc1_scratch5.sem : SemLoc sig).isScoped .scVector = true; decide⟩
  have m0 : cell0 d L ∈ ownCells (thr d L) := (mem_ownCells (g := cell0 d L)).mpr ⟨rfl, by
    show (SemLoc.dma cc1_scoped0.sem : SemLoc sig).isScoped .scVector = true; decide⟩
  have m1 : cell1 d L ∈ ownCells (thr d L) := (mem_ownCells (g := cell1 d L)).mpr ⟨rfl, by
    show (SemLoc.dma cc1_scoped1.sem : SemLoc sig).isScoped .scVector = true; decide⟩
  have n54 : cell5 d L ≠ cell4 d L := by simp [cell4, cell5]; decide
  have n04 : cell0 d L ≠ cell4 d L := by simp [cell4, cell0]; decide
  have n05 : cell0 d L ≠ cell5 d L := by simp [cell5, cell0]; decide
  have n14 : cell1 d L ≠ cell4 d L := by simp [cell4, cell1]; decide
  have n15 : cell1 d L ≠ cell5 d L := by simp [cell5, cell1]; decide
  have n10 : cell1 d L ≠ cell0 d L := by simp [cell0, cell1]; decide
  rw [SparseCore.bigSep_erase' m4, SparseCore.bigSep_erase' (Finset.mem_erase.mpr ⟨n54, m5⟩),
    SparseCore.bigSep_erase' (Finset.mem_erase.mpr ⟨n05, Finset.mem_erase.mpr ⟨n04, m0⟩⟩),
    SparseCore.bigSep_erase' (Finset.mem_erase.mpr ⟨n10, Finset.mem_erase.mpr ⟨n15, Finset.mem_erase.mpr ⟨n14, m1⟩⟩⟩)]

abbrev refOf (r : Ref sig .scVector) : DevRef τ sig := (Proc.scVector (coreOf L) (subOf L)).devRef r

/-- The tile's four scratch buffers among its own. -/
theorem ownBufs_tile :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (coreOf L) (subOf L))).erase (refOf L cc1_scratch0)).erase (refOf L cc1_scratch1)).erase
              (refOf L cc1_scratch2)).erase (refOf L cc1_scratch3))
              fun b => iprop(∃ f, ((d, b) : Loc nD τ sig) ↦{fullShare} f)) := by
  unfold SparseCore.Cfg.ownBufs
  have m : ∀ r : Ref sig .scVector, (refOf L r).owner = _ → refOf L r ∈ ownRefs (τ := τ) (.scVector (coreOf L) (subOf L)) := fun r h =>
    SparseCore.Cfg.mem_ownRefs_of_owner (p := Proc.scVector (coreOf L) (subOf L)) (b := refOf L r) h
  have n : ∀ r r' : Ref sig .scVector, r ≠ r' → refOf L r ≠ refOf L r' := fun r r' h e => h (Proc.devRef_injective _ e)
  have n10 : (cc1_scratch1 : Ref sig .scVector) ≠ cc1_scratch0 := by decide
  have n20 : (cc1_scratch2 : Ref sig .scVector) ≠ cc1_scratch0 := by decide
  have n21 : (cc1_scratch2 : Ref sig .scVector) ≠ cc1_scratch1 := by decide
  have n30 : (cc1_scratch3 : Ref sig .scVector) ≠ cc1_scratch0 := by decide
  have n31 : (cc1_scratch3 : Ref sig .scVector) ≠ cc1_scratch1 := by decide
  have n32 : (cc1_scratch3 : Ref sig .scVector) ≠ cc1_scratch2 := by decide
  refine (SparseCore.bigSep_erase' (m cc1_scratch0 rfl)).trans ?_
  rw [SparseCore.bigSep_erase' (Finset.mem_erase.mpr ⟨n _ _ n10, m cc1_scratch1 rfl⟩),
    SparseCore.bigSep_erase' (Finset.mem_erase.mpr ⟨n _ _ n21, Finset.mem_erase.mpr ⟨n _ _ n20, m cc1_scratch2 rfl⟩⟩),
    SparseCore.bigSep_erase' (Finset.mem_erase.mpr ⟨n _ _ n32, Finset.mem_erase.mpr ⟨n _ _ n31, Finset.mem_erase.mpr ⟨n _ _ n30, m cc1_scratch3 rfl⟩⟩⟩)]

/-- What a tile takes: a share of `pi`, a share of the thresholds, its part of the result; and what it brings back. -/
abbrev goP (q : PosShare TreeShare) (f : Buf (Elt F) (pLoc d)) (fu : Buf (Elt F) (uLoc d)) (fo : Buf (Elt F) (oLoc d)) : sProp 𝕄 :=
  iprop((pLoc d ↦[Finset.univ]{q} f) ∗ (uLoc d ↦[Finset.univ]{q} fu) ∗ (oLoc d ↦[(oPartL L).view.set]{fullShare} fo))

/-- The eight trips: from the first chunk on its way to every count in place. -/
theorem wp_loop {defs : Defs nD τ sig (Elt F) Λ₀} (𝒱 : Variants) (bd : Option 𝒱.V) {α : Type} {Q : α → sProp 𝕄}
    (qA qB : PosShare TreeShare) (f : Buf (Elt F) (pLoc d)) (T : S2048.Idx → F .f32) (ft : Buf (Elt F) ((tV).view.loc (thr d L)))
    (hT : ∀ y, (tV).view.read (Elt F) ft y = T y)
    (O : CellTallies nD τ sig (HIx 1)) (W : Waits sig (HIx 1)) (v18 v29 : BitVec 32)
    (kk : PUnit → Prog (TpuEff nD τ sig (Elt F) Λ₀ (.scVector (coreOf L) (subOf L))) α) :
    iprop(Transfers.MayWaits (thr d L) (default : HIx 1) O ∗ tripInv d L qA qB f T ft O W 0 : sProp 𝕄)
      ⊢ iprop((tripInv d L qA qB f T ft O W 8 -∗ wp frame (wpE defs 𝒱 (thr d L) bd) Set.univ (kk ⟨⟩) Q)
        -∗ wp frame (wpE defs 𝒱 (thr d L) bd) Set.univ
          (Scf.Loop.for k1_t1_loop k1_t1_ok ⟨⟩ (k1_t1_body (F := F) L pV (Memref.isWhole_whole _) uV (Memref.isWhole_whole _) oV (Memref.isWhole_whole _)
            aV (Memref.isWhole_whole _) bV (Memref.isWhole_whole _) tV (Memref.isWhole_whole _) cV (Memref.isWhole_whole _)
            cc1_scratch4 cc1_scratch5 cc1_scoped0 cc1_scoped1 v18 v29 (iota .scVector S16 32 [0] iota_S16_d0_w32_scVector)) >>= kk) Q) := by
  have ht' : Scf.trips k1_t1_loop.lb k1_t1_loop.ub k1_t1_loop.st = 8 := trips1
  iintro H Hk
  iapply (Scf.wp_for_bind frame (wpE defs 𝒱 (thr d L) bd) Set.univ k1_t1_loop.lb k1_t1_loop.ub k1_t1_loop.st k1_t1_ok ⟨⟩ _
    (fun t _ => iprop(Transfers.MayWaits (thr d L) (default : HIx 1) O ∗ tripInv d L qA qB f T ft O W t)) ?_) $$ [H]
  · intro t x
    iintro ⟨#Hmw, H⟩
    iapply (wp_wand frame (wpE defs 𝒱 (thr d L) bd) Set.univ) $$ [H]
    · iapply (wp_trip d L 𝒱 bd qA qB f T ft hT O W v18 v29 t x)
      isplitr; · iexact Hmw
      iexact H
    iintro %_ H
    isplitr; · iexact Hmw
    iexact H
  · iexact H
  iintro %x ⟨-, H⟩
  rw [ht']
  iapply Hk $$ H

theorem hcV (fo : Buf (Elt F) ((cV).view.loc (thr d L))) :
    ((cV).view.loc (thr d L) ↦[Finset.univ]{fullShare} fo : sProp 𝕄) = ((cV).view.loc (thr d L) ↦[(cV).view.set]{fullShare} fo) := by
  rw [show (cV).view.set = Finset.univ from View.set_whole _]

set_option maxRecDepth 65536 in
set_option maxHeartbeats 1000000 in
theorem tile_body (hF : (K (F := F)).Facts) (q : PosShare TreeShare) (f : Buf (Elt F) (pLoc d)) (fu : Buf (Elt F) (uLoc d)) (fo0 : Buf (Elt F) (oLoc d))
    (O : CellTallies nD τ sig (HIx 1)) (W : Waits sig (HIx 1)) (hO : ∀ g, O g none = 0) :
    iprop(levAts (K (F := F)).L (K (F := F)).lev ∗ emp ∗ goP d L q f fu fo0
        ∗ scopedBufs (thr d L) ∗ scopedSems0 (thr d L) ∗ owes (thr d L) O W : sProp 𝕄)
      ⊢ wp frame (wpE (defs₀ (F := F)) 𝒱₀ (thr d L) none) Set.univ
          (cc1_sc_count (F := F) L pV (Memref.isWhole_whole _) uV (Memref.isWhole_whole _) oV (Memref.isWhole_whole _)
            aV (Memref.isWhole_whole _) bV (Memref.isWhole_whole _) tV (Memref.isWhole_whole _) cV (Memref.isWhole_whole _)
            cc1_scratch4 cc1_scratch5 cc1_scoped0 cc1_scoped1)
          fun _ => iprop(goP d L q f fu (outF f fu)
            ∗ scopedBufs (thr d L) ∗ scopedSems0 (thr d L)
            ∗ ∃ W', ⌜∀ p ∈ W', p ∈ W ∨ p.2 = none⌝ ∗ owes (thr d L) O W') := by
  rw [cc1_sc_count_eq_skeleton]; unfold cc1_sc_count_skel
  rw [k1_part24_eq_skeleton]; unfold k1_part24_skel
  rw [(K (F := F)).scopedBufs_V hF d (coreOf L) (subOf L), SparseCore.Cfg.scopedSems0_V (Val := Elt F) d (coreOf L) (subOf L), ownSems0_tile, ownBufs_tile]
  simp only [bind_assoc, pure_bind]
  iintro ⟨#Hlv, -, ⟨Hp, Hu, Ho⟩, ⟨⟨%ga, Ha⟩, ⟨%gb, Hb⟩, ⟨%gt, Ht⟩, ⟨%gc, Hc⟩, Hbufs⟩, ⟨Hs4, Hs5, Hs0, Hs1, Hsems⟩, HO⟩
  ihave #Hmw := (show levAts (K (F := F)).L (K (F := F)).lev ⊢ (Transfers.MayWaits (thr d L) (default : HIx 1) O : sProp 𝕄) from
    (K (F := F)).mayWaits_none (thr := thr d L) hO) $$ Hlv
  -- the thresholds come in
  ihave Hu' := (pointsTo_split_subset (q := q) (f := fu) (S := Finset.univ) (Finset.subset_univ (uPart (k1_off1 L) (k1_off1_inb L)).view.set)).1 $$ Hu
  icases Hu' with ⟨Hu, Hur⟩
  iapply (Transfers.wp_dmaLocal countersEmb 𝒱₀ (thr d L) none (src := uPart (k1_off1 L) (k1_off1_inb L)) (dst := tV) (sm := .dma cc1_scoped0.sem)
    (q := q) (fs := fu) (fd := gt) (Sd := Finset.univ) (default : HIx 1) (tV).view.dmaCredit rfl (View.dmaCredit_pos _ (by decide)) (Finset.subset_univ _)) $$ [Hu Ht Hs0]
  · isplitl [Hu]; · iexact Hu
    isplitl [Ht]; · iexact Ht
    iexact Hs0
  iintro Hf
  iapply (Transfers.wp_waitLocalO countersEmb 𝒱₀ (thr d L) none (sem := cc1_scoped0.sem) (srcw := uPart (k1_off1 L) (k1_off1_inb L)) (dstw := tV) (default : HIx 1) rfl) $$ [Hf HO]
  · isplitl [Hf]; · iexact Hf
    isplitl [HO]; · iexact HO
    iapply (Transfers.MayWaits.elim (SemLoc.dma cc1_scoped0.sem)) $$ Hmw
  iintro ⟨⟨Ht, Hu⟩, Hs0, HO⟩
  ihave Hu' := (pointsTo_split_subset (q := q) (f := fu) (S := Finset.univ) (Finset.subset_univ (uPart (k1_off1 L) (k1_off1_inb L)).view.set)).2 $$ [Hu Hur]
  · isplitl [Hu]; · iexact Hu
    iexact Hur
  -- the first chunk's copy starts
  ihave Hpp := (pointsTo_share (PosShare.mem_left_op_right q)).1 $$ Hp
  icases Hpp with ⟨HpA, HpB⟩
  iapply (wp_start d (coreOf L) (subOf L) 𝒱₀ none aV cc1_scratch4.sem (k1_off2 L) (k1_off2_inb L) q.left f ga _) $$ [HpA Ha Hs4]
  · isplitl [HpA]; · iexact HpA
    isplitl [Ha]; · iexact Ha
    iexact Hs4
  iintro HA
  have hT : ∀ y, (tV).view.read (Elt F) ((tV).view.write (Elt F) gt ((uPart (k1_off1 L) (k1_off1_inb L)).view.read (Elt F) fu) Finset.univ) y = thrOf d L fu y := fun y =>
    (congrFun (View.read_write_univ (v := (tV).view) (Val := Elt F) gt ((uPart (k1_off1 L) (k1_off1_inb L)).view.read (Elt F) fu)) y).trans
      (uPart_read L _ _ (off1_eq L) fu y)
  generalize (tV).view.write (Elt F) gt ((uPart (k1_off1 L) (k1_off1_inb L)).view.read (Elt F) fu) Finset.univ = ft at hT
  -- the eight trips
  iapply (wp_loop d L 𝒱₀ none q.left q.right f (thrOf d L fu) ft hT O (insert (SemLoc.dma cc1_scoped0.sem, (default : HIx 1)) W) _ _ _) $$ [HA Hb HpB Hs5 Ht Hc HO]
  · isplitr; · iexact Hmw
    unfold tripInv
    rw [slotA_flight d L q.left f 0 (by omega)]
    isplitl [HA]; · iapply (Entails.of_eq (inFlight_congr d L (off2_eq L))) $$ HA
    isplitl [Hb]; · iexists gb; iexact Hb
    isplitl [HpB]; · iexact HpB
    isplitl [Hs5]; · iexact Hs5
    isplitl [Ht]; · iexact Ht
    isplitl [Hc]
    · iexists gc; isplitr; swap; · iexact Hc
      ipureintro; intro y hy; omega
    iexists _; isplitr; swap; · iexact HO
    ipureintro; intro p hp; exact Or.inl hp
  unfold tripInv
  rw [slotA_free d L q.left f 8 (by omega)]
  unfold freeA
  iintro ⟨⟨⟨%ga', Ha⟩, HpA, Hs4⟩, ⟨%gb', Hb⟩, HpB, Hs5, Ht, ⟨%fo, %hd, Hc⟩, %W', %hW', HO⟩
  -- the counts go out
  iapply (Transfers.wp_dmaLocal countersEmb 𝒱₀ (thr d L) none (src := cV) (dst := oPartL L) (sm := .dma cc1_scoped1.sem)
    (q := fullShare) (fs := fo) (fd := fo0) (default : HIx 1) (oPartL L).view.dmaCredit rfl (View.dmaCredit_pos _ (by decide)) (Finset.Subset.refl _)) $$ [Hc Ho Hs1]
  · isplitl [Hc]; · iapply (Entails.of_eq (hcV d L fo)) $$ Hc
    isplitl [Ho]; · iexact Ho
    iexact Hs1
  iintro Hf
  iapply (Transfers.wp_waitLocalO countersEmb 𝒱₀ (thr d L) none (sem := cc1_scoped1.sem) (srcw := cV) (dstw := oPartL L) (default : HIx 1) rfl) $$ [Hf HO]
  · isplitl [Hf]; · iexact Hf
    isplitl [HO]; · iexact HO
    iapply (Transfers.MayWaits.elim (SemLoc.dma cc1_scoped1.sem)) $$ Hmw
  iintro ⟨⟨Ho, Hc⟩, Hs1, HO⟩
  dsimp only [Prog.bind]
  sl_step
  isplitl [HpA HpB Hu' Ho]
  · isplitl [HpA HpB]
    · iapply (pointsTo_share (PosShare.mem_left_op_right q)).2
      isplitl [HpA]; · iexact HpA
      iexact HpB
    isplitl [Hu']; · iexact Hu'
    iapply (Entails.of_eq (pointsTo_congr (oPart_written d L f fu fo0 _ (fun y => hd y (by have := row_lt y; omega))))) $$ Ho
  isplitl [Ha Hb Ht Hc Hbufs]
  · isplitl [Ha]; · iexists ga'; iexact Ha
    isplitl [Hb]; · iexists gb'; iexact Hb
    isplitl [Ht]; · iexists ft; iexact Ht
    isplitl [Hc]; · iexists fo; iapply (Entails.of_eq (hcV d L fo).symm) $$ Hc
    iexact Hbufs
  isplitl [Hs4 Hs5 Hs0 Hs1 Hsems]
  · isplitl [Hs4]; · iexact Hs4
    isplitl [Hs5]; · iexact Hs5
    isplitl [Hs0]; · iexact Hs0
    isplitl [Hs1]; · iexact Hs1
    iexact Hsems
  iexists _; isplitr; swap; · iexact HO
  ipureintro
  intro p hp
  rcases Finset.mem_insert.mp hp with rfl | hp
  · exact Or.inr rfl
  rcases hW' p hp with hp | hp
  · rcases Finset.mem_insert.mp hp with rfl | hp
    · exact Or.inr rfl
    exact Or.inl hp
  exact Or.inr hp

end Cert.Rows

end
-- ==== Proof.Call.lean ====
/- The SparseCore call: what its handshakes carry, the obligation of a tile, and how the arrays split among the tiles and join again. -/
module

public import proofs.«01_k».proof.Proof.Tile

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
local notation "𝕄" => MT nD τ sig (HIx 1) (Elt F) ℕ UU ℕ

variable (m : (ℓ : Loc nD τ sig) → Buf (Elt F) ℓ) (fu : (d : Dev nD) → Buf (Elt F) (uLoc d))

/-- The coordinates of a tile of the call's grid. -/
def coordsV (c : Fin (grid1.bound 0)) (s : Fin (grid1.bound 1)) : grid1.Coords :=
  fun | 0 => c | 1 => s | ⟨_ + 2, h⟩ => absurd h (Nat.not_lt.2 (Nat.le_add_left _ _))

/-! ## The tiles' parts of the result -/

/-- The part of the result tile `(c, i)` writes. -/
def oSet (c : Fin 2) (i : Fin 16) : Finset S4x16384.Idx := (oPartL (coordsV c i)).view.set

theorem oPart_emb (L : grid1.Coords) (y : S2048.Idx) :
    (oPartL L).view.emb y = ix2 (⟨slab L, slab_lt L⟩ : Fin 4) (⟨row0 L + (y 0).val, by have := row0_le L; have := row_lt y; omega⟩ : Fin 16384) := by
  have h := oPart_read (F := Bits) L (fun z => if z = (oPartL L).view.emb y then 1#32 else 0#32) y
  by_contra hne
  have h1 : (oPartL L).view.read (Elt Bits) (fun z => if z = (oPartL L).view.emb y then 1#32 else 0#32) y = 1#32 := if_pos rfl
  have h2 := h1.symm.trans (h.trans (if_neg (fun e => hne e.symm)))
  exact absurd h2 (by decide)

theorem mem_oSet (c : Fin 2) (i : Fin 16) (x : S4x16384.Idx) :
    x ∈ oSet c i ↔ 8 * (x 0).val + (x 1).val / 2048 = 2 * i.val + c.val := by
  have hx : (x 1).val < 16384 := (x 1).isLt
  have hx0 : (x 0).val < 4 := (x 0).isLt
  have hL : wid (coordsV c i) = 2 * i.val + c.val := rfl
  constructor
  · intro h
    obtain ⟨y, -, rfl⟩ := Finset.mem_map.mp h
    rw [oPart_emb]
    have hy := row_lt y
    show 8 * slab (coordsV c i) + (row0 (coordsV c i) + (y 0).val) / 2048 = _
    unfold slab row0; rw [hL]; omega
  · intro h
    refine Finset.mem_map.mpr ⟨ix1 (⟨(x 1).val % 2048, Nat.mod_lt _ (by decide)⟩ : Fin 2048), Finset.mem_univ _, ?_⟩
    rw [oPart_emb]
    funext a; apply Fin.ext
    match a with
    | 0 => show slab (coordsV c i) = (x 0).val; unfold slab; rw [hL]; omega
    | 1 => show row0 (coordsV c i) + (x 1).val % 2048 = (x 1).val; unfold row0; rw [hL]; omega

theorem oSet_disjoint (c c' : Fin 2) (i i' : Fin 16) (h : ¬ (c = c' ∧ i = i')) : Disjoint (oSet c i) (oSet c' i') := by
  rw [Finset.disjoint_left]
  intro x h1 h2
  rw [mem_oSet] at h1 h2
  apply h
  constructor <;> apply Fin.ext <;> omega

/-- A SparseCore's part of the result. -/
def oCore (c : Fin 2) : Finset S4x16384.Idx := Finset.univ.biUnion (oSet c)

theorem oCore_disjoint : ∀ c ∈ (Finset.univ : Finset (Fin 2)), ∀ c' ∈ (Finset.univ : Finset (Fin 2)), c ≠ c' → Disjoint (oCore c) (oCore c') := by
  intro c _ c' _ h
  unfold oCore
  rw [Finset.disjoint_biUnion_left]
  intro i _
  rw [Finset.disjoint_biUnion_right]
  intro i' _
  exact oSet_disjoint _ _ _ _ fun e => h e.1

theorem oCore_cover : (Finset.univ : Finset (Fin 2)).biUnion oCore = Finset.univ := by
  ext x
  simp only [Finset.mem_biUnion, Finset.mem_univ, true_and, iff_true, oCore]
  have hx : (x 1).val < 16384 := (x 1).isLt
  have hx0 : (x 0).val < 4 := (x 0).isLt
  refine ⟨⟨(8 * (x 0).val + (x 1).val / 2048) % 2, Nat.mod_lt _ (by decide)⟩, ⟨(8 * (x 0).val + (x 1).val / 2048) / 2, by omega⟩, ?_⟩
  rw [mem_oSet]
  show _ = 2 * ((8 * (x 0).val + (x 1).val / 2048) / 2) + (8 * (x 0).val + (x 1).val / 2048) % 2
  omega

theorem oPts_tiles (d : Dev nD) (f : Buf (Elt F) (oLoc d)) :
    (oLoc d ↦{fullShare} f : sProp 𝕄) = bigSep Finset.univ fun c : Fin 2 => bigSep Finset.univ fun i : Fin 16 => oLoc d ↦[oSet c i]{fullShare} f := by
  have h1 : (oLoc d ↦{fullShare} f : sProp 𝕄) = (oLoc d ↦[(Finset.univ : Finset (Fin 2)).biUnion oCore]{fullShare} f) := by rw [oCore_cover]
  rw [h1, pointsTo_biUnion Finset.univ (ℓ := oLoc d) oCore oCore_disjoint]
  refine bigSep_congr fun c _ => ?_
  exact pointsTo_biUnion Finset.univ (ℓ := oLoc d) (oSet c) fun i _ i' _ h => oSet_disjoint _ _ _ _ fun e => h e.2

/-! ## What the handshakes carry -/

/-- A SparseCore's share of an array every tile reads, -/
def qc : Fin 2 → PosShare TreeShare := fun c => if c.val = 0 then fullShare.left else fullShare.right
/-- and a tile's. -/
abbrev qt (c : Fin 2) (i : Fin 16) : PosShare TreeShare := Transfers.shareTok (qc c) 16 i

abbrev corePts (d : Dev nD) (c : Fin 2) (fo : Buf (Elt F) (oLoc d)) : sProp 𝕄 :=
  iprop((pLoc d ↦[Finset.univ]{qc c} m (pLoc d)) ∗ (uLoc d ↦[Finset.univ]{qc c} fu d)
    ∗ bigSep Finset.univ fun i : Fin 16 => oLoc d ↦[oSet c i]{fullShare} fo)

abbrev tilePts (d : Dev nD) (c : Fin 2) (i : Fin 16) (fo : Buf (Elt F) (oLoc d)) : sProp 𝕄 :=
  iprop((pLoc d ↦[Finset.univ]{qt c i} m (pLoc d)) ∗ (uLoc d ↦[Finset.univ]{qt c i} fu d) ∗ (oLoc d ↦[oSet c i]{fullShare} fo))

/-- The result the call leaves on device `d`. -/
abbrev outD (d : Dev nD) : Buf (Elt F) (oLoc d) := outF (F := F) (m (pLoc d)) (fu d)

/-- The call takes each SparseCore's share of `pi`, its share of the thresholds and its part of the result, and brings them
    back with the result at its counts; so does each tile with its own. -/
def P : (K (F := F)).Pay (nD := nD) (Val := Elt F) (Name := ℕ) (U := UU) where
  st := fun q d c => match q with | 0 => corePts m fu d (Fin.cast nCore_zero c) (m (oLoc d))
  dn := fun q d c => match q with | 0 => corePts m fu d (Fin.cast nCore_zero c) (outD m fu d)
  go := fun q d c i => match q with | 0 => tilePts m fu d (Fin.cast nCore_zero c) (Fin.cast nSub_zero i) (m (oLoc d))
  td := fun q d c i => match q with | 0 => tilePts m fu d (Fin.cast nCore_zero c) (Fin.cast nSub_zero i) (outD m fu d)
  x := fun _ _ => iprop(emp)

instance P_storable : (P (F := F) m fu).IsStorable where
  st q d c := match q with
    | 0 => (inferInstance : BI.Storable (upEmb : UEmb _ 𝕄) (corePts m fu d (Fin.cast nCore_zero c) (m (oLoc d))))
  dn q d c := match q with
    | 0 => (inferInstance : BI.Storable (upEmb : UEmb _ 𝕄) (corePts m fu d (Fin.cast nCore_zero c) (outD m fu d)))
  go q d c i := match q with
    | 0 => (inferInstance : BI.Storable (upEmb : UEmb _ 𝕄) (tilePts m fu d (Fin.cast nCore_zero c) (Fin.cast nSub_zero i) (m (oLoc d))))
  td q d c i := match q with
    | 0 => (inferInstance : BI.Storable (upEmb : UEmb _ 𝕄) (tilePts m fu d (Fin.cast nCore_zero c) (Fin.cast nSub_zero i) (outD m fu d)))

/-! ## The obligation of a tile -/

theorem defs₀_vector (c : Fin τ.nSC) (s : Fin τ.nSub) :
    defs₀ (F := F) (.scVector c s) 1 ()
      = SparseCore.onTile hcore1 hsub1 (fun c s => cc1_sc_count (coordsV c s)
          pV (Memref.isWhole_whole _) uV (Memref.isWhole_whole _) oV (Memref.isWhole_whole _)
          aV (Memref.isWhole_whole _) bV (Memref.isWhole_whole _) tV (Memref.isWhole_whole _) cV (Memref.isWhole_whole _)
          cc1_scratch4 cc1_scratch5 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m fu) v₀ 0 := by
  intro d c i O W hO _ _
  simp only [show (P m fu).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (qt (Fin.cast nCore_zero c) (Fin.cast nSub_zero i)) (m (pLoc d)) (fu d) (m (oLoc d)) O W hO).trans
    (wp_mono frame _ _ fun _ => obl_post)

/-! ## The arrays split among the tiles and join -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_sep (d : Dev nD) (c : Fin 2) (fo : Buf (Elt F) (oLoc d)) :
    (bigSep Finset.univ fun i : Fin 16 => tilePts m fu d c i fo : sProp 𝕄)
      = iprop((bigSep Finset.univ fun i : Fin 16 => pLoc d ↦[Finset.univ]{qt c i} m (pLoc d)) ∗ (bigSep Finset.univ fun i : Fin 16 => uLoc d ↦[Finset.univ]{qt c i} fu d)
        ∗ bigSep Finset.univ fun i : Fin 16 => oLoc d ↦[oSet c i]{fullShare} fo) := by
  rw [bigSep_sep', bigSep_sep']

theorem vecSplit : (K (F := F)).VecSplit' (P m fu) 0 := by
  intro d c
  show corePts m fu d (Fin.cast nCore_zero c) (m (oLoc d)) ⊢ |={Set.univ}=> iprop(
      (bigSep Finset.univ fun i : Fin ((K (F := F)).nSub 0) => tilePts m fu d (Fin.cast nCore_zero c) (Fin.cast nSub_zero i) (m (oLoc d)))
      ∗ ((bigSep Finset.univ fun i : Fin ((K (F := F)).nSub 0) => tilePts m fu d (Fin.cast nCore_zero c) (Fin.cast nSub_zero i) (outD m fu d))
          -∗ corePts m fu d (Fin.cast nCore_zero c) (outD m fu d)))
  generalize Fin.cast nCore_zero c = c
  rw [bigSep_tasks (F := F) (fun i => tilePts m fu d c i (m (oLoc d))), bigSep_tasks (F := F) (fun i => tilePts m fu d c i (outD m fu d)), tiles_sep, tiles_sep]
  iintro ⟨Hp, Hu, Ho⟩
  ihave Hp' := (Transfers.pointsTo_toks_split (qc c) 16) $$ Hp
  icases Hp' with ⟨Hpd, Hp⟩
  ihave Hu' := (Transfers.pointsTo_toks_split (qc c) 16) $$ Hu
  icases Hu' with ⟨Hud, Hu⟩
  imodintro
  isplitl [Hp Hu Ho]
  · isplitl [Hp]; · iexact Hp
    isplitl [Hu]; · iexact Hu
    iexact Ho
  iintro ⟨Hp, Hu, Ho⟩
  isplitl [Hpd Hp]
  · iapply (Transfers.pointsTo_toks_join (qc c) 16)
    isplitl [Hpd]; · iexact Hpd
    iexact Hp
  isplitl [Hud Hu]
  · iapply (Transfers.pointsTo_toks_join (qc c) 16)
    isplitl [Hud]; · iexact Hud
    iexact Hu
  iexact Ho

/-- The two SparseCores' parts are the arrays whole. -/
theorem cores_eq (d : Dev nD) (fo : Buf (Elt F) (oLoc d)) :
    (bigSep Finset.univ fun c : Fin 2 => corePts m fu d c fo : sProp 𝕄)
      = iprop((pLoc d ↦{fullShare} m (pLoc d)) ∗ (uLoc d ↦{fullShare} fu d) ∗ (oLoc d ↦{fullShare} fo)) := by
  have hs : ∀ {ℓ : Loc nD τ sig} (f : Buf (Elt F) ℓ), (bigSep Finset.univ fun c : Fin 2 => (ℓ ↦[Finset.univ]{qc c} f : sProp 𝕄)) = (ℓ ↦{fullShare} f) := by
    intro ℓ f
    rw [show (Finset.univ : Finset (Fin 2)) = {0, 1} by decide, SparseCore.bigSep_insert' (by decide), bigSep_singleton]
    exact (BI.Entails.antisymm (pointsTo_share (PosShare.mem_left_op_right fullShare)).1 (pointsTo_share (PosShare.mem_left_op_right fullShare)).2).symm
  rw [bigSep_sep', bigSep_sep', hs, hs, oPts_tiles]

theorem st0_eq (d : Dev nD) : (bigSep Finset.univ fun c : Fin ((K (F := F)).nCore 0) => (P m fu).st 0 d c)
    = iprop((pLoc d ↦{fullShare} m (pLoc d)) ∗ (uLoc d ↦{fullShare} fu d) ∗ (oLoc d ↦{fullShare} m (oLoc d))) :=
  (bigSep_congr fun _ _ => rfl).trans (cores_eq m fu d (m (oLoc d)))
theorem dn0_eq (d : Dev nD) : (bigSep Finset.univ fun c : Fin ((K (F := F)).nCore 0) => (P m fu).dn 0 d c)
    = iprop((pLoc d ↦{fullShare} m (pLoc d)) ∗ (uLoc d ↦{fullShare} fu d) ∗ (oLoc d ↦{fullShare} outD m fu d)) :=
  (bigSep_congr fun _ _ => rfl).trans (cores_eq m fu d (outD m fu d))

end Cert.Rows

end
-- ==== Proof.Region.lean ====
/- The TensorCore's kernel: its body on the staged blocks, and its run over the whole grid with the arrays held at a valuation. -/
module

public import proofs.«01_k».proof.Proof.Call
public import proofs.«01_k».proof.Proof.Gen.KernelIdeal.Points
public import proofs.«01_k».proof.Proof.Gen.KernelIdeal.Skeleton
public import Idealize.ShloMosaic.Lib.Pipeline.RegionArrays
public import Idealize.ShloMosaic.Lib.Pipeline.ValueKit

@[expose] public section

noncomputable section

namespace Cert.Rows

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- A staging buffer's contents, and the buffer held whole at them. -/
abbrev Stg (c : Dev nD) {sp : Space} {S : Shape} {e : EltTy} (M : Memref sig .tc sp S e) : Type := Buf (Elt F) (M.view.loc (c : Thread nD τ))
abbrev stg (c : Dev nD) {sp : Space} {S : Shape} {e : EltTy} (M : Memref sig .tc sp S e) (f : Stg (F := F) c M) : sProp 𝕄 :=
  M.view.loc (c : Thread nD τ) ↦{fullShare} f

/-- The body reads the two blocks and leaves in the third buffer the block's counts. -/
theorem body_run (c : Dev nD) (i : grid0.Coords) (M0 : Memref sig .tc .vmem S4096x65 .f32) (h0 : M0.IsWhole) (M1 : Memref sig .tc .vmem S1x1x4096 .f32) (h1 : M1.IsWhole)
    (M2 : Memref sig .tc .vmem S1x1x4096 .i32) (h2 : M2.IsWhole) (f0 : Stg (F := F) c M0) (f1 : Stg (F := F) c M1) (f2 : Stg (F := F) c M2)
    (E : Set ℕ) (Q : PUnit → sProp 𝕄) :
    iprop(stg c M0 f0 ∗ stg c M1 f1 ∗ stg c M2 f2
        ∗ (iprop(stg c M0 f0 ∗ stg c M1 f1 ∗ ∃ g : Stg (F := F) c M2, ⌜M2.view.read (Elt F) g = k0_pay1 (M0.view.read (Elt F) f0) (M1.view.read (Elt F) f1)⌝ ∗ stg c M2 g) -∗ Q ⟨⟩))
      ⊢ wp frame (wpE (defs₀ (F := F)) Variants.none c none) E (cc0__tc_body i M0 h0 M1 h1 M2 h2) Q := by
  rw [cc0__tc_body_eq_skeleton]
  unfold cc0__tc_body_skel
  iintro ⟨H0, H1, H2, Hk⟩
  sl_exec!
  sl_step
  iapply Hk
  isplitl [H0]; · iexact H0
  isplitl [H1]; · iexact H1
  iexists _
  isplitr; swap; (· iexact H2)
  ipureintro
  rw [View.read_writes_junk_eq_canon]
  sl_unfold_words
  have hz3 : (![0, 0, 0] : Fin 3 → Nat) = fun _ => 0 := by decide
  have hz2 : (![0, 0] : Fin 2 → Nat) = fun _ => 0 := by decide
  simp only [View.readAt_eq_ld]
  refine (View.canon_unit_zero (S := S1x1x4096) hz3 inb_S1x1x4096_S1x1x4096_0_0_0 _).trans ?_
  exact congrArg₂ k0_pay1 (View.ld_unit_zero (S := S4096x65) hz2 inb_S4096x65_S4096x65_0_0 _) (View.ld_unit_zero (S := S1x1x4096) hz3 inb_S1x1x4096_S1x1x4096_0_0_0 _)

/-- The same with each buffer at the block it reads. -/
theorem body_owns (c : Dev nD) (i : grid0.Coords) (M0 : Memref sig .tc .vmem S4096x65 .f32) (h0 : M0.IsWhole) (M1 : Memref sig .tc .vmem S1x1x4096 .f32) (h1 : M1.IsWhole)
    (M2 : Memref sig .tc .vmem S1x1x4096 .i32) (h2 : M2.IsWhole) (x0 : Vec F S4096x65 .f32) (x1 : Vec F S1x1x4096 .f32) (x2 : Vec F S1x1x4096 .i32)
    (E : Set ℕ) (Q : PUnit → sProp 𝕄) :
    iprop(owns (c : Thread nD τ) M0 fullShare x0 ∗ owns (c : Thread nD τ) M1 fullShare x1 ∗ owns (c : Thread nD τ) M2 fullShare x2
        ∗ (iprop(owns (c : Thread nD τ) M0 fullShare x0 ∗ owns (c : Thread nD τ) M1 fullShare x1 ∗ owns (c : Thread nD τ) M2 fullShare (k0_pay1 x0 x1)) -∗ Q ⟨⟩))
      ⊢ wp frame (wpE (defs₀ (F := F)) Variants.none c none) E (cc0__tc_body i M0 h0 M1 h1 M2 h2) Q := by
  unfold owns
  rw [h0.set_eq_univ, h1.set_eq_univ, h2.set_eq_univ]
  iintro ⟨⟨%f0, %hf0, H0⟩, ⟨%f1, %hf1, H1⟩, ⟨%f2, -, H2⟩, Hk⟩
  iapply (body_run c i M0 h0 M1 h1 M2 h2 f0 f1 f2 E Q)
  isplitl [H0]; · iexact H0
  isplitl [H1]; · iexact H1
  isplitl [H2]; · iexact H2
  iintro ⟨H0, H1, ⟨%g, %hg, H2⟩⟩
  iapply Hk
  isplitl [H0]; · iexists f0; isplitr; swap; (· iexact H0); ipureintro; exact hf0
  isplitl [H1]; · iexists f1; isplitr; swap; (· iexact H1); ipureintro; exact hf1
  iexists g; isplitr; swap; (· iexact H2); ipureintro; rw [hf0, hf1] at hg; exact hg

/-! ## The proof data at a valuation of the arrays -/

/-- What the TensorCore owes before the SparseCore call, and the pairs it may have waited on: those at the lowest level. -/
abbrev owed0 (c : Dev nD) : CellTallies nD τ sig (HIx 1) := (K (F := F)).Otc c 0
abbrev recd0 (c : Dev nD) : Set (SemLoc sig × HIx 1) := {p | (K (F := F)).lev (T c, p.1) p.2 ≤ 0}

variable (W : (c : Dev nD) → Valuation τ sig (Elt F))

/-- The two blocks staged for grid point `t`. -/
abbrev blk0 (c : Dev nD) (t : Fin cfg0.N) : Vec F S4096x65 .f32 := ((cfg0.win 0).blk t).view.read (Elt F) (W c (Proc.devRef .tc (Pipeline.arrRef spec0 0)))
abbrev blk1 (c : Dev nD) (t : Fin cfg0.N) : Vec F S1x1x4096 .f32 := ((cfg0.win 1).blk t).view.read (Elt F) (W c (Proc.devRef .tc (Pipeline.arrRef spec0 1)))

/-- The proof data: the arrays at the valuation; after the body the inputs' buffers as fetched and the result's the block's counts. -/
def dat (c : Dev nD) : Dat τ (Elt F) (HIx 1) ℕ UU ℕ cfg0 c where
  A w := W c (Proc.devRef .tc (Pipeline.arrRef spec0 w))
  after w t := match w with
    | ⟨0, _⟩ => blk0 W c t
    | ⟨1, _⟩ => blk1 W c t
    | ⟨2, _⟩ => k0_pay1 (blk0 W c t) (blk1 W c t)
  Φ _ := BI.emp
  q _ := fullShare
  owed _ := owed0 (F := F) c
  recorded _ := recd0 (F := F) c

theorem before0 (c : Dev nD) (t : Fin cfg0.N) (d : (cfg0.win 0).block.Idx → Elt F (cfg0.win 0).elt) : (dat W c).before 0 t d = blk0 W c t := by
  unfold Dat.before; rw [if_pos (fetch0_0 t)]; rfl
theorem before1 (c : Dev nD) (t : Fin cfg0.N) (d : (cfg0.win 1).block.Idx → Elt F (cfg0.win 1).elt) : (dat W c).before 1 t d = blk1 W c t := by
  unfold Dat.before; rw [if_pos (fetch0_1 t)]; rfl

/-- At every grid point the body does what the proof data say. -/
theorem body_ok (c : Dev nD) : BodyObligation (dat W c) (defs₀ (F := F)) 𝒱₀ none Set.univ := fun t => by
  rw [bigSep_W0, bigSep_W0]
  rw [show (dat W c).Φ t.castSucc = BI.emp from rfl, show (dat W c).Φ t.succ = BI.emp from rfl,
    show (dat W c).owesAt none t.succ = (dat W c).owesAt none t.castSucc from rfl]
  iintro ⟨-, Howes, ⟨%d0, H0⟩, ⟨%d1, H1⟩, ⟨%d2, H2⟩⟩
  rw [before0, before1]
  iapply (body_owns c (grid0.coords t) _ (hstage0_0 ((cfg0.slots t 0).cast nbuf0_0)) _ (hstage0_1 ((cfg0.slots t 1).cast nbuf0_1)) _ (hstage0_2 ((cfg0.slots t 2).cast nbuf0_2)) _ _ _ Set.univ _)
  isplitl [H0]; · iexact H0
  isplitl [H1]; · iexact H1
  isplitl [H2]; · iexact H2
  iintro ⟨H0, H1, H2⟩
  isplitr; · iempintro
  isplitl [Howes]; · iexact Howes
  isplitl [H0]; · iexact H0
  isplitl [H1]; · iexact H1
  iexact H2

/-! ## The region -/

/-- No pipeline has a prefetched table. -/
abbrev adm : (p : Fin 1) → (pcfgs (F := F) p).Adm := fun p => (cfgs p).toPCfg_adm

abbrev pdats : (p : Fin 1) → (c : Dev nD) → Dat τ (Elt F) (HIx 1) ℕ UU ℕ (Pipeline.pin (pcfgs (F := F)) adm p) c
  | ⟨0, _⟩ => fun c => dat W c

/-- What the TensorCore owes around the region: its units of the SparseCore call, all its waits at the lowest level. -/
abbrev tcOwes (c : Dev nD) : sProp 𝕄 :=
  iprop(∃ Wd, ⌜(K (F := F)).WBelow (T c) Wd 0⌝ ∗ owes (T c) (owed0 (F := F) c) Wd)

/-- The three arrays the kernel's windows are on. -/
abbrev arrs0 : Finset (DevRef τ sig) := Pipeline.arrRefs (τ := τ) spec0

theorem owed0_none (c : Dev nD) (g : GSem nD τ sig) : owed0 (F := F) c g none = 0 := by
  by_contra h
  have := (K (F := F)).lev_of_Otc_pos (Nat.pos_of_ne_zero h)
  exact absurd this (by show ¬ (_ + 1 ≤ 0); omega)

variable (W' : (c : Dev nD) → Valuation τ sig (Elt F))

set_option backward.isDefEq.respectTransparency.types false in
/-- The TensorCore's kernel run over its grid, from the arrays at `W` to the arrays at any `W'` that has them at what the grid leaves. -/
def reg (hW' : ∀ c w, (dat W c).arrAt w cfg0.N = W' c (Proc.devRef .tc (Pipeline.arrRef spec0 w))) :
    Pipeline.RegionSeg (pcfgs (F := F)) adm (pdats W) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_ok W c).loose
  hwaits c := Pipeline.cellsWaits_intro _ _ none 0 c fun w s t => (K (F := F)).mayWait_none _ (owed0_none c)
  pre c := iprop(StableHlo.held (c.tc : Thread nD τ) arrs0 (W c) ∗ tcOwes c)
  post c := iprop(StableHlo.held (c.tc : Thread nD τ) arrs0 (W' c) ∗ tcOwes c)
  X _ := BI.emp
  Y _ := BI.emp
  Z _ := BI.emp
  hentry c := by
    rw [Pipeline.ownSems0_none, Pipeline.prefHeld_of_none _ rfl]
    rw [← Pipeline.arrays_held (p := 0) (pcfgs (F := F)) adm (pdats W) launch0.toP c ((dat W c).share_full fun _ => rfl) ((dat W c).arrAt · 0) (W c) (fun w => rfl)]
    iintro ⟨⟨Ha, HO⟩, -, -⟩
    imodintro
    isplitl [Ha]; · iexact Ha
    isplitr; · iempintro
    isplitl [HO]
    · unfold Pipeline.Dat.owesAt Pipeline.owesWithin
      icases HO with ⟨%Wd, %hWd, HO⟩; iexists Wd; isplitr; · ipureintro; exact fun p hp => Or.inl (hWd p hp)
      iexact HO
    isplitr <;> iempintro
  hin c := by
    rw [show (pdats W 0 c).Φ 0 = BI.emp from rfl]
    iintro -; iempintro
  hout c := by
    rw [Pipeline.ownSems0_none, show (Pipeline.scopedRest (Pipeline.pin (pcfgs (F := F)) adm 0).spec c : sProp 𝕄) = BI.emp from scopedRest0_eq c]
    iintro -
    isplitr; · iempintro
    isplitr <;> iempintro
  hexit c := by
    rw [← Pipeline.arrays_held (p := 0) (pcfgs (F := F)) adm (pdats W) launch0.toP c ((dat W c).share_full fun _ => rfl) ((dat W c).arrAt · cfg0.N) (W' c) (hW' c)]
    iintro ⟨Ha, HO, -, -⟩
    imodintro
    isplitl [Ha]; · iexact Ha
    unfold Pipeline.Dat.owesAt Pipeline.owesWithin
    icases HO with ⟨%Wd, %hWd, HO⟩; iexists Wd; isplitr
    · ipureintro
      intro p hp
      rcases hWd hp with h | ⟨w, s, h⟩
      · exact h
      · subst h; exact le_rfl
    iexact HO

end Cert.Rows

end
-- ==== Proof.RegionRun.lean ====
/- What the TensorCore's kernel leaves in its result, element by element, and the rule for its call in the program. -/
module

public import proofs.«01_k».proof.Proof.Region

@[expose] public section

noncomputable section

namespace Cert.Rows

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- Rows `4096 n …` of the matrix of rows, and block `n` of the thresholds. -/
def rowsAt (A : S524288x65.Idx → F .f32) (n : Fin 112) : Vec F S4096x65 .f32 :=
  fun x => A (ValueIdx.ix2 ⟨n.val * 4096 + (x 0).val, by have := (x 0).isLt; have := n.isLt; simp only [Matrix.cons_val_zero] at *; omega⟩ (x 1))
def thrAt (B : S128x1x4096.Idx → F .f32) (n : Fin 112) : Vec F S1x1x4096 .f32 :=
  fun x => B (ValueIdx.ix3 ⟨n.val, by have := n.isLt; omega⟩ (x 1) (x 2))

/-- The kernel's result as one array. -/
def outTC (A : S524288x65.Idx → F .f32) (B : S128x1x4096.Idx → F .f32) : S112x1x4096.Idx → BitVec 32 :=
  fun y => k0_pay1 (rowsAt A (y 0)) (thrAt B (y 0)) (ValueIdx.ix3 0 (y 1) (y 2))

variable (W : (c : Dev nD) → Valuation τ sig (Elt F))

theorem coord_toNat (i : grid0.Coords) : (BitVec.ofNat 32 (i 0).val).toNat = (i 0).val := by
  rw [BitVec.toNat_ofNat]
  exact Nat.mod_eq_of_lt (lt_of_lt_of_le (i 0).isLt (show 112 ≤ 2 ^ 32 by decide))

theorem index0 (t : Fin cfg0.grid.N) : win0_0.index t 0 = (grid0.coords t 0).val ∧ win0_0.index t 1 = 0 := ⟨coord_toNat _, rfl⟩
theorem index1 (t : Fin cfg0.grid.N) : win0_1.index t 0 = (grid0.coords t 0).val ∧ win0_1.index t 1 = 0 ∧ win0_1.index t 2 = 0 := ⟨coord_toNat _, rfl, rfl⟩
theorem index2 (t : Fin cfg0.grid.N) : win0_2.index t 0 = (grid0.coords t 0).val ∧ win0_2.index t 1 = 0 ∧ win0_2.index t 2 = 0 := ⟨coord_toNat _, rfl, rfl⟩

/-- A grid point's block of rows is the rows from `4096 t`, -/
theorem blk0_eq (c : Dev nD) (t : Fin cfg0.grid.N) (n : Fin 112) (hn : n.val = (grid0.coords t 0).val) :
    blk0 W c t = rowsAt (W c (Proc.devRef .tc main_v9)) n := by
  funext x
  show W c (Proc.devRef .tc main_v9) (((cfg0.win 0).blk t).view.emb x) = _
  refine congrArg (W c (Proc.devRef .tc main_v9)) (funext fun a => Fin.ext ?_)
  fin_cases a
  · show ((((cfg0.win 0).blk t).view.emb x) 0).val = n.val * 4096 + (x 0).val
    blk_simp
    rw [(index0 t).1, hn]
  · show ((((cfg0.win 0).blk t).view.emb x) 1).val = (x 1).val
    blk_simp
    rw [(index0 t).2, Nat.zero_mul, Nat.zero_add]
/-- and its block of thresholds is block `t`. -/
theorem blk1_eq (c : Dev nD) (t : Fin cfg0.grid.N) (n : Fin 112) (hn : n.val = (grid0.coords t 0).val) :
    blk1 W c t = thrAt (W c (Proc.devRef .tc main_v10)) n := by
  funext x
  show W c (Proc.devRef .tc main_v10) (((cfg0.win 1).blk t).view.emb x) = _
  refine congrArg (W c (Proc.devRef .tc main_v10)) (funext fun a => Fin.ext ?_)
  fin_cases a
  · show ((((cfg0.win 1).blk t).view.emb x) 0).val = n.val
    blk_simp
    rw [(index1 t).1, hn]
  · show ((((cfg0.win 1).blk t).view.emb x) 1).val = (x 1).val
    blk_simp
    exact (index1 t).2.1
  · show ((((cfg0.win 1).blk t).view.emb x) 2).val = (x 2).val
    blk_simp
    rw [(index1 t).2.2, Nat.zero_mul, Nat.zero_add]

/-- After the whole grid the result holds `outTC` of the two arrays. -/
theorem arr2 (c : Dev nD) : (dat W c).arrAt 2 cfg0.N = outTC (W c (Proc.devRef .tc main_v9)) (W c (Proc.devRef .tc main_v10)) := by
  refine (dat W c).arrAt_eq_of_covers 2 _ (by decide +kernel) fun t hf y => ?_
  blk_simp
  have h0 : ((((cfg0.win 2).blk t).view.emb y) 0).val = (grid0.coords t 0).val := by
    blk_simp
    exact (index2 t).1
  have h1 : ((((cfg0.win 2).blk t).view.emb y) 1).val = (y 1).val := by
    blk_simp
    exact (index2 t).2.1
  have h2 : ((((cfg0.win 2).blk t).view.emb y) 2).val = (y 2).val := by
    blk_simp
    rw [(index2 t).2.2, Nat.zero_mul, Nat.zero_add]
  show k0_pay1 (blk0 W c t) (blk1 W c t) y = k0_pay1 (rowsAt _ _) (thrAt _ _) _
  rw [blk0_eq W c t _ h0, blk1_eq W c t _ h0]
  refine congrArg _ (funext fun a => Fin.ext ?_)
  fin_cases a
  · exact Nat.lt_one_iff.mp (y 0).isLt
  · exact h1.symm
  · exact h2.symm

/-- The valuation the kernel leaves. -/
abbrev Wout (c : Dev nD) : Valuation τ sig (Elt F) :=
  Function.update (W c) (Proc.devRef .tc main_v11) (outTC (W c (Proc.devRef .tc main_v9)) (W c (Proc.devRef .tc main_v10)))

theorem Wout_arr (c : Dev nD) (w : Fin 3) : (dat W c).arrAt w cfg0.N = Wout W c (Proc.devRef .tc (Pipeline.arrRef spec0 w)) := by
  fin_cases w
  · exact ((dat W c).arrAt_in 0 rfl _).trans
      (Function.update_of_ne (show (Proc.tc.devRef main_v9 : DevRef τ sig) ≠ Proc.tc.devRef main_v11 by decide) _ _).symm
  · exact ((dat W c).arrAt_in 1 rfl _).trans
      (Function.update_of_ne (show (Proc.tc.devRef main_v10 : DevRef τ sig) ≠ Proc.tc.devRef main_v11 by decide) _ _).symm
  · exact (arr2 W c).trans (Function.update_self (Proc.tc.devRef main_v11 : DevRef τ sig) _ (W c)).symm

/-- The call as the program with pipelines makes it. -/
abbrev tcCall : Prog (TpuEff nD τ sig (Elt F) (ΛP (F := F)) .tc) PUnit := .op (.customCall (Pipeline.entry 0) ()) .ret

set_option backward.isDefEq.respectTransparency.types false in
theorem call_tc_inner [∀ e, Nonempty (Elt F e)] (c : Dev nD) (Q : PUnit → sProp 𝕄) :
    iprop((iprop(boundary (T c) ∗ StableHlo.held (T c) arrs0 (Wout W c) ∗ tcOwes c) -∗ Q ⟨⟩)
        ∗ boundary (T c) ∗ StableHlo.held (T c) arrs0 (W c) ∗ tcOwes c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE D 𝒱 (T c) none) Set.univ (tcCall (F := F)) Q := by
  have h := Pipeline.RegionSeg.wp (pcfgs (F := F)) adm (pdats W) none cellOf_inj EP defs₀ 𝒱₀ (K (F := F)).L (K (F := F)).lev
    (reg W (Wout W) (Wout_arr W)) c none (fun _ h => nomatch h) Prog.ret Q
  rw [show (reg W (Wout W) (Wout_arr W)).pre c = iprop(StableHlo.held (T c) arrs0 (W c) ∗ tcOwes c) from rfl,
    show (reg W (Wout W) (Wout_arr W)).post c = iprop(StableHlo.held (T c) arrs0 (Wout W c) ∗ tcOwes c) from rfl] at h
  iintro ⟨Hk, Hb, Hh, HO, Hl, Hg, Ht⟩
  iapply h
  isplitl [Hk]
  · iintro ⟨Hb, Hh, HO⟩
    sl_step
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-- The TensorCore's call: its arrays at `W` before, at `Wout W` after. -/
theorem call_tc [∀ e, Nonempty (Elt F e)] (c : Dev nD) (Q : PUnit → sProp 𝕄) :
    iprop((iprop(boundary (T c) ∗ StableHlo.held (T c) arrs0 (Wout W c) ∗ tcOwes c) -∗ Q ⟨⟩)
        ∗ boundary (T c) ∗ StableHlo.held (T c) arrs0 (W c) ∗ tcOwes c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c) none) Set.univ (Prog.lift (.customCall (SparseCore.inner (Pipeline.entry 0)) ())) Q := by
  change _ ⊢ wp _ _ _ (SparseCore.liftProg (tcCall (F := F))) _
  exact (call_tc_inner W c Q).trans ((K (F := F)).wp_liftProg D 𝒱 (T c) Set.univ none (tcCall (F := F)) Q)

end Cert.Rows

end
-- ==== Proof.Host.lean ====
/- Two straight lines of host operations that perform the same operations on buffers numbered with a fixed distance: what
the one computes, the other computes. -/
module

public import Idealize.ShloMosaic.Lib.StableHlo.Run

@[expose] public section

noncomputable section

namespace Cert.Rows

open Idealize.ShloMosaic Idealize.ShloMosaic.StableHlo
open Idealize.SL.Sem

variable {nD : Nat} {τ : Topo} {sig sig' : RefSig} {Val : EltTy → Type} {Λ Λ' : Labels}

/-- `r` is the HBM buffer numbered `i`. -/
def At {sig : RefSig} (r : Ref sig .tc) (i : ℕ) : Prop := r.space = .hbm ∧ r.idx.val = i

theorem At.unique {r r' : Ref sig .tc} {i : ℕ} (h : At r i) (h' : At r' i) : r = r' := by
  obtain ⟨s, x, n⟩ := r
  obtain ⟨s', x', n'⟩ := r'
  obtain ⟨h1, h2⟩ := h
  obtain ⟨h1', h2'⟩ := h'
  simp only at h1 h2 h1' h2'
  subst h1
  subst h1'
  obtain rfl : x = x' := Fin.ext (h2.trans h2'.symm)
  rfl

theorem At.num {r : Ref sig .tc} {i j : ℕ} (h : At r i) (h' : At r j) : i = j := h.2.symm.trans h'.2

/-- Operands on the two sides: HBM buffers three apart, the first numbered from 1 to below `n`. -/
def Src (n : ℕ) (x : Ref sig .tc) (x' : Ref sig' .tc) : Prop :=
  x.space = .hbm ∧ x'.space = .hbm ∧ x'.idx.val = x.idx.val + 3 ∧ 1 ≤ x.idx.val ∧ x.idx.val < n

/-- Results on the two sides: the HBM buffers numbered `n` and `n + 3`. -/
def Dst (n : ℕ) (y : Ref sig .tc) (y' : Ref sig' .tc) : Prop :=
  y.space = .hbm ∧ y'.space = .hbm ∧ y.idx.val = n ∧ y'.idx.val = n + 3

theorem Dst.left {n : ℕ} {y : Ref sig .tc} {y' : Ref sig' .tc} (h : Dst n y y') : At y n := ⟨h.1, h.2.2.1⟩
theorem Dst.right {n : ℕ} {y : Ref sig .tc} {y' : Ref sig' .tc} (h : Dst n y y') : At y' (n + 3) := ⟨h.2.1, h.2.2.2⟩

/-- Buffer `i` on the one side holds what buffer `i + 3` holds on the other, for every `i` from 1 to below `n`. -/
def Agree (n : ℕ) (V : Valuation τ sig Val) (V' : Valuation τ sig' Val) : Prop :=
  ∀ i, 1 ≤ i → i < n → ∀ (r : Ref sig .tc) (r' : Ref sig' .tc), At r i → At r' (i + 3) →
    HEq (V (Proc.devRef .tc r)) (V' (Proc.devRef .tc r'))

/-- Every operation of the line writes buffers numbered from `n` to below `m` only, and touches buffers of the
TensorCore only. -/
def Within (n m : ℕ) (ops : List (HloOp τ sig Val)) : Prop :=
  ∀ op ∈ ops, op.bufs ⊆ tcRefs τ sig ∧ op.fresh = ∅ ∧
    ∀ b ∈ op.writes, ∃ (r : Ref sig .tc) (i : ℕ), b = Proc.devRef .tc r ∧ At r i ∧ n ≤ i ∧ i < m

/-- Two programs are lines of operations, the one writing the buffers numbered from `n` to below `m`, the other those
numbered from `n + 3` to below `m + 3`, and they extend an agreement up to `n` to one up to `m`. -/
def Twin (n m : ℕ) (p : Prog (TpuEff nD τ sig Val Λ .tc) PUnit) (p' : Prog (TpuEff nD τ sig' Val Λ' .tc) PUnit) : Prop :=
  ∃ (ops : List (HloOp τ sig Val)) (ops' : List (HloOp τ sig' Val)), p = seq ops ∧ p' = seq ops' ∧
    n ≤ m ∧ Within n m ops ∧ Within (n + 3) (m + 3) ops' ∧
    ∀ V V', Agree n V V' → Agree m (after ops V) (after ops' V')

theorem Within.mono {n m k l : ℕ} {ops : List (HloOp τ sig Val)} (h : Within n m ops) (hk : k ≤ n) (hl : m ≤ l) :
    Within k l ops := fun op hop => by
  obtain ⟨h1, h2, h3⟩ := h op hop
  refine ⟨h1, h2, fun b hb => ?_⟩
  obtain ⟨r, i, e, hi, hn, hm⟩ := h3 b hb
  exact ⟨r, i, e, hi, by omega, by omega⟩

theorem Within.append {n m : ℕ} {ops ops' : List (HloOp τ sig Val)} (h : Within n m ops) (h' : Within n m ops') :
    Within n m (ops ++ ops') := fun op hop => by
  rcases List.mem_append.mp hop with h1 | h1
  · exact h op h1
  · exact h' op h1

theorem after_app (ops ops' : List (HloOp τ sig Val)) (V : Valuation τ sig Val) :
    after (ops ++ ops') V = after ops' (after ops V) := by
  induction ops generalizing V with
  | nil => rfl
  | cons op ops ih => exact ih _

/-- A buffer the line's numbers leave out keeps its contents. -/
theorem Within.after_eq {n m i : ℕ} {ops : List (HloOp τ sig Val)} (h : Within n m ops) {r : Ref sig .tc} (hr : At r i)
    (hi : i < n ∨ m ≤ i) (V : Valuation τ sig Val) :
    after ops V (Proc.devRef .tc r) = V (Proc.devRef .tc r) :=
  after_of_forall_not_mem ops V fun op hop hb => by
    obtain ⟨-, -, h3⟩ := h op hop
    obtain ⟨r', j, e, hj, hn, hm⟩ := h3 _ hb
    obtain rfl := Proc.devRef_injective _ e
    have := hr.num hj
    omega

/-- One after the other. -/
theorem Twin.bind {n k m : ℕ} {p : Prog (TpuEff nD τ sig Val Λ .tc) PUnit} {p' : Prog (TpuEff nD τ sig' Val Λ' .tc) PUnit}
    {q : PUnit → Prog (TpuEff nD τ sig Val Λ .tc) PUnit} {q' : PUnit → Prog (TpuEff nD τ sig' Val Λ' .tc) PUnit}
    (h : Twin n k p p') (hq : Twin k m (q ⟨⟩) (q' ⟨⟩)) : Twin n m (p >>= q) (p' >>= q') := by
  obtain ⟨o, o', rfl, rfl, hnk, w, w', a⟩ := h
  obtain ⟨s, s', e, e', hkm, x, x', b⟩ := hq
  refine ⟨o ++ s, o' ++ s', ?_, ?_, hnk.trans hkm, (w.mono le_rfl hkm).append (x.mono hnk le_rfl),
    (w'.mono le_rfl (by omega)).append (x'.mono (by omega) le_rfl), fun V V' hV => ?_⟩
  · rw [seq_append, ← e]
  · rw [seq_append, ← e']
  · rw [after_app, after_app]
    exact b _ _ (a _ _ hV)

theorem Twin.pure (n : ℕ) :
    Twin n n (Pure.pure ⟨⟩ : Prog (TpuEff nD τ sig Val Λ .tc) PUnit) (Pure.pure ⟨⟩ : Prog (TpuEff nD τ sig' Val Λ' .tc) PUnit) :=
  ⟨[], [], rfl, rfl, le_rfl, fun _ h => absurd h List.not_mem_nil, fun _ h => absurd h List.not_mem_nil, fun _ _ h => h⟩

/-- One operation on either side, each writing one buffer, with equal results from agreeing contents. -/
theorem Twin.one {n : ℕ} {op : HloOp τ sig Val} {op' : HloOp τ sig' Val} {y : Ref sig .tc} {y' : Ref sig' .tc}
    (hw : op.writes = {Proc.devRef .tc y}) (hw' : op'.writes = {Proc.devRef .tc y'}) (hy : At y n) (hy' : At y' (n + 3))
    (hb : op.bufs ⊆ tcRefs τ sig) (hb' : op'.bufs ⊆ tcRefs τ sig') (hf : op.fresh = ∅) (hf' : op'.fresh = ∅)
    (h : ∀ V V', Agree n V V' → HEq (op.result V (Proc.devRef .tc y)) (op'.result V' (Proc.devRef .tc y'))) :
    Twin n (n + 1) (hlo rfl op fun _ => .ret ⟨⟩ : Prog (TpuEff nD τ sig Val Λ .tc) PUnit)
      (hlo rfl op' fun _ => .ret ⟨⟩ : Prog (TpuEff nD τ sig' Val Λ' .tc) PUnit) := by
  refine ⟨[op], [op'], rfl, rfl, by omega, ?_, ?_, fun V V' hV i h1 hi r r' hr hr' => ?_⟩
  · intro o ho
    obtain rfl := List.mem_singleton.mp ho
    refine ⟨hb, hf, fun b hb => ⟨y, n, ?_, hy, le_rfl, by omega⟩⟩
    rw [hw] at hb
    exact Finset.mem_singleton.mp hb
  · intro o ho
    obtain rfl := List.mem_singleton.mp ho
    refine ⟨hb', hf', fun b hb => ⟨y', n + 3, ?_, hy', le_rfl, by omega⟩⟩
    rw [hw'] at hb
    exact Finset.mem_singleton.mp hb
  · by_cases e : i = n
    · subst e
      obtain rfl := hr.unique hy
      obtain rfl := hr'.unique hy'
      exact h V V' hV
    · rw [after_cons, after_nil, after_cons, after_nil,
        result_of_writes_ne op V y r hw (fun x => e (hr.num (x ▸ hy))),
        result_of_writes_ne op' V' y' r' hw' (fun x => e (by have := hr'.num (x ▸ hy'); omega))]
      exact hV i h1 (by omega) r r' hr hr'

section Ops

variable {T Ta Tb Ty : BufTy} {n : ℕ}

/-- Agreeing buffers read as values of one type are equal. -/
theorem Agree.read {V : Valuation τ sig Val} {V' : Valuation τ sig' Val} (h : Agree n V V') {x : TRef sig T} {x' : TRef sig' T}
    (hx : Src n x.ref x'.ref) :
    x.ofBuf (V (Proc.devRef .tc x.ref)) = x'.ofBuf (V' (Proc.devRef .tc x'.ref)) :=
  eq_of_heq ((cast_heq _ _).trans ((h _ hx.2.2.2.1 hx.2.2.2.2 _ _ ⟨hx.1, rfl⟩ ⟨hx.2.1, hx.2.2.1⟩).trans (cast_heq _ _).symm))

theorem toBuf_heq (y : TRef sig T) (y' : TRef sig' T) {v w : T.Contents Val} (h : v = w) :
    HEq (y.toBuf v) (y'.toBuf w) := by
  subst h
  exact (cast_heq _ _).trans (cast_heq _ _).symm

/-- A constant. -/
theorem Twin.nullary {y : TRef sig Ty} {y' : TRef sig' Ty} {v : Ty.Contents Val} (hy : Dst n y.ref y'.ref) :
    Twin n (n + 1) (hlo rfl (TRef.nullary y v) fun _ => .ret ⟨⟩ : Prog (TpuEff nD τ sig Val Λ .tc) PUnit)
      (hlo rfl (TRef.nullary y' v) fun _ => .ret ⟨⟩ : Prog (TpuEff nD τ sig' Val Λ' .tc) PUnit) :=
  Twin.one (nullary_writes _ _ _) (nullary_writes _ _ _) hy.left hy.right (nullary_bufs_sub _ _ _) (nullary_bufs_sub _ _ _) rfl rfl
    fun V V' _ => by
      rw [nullary_result', nullary_result']
      exact toBuf_heq y y' rfl

/-- A function of one buffer. -/
theorem Twin.unary {x : TRef sig T} {x' : TRef sig' T} {y : TRef sig Ty} {y' : TRef sig' Ty}
    {f : T.Contents Val → Ty.Contents Val} (hx : Src n x.ref x'.ref) (hy : Dst n y.ref y'.ref) :
    Twin n (n + 1) (hlo rfl (TRef.unary x y f) fun _ => .ret ⟨⟩ : Prog (TpuEff nD τ sig Val Λ .tc) PUnit)
      (hlo rfl (TRef.unary x' y' f) fun _ => .ret ⟨⟩ : Prog (TpuEff nD τ sig' Val Λ' .tc) PUnit) :=
  Twin.one (unary_writes _ _ _ _ _) (unary_writes _ _ _ _ _) hy.left hy.right (unary_bufs_sub _ _ _ _ _) (unary_bufs_sub _ _ _ _ _) rfl rfl
    fun V V' h => by
      rw [unary_result', unary_result']
      exact toBuf_heq y y' (congrArg f (h.read hx))

/-- A function of two buffers. -/
theorem Twin.binary {a : TRef sig Ta} {a' : TRef sig' Ta} {b : TRef sig Tb} {b' : TRef sig' Tb} {y : TRef sig Ty} {y' : TRef sig' Ty}
    {f : Ta.Contents Val → Tb.Contents Val → Ty.Contents Val}
    (ha : Src n a.ref a'.ref) (hb : Src n b.ref b'.ref) (hy : Dst n y.ref y'.ref) :
    Twin n (n + 1) (hlo rfl (TRef.binary a b y f) fun _ => .ret ⟨⟩ : Prog (TpuEff nD τ sig Val Λ .tc) PUnit)
      (hlo rfl (TRef.binary a' b' y' f) fun _ => .ret ⟨⟩ : Prog (TpuEff nD τ sig' Val Λ' .tc) PUnit) :=
  Twin.one (binary_writes _ _ _ _ _ _ _) (binary_writes _ _ _ _ _ _ _) hy.left hy.right (binary_bufs_sub _ _ _ _ _ _ _)
    (binary_bufs_sub _ _ _ _ _ _ _) rfl rfl
    fun V V' h => by
      rw [binary_result', binary_result']
      exact toBuf_heq y y' (congrArg₂ f (h.read ha) (h.read hb))

theorem reshape_heq {A A' B B' T U : BufTy} (ea : A = T) (ea' : A' = T) (eb : B = U) (eb' : B' = U)
    (he : A.elt = B.elt) (he' : A'.elt = B'.elt) (hn : A.shape.ShapeCasts B.shape) (hn' : A'.shape.ShapeCasts B'.shape)
    {v : A.Contents Val} {v' : A'.Contents Val} (h : HEq v v') :
    HEq (fun i => he ▸ shapeCast B.shape v hn i : B.Contents Val) (fun i => he' ▸ shapeCast B'.shape v' hn' i : B'.Contents Val) := by
  subst ea
  subst eb
  subst ea'
  subst eb'
  obtain rfl := eq_of_heq h
  rfl

/-- A reshape. -/
theorem Twin.reshape {x : TRef sig T} {x' : TRef sig' T} {y : TRef sig Ty} {y' : TRef sig' Ty}
    {he : T.elt = Ty.elt} {hn : T.shape.ShapeCasts Ty.shape} (hx : Src n x.ref x'.ref) (hy : Dst n y.ref y'.ref) :
    Twin n (n + 1) (hlo rfl (TRef.reshape x y he hn) fun _ => .ret ⟨⟩ : Prog (TpuEff nD τ sig Val Λ .tc) PUnit)
      (hlo rfl (TRef.reshape x' y' he hn) fun _ => .ret ⟨⟩ : Prog (TpuEff nD τ sig' Val Λ' .tc) PUnit) :=
  Twin.one (reshape_writes _ _ _ _ _ _) (reshape_writes _ _ _ _ _ _) hy.left hy.right (reshape_bufs_sub _ _ _ _ _ _)
    (reshape_bufs_sub _ _ _ _ _ _) rfl rfl
    fun V V' h => by
      rw [reshape_result', reshape_result']
      exact reshape_heq x.ty_eq x'.ty_eq y.ty_eq y'.ty_eq _ _ _ _ (h _ hx.2.2.2.1 hx.2.2.2.2 _ _ ⟨hx.1, rfl⟩ ⟨hx.2.1, hx.2.2.1⟩)

end Ops

/-- `Twin` for the beginnings of two programs that go on as `Q` and `Q'`. -/
def TwinTo (n m : ℕ) (P Q : Prog (TpuEff nD τ sig Val Λ .tc) PUnit) (P' Q' : Prog (TpuEff nD τ sig' Val Λ' .tc) PUnit) : Prop :=
  ∃ (ops : List (HloOp τ sig Val)) (ops' : List (HloOp τ sig' Val)), P = (seq ops >>= fun _ => Q) ∧ P' = (seq ops' >>= fun _ => Q') ∧
    n ≤ m ∧ Within n m ops ∧ Within (n + 3) (m + 3) ops' ∧
    ∀ V V', Agree n V V' → Agree m (after ops V) (after ops' V')

theorem TwinTo.done (n : ℕ) (Q : Prog (TpuEff nD τ sig Val Λ .tc) PUnit) (Q' : Prog (TpuEff nD τ sig' Val Λ' .tc) PUnit) :
    TwinTo n n Q Q Q' Q' :=
  ⟨[], [], by rw [seq, pure_bind], by rw [seq, pure_bind], le_rfl, fun _ h => absurd h List.not_mem_nil,
    fun _ h => absurd h List.not_mem_nil, fun _ _ h => h⟩

theorem TwinTo.step {n k m : ℕ} {p : Prog (TpuEff nD τ sig Val Λ .tc) PUnit} {p' : Prog (TpuEff nD τ sig' Val Λ' .tc) PUnit}
    {q : PUnit → Prog (TpuEff nD τ sig Val Λ .tc) PUnit} {q' : PUnit → Prog (TpuEff nD τ sig' Val Λ' .tc) PUnit}
    {Q : Prog (TpuEff nD τ sig Val Λ .tc) PUnit} {Q' : Prog (TpuEff nD τ sig' Val Λ' .tc) PUnit}
    (h : Twin n k p p') (hq : TwinTo k m (q ⟨⟩) Q (q' ⟨⟩) Q') : TwinTo n m (p >>= q) Q (p' >>= q') Q' := by
  obtain ⟨o, o', rfl, rfl, hnk, w, w', a⟩ := h
  obtain ⟨s, s', e, e', hkm, x, x', b⟩ := hq
  refine ⟨o ++ s, o' ++ s', ?_, ?_, hnk.trans hkm, (w.mono le_rfl hkm).append (x.mono hnk le_rfl),
    (w'.mono le_rfl (by omega)).append (x'.mono (by omega) le_rfl), fun V V' hV => ?_⟩
  · rw [seq_append, bind_assoc, ← e]
  · rw [seq_append, bind_assoc, ← e']
  · rw [after_app, after_app]
    exact b _ _ (a _ _ hV)

end Cert.Rows

end
-- ==== Proof.Uniform.lean ====
/- The thresholds of the kernel and of the reference come out of the same operations on buffers numbered three apart, so
they are equal. -/
module

public import proofs.«01_k».proof.Proof.Host
public import proofs.«01_k».proof.Defs
public import proofs.«01_k».proof.Proof.Gen.KernelIdeal
public import proofs.«01_k».proof.Proof.Gen.ReferenceIdeal

@[expose] public section

noncomputable section

namespace Cert.Rows

open Idealize.ShloMosaic Idealize.ShloMosaic.StableHlo
open Idealize.SL.Sem

variable {F : FTy → Type} [FloatOps F]

set_option maxHeartbeats 4000000 in
/-- The first part of the hash. -/
theorem twin_hash0 : Twin 40 100
    (KernelIdeal.fn_threefry2x32.body_part0 (F := F) KernelIdeal.main_call0.v5 KernelIdeal.main_call0.v7 KernelIdeal.main_call0.v22
      KernelIdeal.main_call0.v21 KernelIdeal.main_call0.call0)
    (ReferenceIdeal.fn_threefry2x32.body_part0 (F := F) ReferenceIdeal.main_call1.v5 ReferenceIdeal.main_call1.v7
      ReferenceIdeal.main_call1.v22 ReferenceIdeal.main_call1.v21 ReferenceIdeal.main_call1.call0) := by
  unfold KernelIdeal.fn_threefry2x32.body_part0 ReferenceIdeal.fn_threefry2x32.body_part0
  repeat refine Twin.bind (by
    first
      | (with_reducible refine Twin.binary ?_ ?_ ?_) <;> first | exact ⟨rfl, rfl, rfl, by decide, by decide⟩ | exact ⟨rfl, rfl, rfl, rfl⟩
      | (with_reducible refine Twin.unary ?_ ?_) <;> first | exact ⟨rfl, rfl, rfl, by decide, by decide⟩ | exact ⟨rfl, rfl, rfl, rfl⟩
      | (with_reducible refine Twin.nullary ?_) <;> exact ⟨rfl, rfl, rfl, rfl⟩) ?_
  (with_reducible refine Twin.binary ?_ ?_ ?_) <;> first | exact ⟨rfl, rfl, rfl, by decide, by decide⟩ | exact ⟨rfl, rfl, rfl, rfl⟩

set_option maxHeartbeats 4000000 in
/-- The second part of the hash. -/
theorem twin_hash1 : Twin 100 160
    (KernelIdeal.fn_threefry2x32.body_part1 (F := F) KernelIdeal.main_call0.v5 KernelIdeal.main_call0.v7 KernelIdeal.main_call0.v22
      KernelIdeal.main_call0.v21 KernelIdeal.main_call0.call0)
    (ReferenceIdeal.fn_threefry2x32.body_part1 (F := F) ReferenceIdeal.main_call1.v5 ReferenceIdeal.main_call1.v7
      ReferenceIdeal.main_call1.v22 ReferenceIdeal.main_call1.v21 ReferenceIdeal.main_call1.call0) := by
  unfold KernelIdeal.fn_threefry2x32.body_part1 ReferenceIdeal.fn_threefry2x32.body_part1
  repeat refine Twin.bind (by
    first
      | (with_reducible refine Twin.binary ?_ ?_ ?_) <;> first | exact ⟨rfl, rfl, rfl, by decide, by decide⟩ | exact ⟨rfl, rfl, rfl, rfl⟩
      | (with_reducible refine Twin.unary ?_ ?_) <;> first | exact ⟨rfl, rfl, rfl, by decide, by decide⟩ | exact ⟨rfl, rfl, rfl, rfl⟩
      | (with_reducible refine Twin.nullary ?_) <;> exact ⟨rfl, rfl, rfl, rfl⟩) ?_
  (with_reducible refine Twin.binary ?_ ?_ ?_) <;> first | exact ⟨rfl, rfl, rfl, by decide, by decide⟩ | exact ⟨rfl, rfl, rfl, rfl⟩

set_option maxHeartbeats 4000000 in
/-- The third part of the hash. -/
theorem twin_hash2 : Twin 160 220
    (KernelIdeal.fn_threefry2x32.body_part2 (F := F) KernelIdeal.main_call0.v5 KernelIdeal.main_call0.v7 KernelIdeal.main_call0.v22
      KernelIdeal.main_call0.v21 KernelIdeal.main_call0.call0)
    (ReferenceIdeal.fn_threefry2x32.body_part2 (F := F) ReferenceIdeal.main_call1.v5 ReferenceIdeal.main_call1.v7
      ReferenceIdeal.main_call1.v22 ReferenceIdeal.main_call1.v21 ReferenceIdeal.main_call1.call0) := by
  unfold KernelIdeal.fn_threefry2x32.body_part2 ReferenceIdeal.fn_threefry2x32.body_part2
  repeat refine Twin.bind (by
    first
      | (with_reducible refine Twin.binary ?_ ?_ ?_) <;> first | exact ⟨rfl, rfl, rfl, by decide, by decide⟩ | exact ⟨rfl, rfl, rfl, rfl⟩
      | (with_reducible refine Twin.unary ?_ ?_) <;> first | exact ⟨rfl, rfl, rfl, by decide, by decide⟩ | exact ⟨rfl, rfl, rfl, rfl⟩
      | (with_reducible refine Twin.nullary ?_) <;> exact ⟨rfl, rfl, rfl, rfl⟩) ?_
  (with_reducible refine Twin.binary ?_ ?_ ?_) <;> first | exact ⟨rfl, rfl, rfl, by decide, by decide⟩ | exact ⟨rfl, rfl, rfl, rfl⟩

set_option maxHeartbeats 4000000 in
/-- The last part of the hash. -/
theorem twin_hash3 : Twin 220 262
    (KernelIdeal.fn_threefry2x32.body_part3 (F := F) KernelIdeal.main_call0.v5 KernelIdeal.main_call0.v7 KernelIdeal.main_call0.v22
      KernelIdeal.main_call0.v21 KernelIdeal.main_call0.call0)
    (ReferenceIdeal.fn_threefry2x32.body_part3 (F := F) ReferenceIdeal.main_call1.v5 ReferenceIdeal.main_call1.v7
      ReferenceIdeal.main_call1.v22 ReferenceIdeal.main_call1.v21 ReferenceIdeal.main_call1.call0) := by
  unfold KernelIdeal.fn_threefry2x32.body_part3 ReferenceIdeal.fn_threefry2x32.body_part3
  repeat refine Twin.bind (by
    first
      | (with_reducible refine Twin.binary ?_ ?_ ?_) <;> first | exact ⟨rfl, rfl, rfl, by decide, by decide⟩ | exact ⟨rfl, rfl, rfl, rfl⟩
      | (with_reducible refine Twin.unary ?_ ?_) <;> first | exact ⟨rfl, rfl, rfl, by decide, by decide⟩ | exact ⟨rfl, rfl, rfl, rfl⟩
      | (with_reducible refine Twin.nullary ?_) <;> exact ⟨rfl, rfl, rfl, rfl⟩) ?_
  exact Twin.pure _

/-- The hash. -/
theorem twin_hash : Twin 40 262
    (KernelIdeal.fn_threefry2x32.body (F := F) KernelIdeal.main_call0.v5 KernelIdeal.main_call0.v7 KernelIdeal.main_call0.v22
      KernelIdeal.main_call0.v21 KernelIdeal.main_call0.call0)
    (ReferenceIdeal.fn_threefry2x32.body (F := F) ReferenceIdeal.main_call1.v5 ReferenceIdeal.main_call1.v7
      ReferenceIdeal.main_call1.v22 ReferenceIdeal.main_call1.v21 ReferenceIdeal.main_call1.call0) := by
  unfold KernelIdeal.fn_threefry2x32.body ReferenceIdeal.fn_threefry2x32.body
  exact Twin.bind twin_hash0 (Twin.bind twin_hash1 (Twin.bind twin_hash2 twin_hash3))

set_option maxHeartbeats 4000000 in
/-- The uniform numbers. -/
theorem twin_uniform : Twin 13 280
    (KernelIdeal.fn_uniform.body (F := F) (.of KernelIdeal.main_v6) (.of KernelIdeal.main_cst) (.of KernelIdeal.main_cst_2)
      KernelIdeal.main_call0)
    (ReferenceIdeal.fn_uniform.body (F := F) (.of ReferenceIdeal.main_v7) (.of ReferenceIdeal.main_cst) (.of ReferenceIdeal.main_cst_2)
      ReferenceIdeal.main_call1) := by
  unfold KernelIdeal.fn_uniform.body ReferenceIdeal.fn_uniform.body
  repeat refine Twin.bind (by
    first
      | (with_reducible refine Twin.binary ?_ ?_ ?_) <;> first | exact ⟨rfl, rfl, rfl, by decide, by decide⟩ | exact ⟨rfl, rfl, rfl, rfl⟩
      | (with_reducible refine Twin.unary ?_ ?_) <;> first | exact ⟨rfl, rfl, rfl, by decide, by decide⟩ | exact ⟨rfl, rfl, rfl, rfl⟩
      | (with_reducible refine Twin.nullary ?_) <;> exact ⟨rfl, rfl, rfl, rfl⟩
      | (with_reducible refine Twin.reshape ?_ ?_) <;> first | exact ⟨rfl, rfl, rfl, by decide, by decide⟩ | exact ⟨rfl, rfl, rfl, rfl⟩
      | exact twin_hash) ?_
  exact Twin.pure _

end Cert.Rows

end
-- ==== Proof.Lead.lean ====
/- How the host's part of the kernel and of the reference begin: the lines of operations that make the thresholds, and what
follows them. -/
module

public import proofs.«01_k».proof.Proof.Uniform

@[expose] public section

noncomputable section

namespace Cert.Rows

open Idealize.ShloMosaic Idealize.ShloMosaic.StableHlo
open Idealize.ShloMosaic.TcCoe
open Idealize.SL.Sem

variable {F : FTy → Type} [FloatOps F]

section Kernel
open Cert.KernelIdeal
open Facts₀ Facts

/-- The three reshapes before the kernel's calls. -/
def opsK : List (HloOp τ sig (Elt F)) :=
  [StableHlo.reshape main_v7 main_v8 (rfl : (.f32 : EltTy) = .f32) shapeCasts_S32x16384x1_S32x16384,
   StableHlo.reshape main_arg0 main_v9 (rfl : (.f32 : EltTy) = .f32) shapeCasts_S32x16384x65_S524288x65,
   StableHlo.reshape main_v8 main_v10 (rfl : (.f32 : EltTy) = .f32) shapeCasts_S32x16384_S128x1x4096]

/-- The two operations after the calls: the TensorCore's counts as rows, and the SparseCore's below them. -/
def opsE : List (HloOp τ sig (Elt F)) :=
  [StableHlo.reshape main_v11 main_v13 (rfl : (.i32 : EltTy) = .i32) shapeCasts_S112x1x4096_S28x16384,
   StableHlo.binary main_v13 main_v12 main_v14
    ((fun a b => concatenate S32x16384 0 [⟨S28x16384, a⟩, ⟨S4x16384, b⟩] concatenates_S28x16384_S4x16384_S32x16384_d0) :
      (⟨S28x16384, .i32⟩ : BufTy).Contents (Elt F) → (⟨S4x16384, .i32⟩ : BufTy).Contents (Elt F) →
        (⟨S32x16384, .i32⟩ : BufTy).Contents (Elt F))]

/-- The kernel's program from the three reshapes on. -/
def restK (d : Dev nD) :
    Prog (TpuEff nD τ sig (Elt F) (SparseCore.Sig (Pipeline.Sig Λ₀ (Fin 1) fun p => (pcfgs (F := F) p).Adm) 1) .tc) PUnit :=
  seq opsK >>= fun _ => Prog.lift (.customCall (SparseCore.inner (Pipeline.entry 0)) ()) >>= fun _ => sc.run d 0 >>= fun _ => seq opsE

end Kernel

section Reference
open Cert.ReferenceIdeal
open Facts₀ Facts

/-- The prefix sums of the reference. -/
def opsC : List (HloOp τ sig (Elt F)) :=
  [TRef.nullary main_call0.call0.cst (constant S_ .f32 0x00000000#32),
   TRef.unary main_call0.call0.cst main_call0.call0.v0 (broadcastInDim S_ ![] bcast_S_S_),
   TRef.binary (.of main_arg0) main_call0.call0.v0 main_call0.call0.v1
    (fun x v => Host.reduceWindowAdd ![1, 1, 65] ![1, 1, 1] ![0, 0, 64] ![0, 0, 0] x v
      reduceWindows_S32x16384x65_S32x16384x65_w1s1p0_0_w1s1p0_0_w65s1p64_0 h_S_)]

/-- The reference's comparisons and their count. -/
def opsR : List (HloOp τ sig (Elt F)) :=
  [StableHlo.unary main_v8 main_v9 (broadcastInDim S32x16384x65 ![0, 1, 2] bcast_S32x16384x1_S32x16384x65_0_1_2 :
      (⟨S32x16384x1, .f32⟩ : BufTy).Contents (Elt F) → (⟨S32x16384x65, .f32⟩ : BufTy).Contents (Elt F)),
   StableHlo.binary main_v9 main_v0 main_v10 (cmpf .ogt :
      (⟨S32x16384x65, .f32⟩ : BufTy).Contents (Elt F) → (⟨S32x16384x65, .f32⟩ : BufTy).Contents (Elt F) →
        (⟨S32x16384x65, .i1⟩ : BufTy).Contents (Elt F)),
   StableHlo.unary main_v10 main_v11 ((extui 32 · natLt_1_32) :
      (⟨S32x16384x65, .i1⟩ : BufTy).Contents (Elt F) → (⟨S32x16384x65, .i32⟩ : BufTy).Contents (Elt F)),
   StableHlo.nullary main_c_3 (constantI S_ 32 0#32),
   StableHlo.binary main_v11 main_c_3 main_v12
    ((fun x v => Host.reduce IntOp.addi x v reducesTo_S32x16384x65_S32x16384_d2 h_S_) :
      (⟨S32x16384x65, .i32⟩ : BufTy).Contents (Elt F) → (⟨S_, .i32⟩ : BufTy).Contents (Elt F) →
        (⟨S32x16384, .i32⟩ : BufTy).Contents (Elt F))]

theorem cumsum_seq : (fn_cumsum.body (F := F) (.of main_arg0) main_call0) = seq opsC := rfl

end Reference

set_option maxHeartbeats 4000000 in
/-- Both programs begin with lines of operations that leave equal thresholds, whatever the buffers held before. -/
theorem lead (d : Dev KernelIdeal.nD) (d' : Dev ReferenceIdeal.nD) :
    ∃ (ops : List (HloOp KernelIdeal.τ KernelIdeal.sig (Elt F))) (ops' : List (HloOp ReferenceIdeal.τ ReferenceIdeal.sig (Elt F))),
      KernelIdeal.main (F := F) d = (seq ops >>= fun _ => restK d) ∧
      ReferenceIdeal.main (F := F) d' = (seq opsC >>= fun _ => seq ops' >>= fun _ => seq opsR) ∧
      Within 1 280 ops ∧ Within 4 283 ops' ∧
      ∀ V V', Agree 280 (after ops V) (after ops' V') := by
  have key : ∀ {P Q : Prog (TpuEff KernelIdeal.nD KernelIdeal.τ KernelIdeal.sig (Elt F)
        (SparseCore.Sig (Pipeline.Sig KernelIdeal.Λ₀ (Fin 1) fun p => (KernelIdeal.pcfgs (F := F) p).Adm) 1) .tc) PUnit}
      {c : Prog (TpuEff ReferenceIdeal.nD ReferenceIdeal.τ ReferenceIdeal.sig (Elt F)
        (Pipeline.Sig ReferenceIdeal.Λ₀ (Fin 0) fun p => (ReferenceIdeal.pcfgs (F := F) p).Adm) .tc) PUnit}
      {X : PUnit → Prog (TpuEff ReferenceIdeal.nD ReferenceIdeal.τ ReferenceIdeal.sig (Elt F)
        (Pipeline.Sig ReferenceIdeal.Λ₀ (Fin 0) fun p => (ReferenceIdeal.pcfgs (F := F) p).Adm) .tc) PUnit}
      {Q' : Prog (TpuEff ReferenceIdeal.nD ReferenceIdeal.τ ReferenceIdeal.sig (Elt F)
        (Pipeline.Sig ReferenceIdeal.Λ₀ (Fin 0) fun p => (ReferenceIdeal.pcfgs (F := F) p).Adm) .tc) PUnit}, TwinTo (τ := KernelIdeal.τ) (nD := KernelIdeal.nD) (sig := KernelIdeal.sig) (sig' := ReferenceIdeal.sig)
      (Val := Elt F) (Λ := SparseCore.Sig (Pipeline.Sig KernelIdeal.Λ₀ (Fin 1) fun p => (KernelIdeal.pcfgs (F := F) p).Adm) 1)
      (Λ' := Pipeline.Sig ReferenceIdeal.Λ₀ (Fin 0) fun p => (ReferenceIdeal.pcfgs (F := F) p).Adm) 1 280 P Q (X ⟨⟩) Q' →
      ∃ (ops : List (HloOp KernelIdeal.τ KernelIdeal.sig (Elt F))) (ops' : List (HloOp ReferenceIdeal.τ ReferenceIdeal.sig (Elt F))),
        P = (seq ops >>= fun _ => Q) ∧ (c >>= X) = (c >>= fun _ => seq ops' >>= fun _ => Q') ∧
        Within 1 280 ops ∧ Within 4 283 ops' ∧ ∀ V V', Agree 280 (after ops V) (after ops' V') := by
    rintro P Q c X Q' ⟨o, o', e, e', -, w, w', a⟩
    refine ⟨o, o', e, ?_, w, w', fun V V' => a V V' fun i h1 h2 => by omega⟩
    exact congrArg (c >>= ·) (funext fun _ => e')
  rw [← cumsum_seq]
  unfold KernelIdeal.main ReferenceIdeal.main
  refine key ?_
  refine TwinTo.step (by
    exact Twin.nullary (Val := Elt F) (y := .of KernelIdeal.main_c) (y' := .of ReferenceIdeal.main_c) ⟨rfl, rfl, rfl, rfl⟩) ?_
  refine TwinTo.step (by
    exact Twin.nullary (Val := Elt F) (y := .of KernelIdeal.main_c_0) (y' := .of ReferenceIdeal.main_c_0) ⟨rfl, rfl, rfl, rfl⟩) ?_
  refine TwinTo.step (by
    exact Twin.binary (Val := Elt F) (a := .of KernelIdeal.main_c) (a' := .of ReferenceIdeal.main_c) (b := .of KernelIdeal.main_c_0)
      (b' := .of ReferenceIdeal.main_c_0) (y := .of KernelIdeal.main_v0) (y' := .of ReferenceIdeal.main_v1)
      (f := (Host.shrui : (⟨KernelIdeal.S_, .i32⟩ : BufTy).Contents (Elt F) →
        (⟨KernelIdeal.S_, .i32⟩ : BufTy).Contents (Elt F) → (⟨KernelIdeal.S_, .i32⟩ : BufTy).Contents (Elt F)))
      ⟨rfl, rfl, rfl, by decide, by decide⟩ ⟨rfl, rfl, rfl, by decide, by decide⟩ ⟨rfl, rfl, rfl, rfl⟩) ?_
  refine TwinTo.step (by
    exact Twin.unary (Val := Elt F) (x := .of KernelIdeal.main_v0) (x' := .of ReferenceIdeal.main_v1) (y := .of KernelIdeal.main_v1)
      (y' := .of ReferenceIdeal.main_v2)
      (f := (id : (⟨KernelIdeal.S_, .i32⟩ : BufTy).Contents (Elt F) → (⟨KernelIdeal.S_, .i32⟩ : BufTy).Contents (Elt F))) ⟨rfl, rfl, rfl, by decide, by decide⟩ ⟨rfl, rfl, rfl, rfl⟩) ?_
  refine TwinTo.step (by
    exact Twin.unary (Val := Elt F) (x := .of KernelIdeal.main_v1) (x' := .of ReferenceIdeal.main_v2) (y := .of KernelIdeal.main_v2)
      (y' := .of ReferenceIdeal.main_v3)
      (f := (broadcastInDim KernelIdeal.S1 ![] KernelIdeal.Facts₀.bcast_S_S1 :
        (⟨KernelIdeal.S_, .i32⟩ : BufTy).Contents (Elt F) → (⟨KernelIdeal.S1, .i32⟩ : BufTy).Contents (Elt F))) ⟨rfl, rfl, rfl, by decide, by decide⟩ ⟨rfl, rfl, rfl, rfl⟩) ?_
  refine TwinTo.step (by
    exact Twin.nullary (Val := Elt F) (y := .of KernelIdeal.main_c_1) (y' := .of ReferenceIdeal.main_c_1) ⟨rfl, rfl, rfl, rfl⟩) ?_
  refine TwinTo.step (by
    exact Twin.binary (Val := Elt F) (a := .of KernelIdeal.main_c) (a' := .of ReferenceIdeal.main_c) (b := .of KernelIdeal.main_c_1)
      (b' := .of ReferenceIdeal.main_c_1) (y := .of KernelIdeal.main_v3) (y' := .of ReferenceIdeal.main_v4)
      (f := (andi : (⟨KernelIdeal.S_, .i32⟩ : BufTy).Contents (Elt F) →
        (⟨KernelIdeal.S_, .i32⟩ : BufTy).Contents (Elt F) → (⟨KernelIdeal.S_, .i32⟩ : BufTy).Contents (Elt F)))
      ⟨rfl, rfl, rfl, by decide, by decide⟩ ⟨rfl, rfl, rfl, by decide, by decide⟩ ⟨rfl, rfl, rfl, rfl⟩) ?_
  refine TwinTo.step (by
    exact Twin.unary (Val := Elt F) (x := .of KernelIdeal.main_v3) (x' := .of ReferenceIdeal.main_v4) (y := .of KernelIdeal.main_v4)
      (y' := .of ReferenceIdeal.main_v5)
      (f := (id : (⟨KernelIdeal.S_, .i32⟩ : BufTy).Contents (Elt F) → (⟨KernelIdeal.S_, .i32⟩ : BufTy).Contents (Elt F))) ⟨rfl, rfl, rfl, by decide, by decide⟩ ⟨rfl, rfl, rfl, rfl⟩) ?_
  refine TwinTo.step (by
    exact Twin.unary (Val := Elt F) (x := .of KernelIdeal.main_v4) (x' := .of ReferenceIdeal.main_v5) (y := .of KernelIdeal.main_v5)
      (y' := .of ReferenceIdeal.main_v6)
      (f := (broadcastInDim KernelIdeal.S1 ![] KernelIdeal.Facts₀.bcast_S_S1 :
        (⟨KernelIdeal.S_, .i32⟩ : BufTy).Contents (Elt F) → (⟨KernelIdeal.S1, .i32⟩ : BufTy).Contents (Elt F))) ⟨rfl, rfl, rfl, by decide, by decide⟩ ⟨rfl, rfl, rfl, rfl⟩) ?_
  refine TwinTo.step (by
    exact Twin.binary (Val := Elt F) (a := .of KernelIdeal.main_v2) (a' := .of ReferenceIdeal.main_v3) (b := .of KernelIdeal.main_v5)
      (b' := .of ReferenceIdeal.main_v6) (y := .of KernelIdeal.main_v6) (y' := .of ReferenceIdeal.main_v7)
      (f := ((fun a b => concatenate KernelIdeal.S2 0 [⟨KernelIdeal.S1, a⟩, ⟨KernelIdeal.S1, b⟩]
        KernelIdeal.Facts₀.concatenates_S1_S1_S2_d0) : (⟨KernelIdeal.S1, .i32⟩ : BufTy).Contents (Elt F) →
          (⟨KernelIdeal.S1, .i32⟩ : BufTy).Contents (Elt F) → (⟨KernelIdeal.S2, .i32⟩ : BufTy).Contents (Elt F)))
      ⟨rfl, rfl, rfl, by decide, by decide⟩ ⟨rfl, rfl, rfl, by decide, by decide⟩ ⟨rfl, rfl, rfl, rfl⟩) ?_
  refine TwinTo.step (by
    exact Twin.nullary (Val := Elt F) (y := .of KernelIdeal.main_cst) (y' := .of ReferenceIdeal.main_cst) ⟨rfl, rfl, rfl, rfl⟩) ?_
  refine TwinTo.step (by
    exact Twin.nullary (Val := Elt F) (y := .of KernelIdeal.main_cst_2) (y' := .of ReferenceIdeal.main_cst_2) ⟨rfl, rfl, rfl, rfl⟩) ?_
  refine TwinTo.step twin_uniform ?_
  exact TwinTo.done 280 _ _

end Cert.Rows

end
-- ==== Proof.Launch.lean ====
/- The kernel's whole program: the host's operations, the TensorCore's call, the SparseCores' call, and what every run of it
leaves. -/
module

public import proofs.«01_k».proof.Proof.RegionRun
public import proofs.«01_k».proof.Proof.Lead

@[expose] public section

noncomputable section

namespace Cert.Rows

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

open Idealize.ShloMosaic.StableHlo (held seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the buffers hold along the program -/

/-- The operations that make the thresholds. -/
noncomputable def opsU (d : Dev nD) : List (HloOp τ sig (Elt F)) := (lead (F := F) d (0 : Fin 1)).choose

theorem main_eq (d : Dev nD) : main (F := F) d = (seq (opsU d) >>= fun _ => restK d) :=
  (lead (F := F) d (0 : Fin 1)).choose_spec.choose_spec.1
theorem opsU_within (d : Dev nD) : Within 1 280 (opsU (F := F) d) :=
  (lead (F := F) d (0 : Fin 1)).choose_spec.choose_spec.2.2.1

/-- The unscoped buffers of a TensorCore. -/
abbrev unsc : Finset (DevRef τ sig) := Pipeline.ucRefs τ sig

/-- At the launch, -/
abbrev W0 (d : Dev nD) : Valuation τ sig (Elt F) := StableHlo.launchContents m d
/-- before the calls, -/
noncomputable def W1 (d : Dev nD) : Valuation τ sig (Elt F) := after opsK (after (opsU d) (W0 m d))
/-- the thresholds there, -/
abbrev fu (d : Dev nD) : Buf (Elt F) (uLoc d) := W1 m d (Proc.devRef .tc main_v8)
/-- after the TensorCore's call, -/
abbrev W2 (d : Dev nD) : Valuation τ sig (Elt F) := Wout (W1 m) d
/-- after the SparseCores' call, -/
noncomputable def W3 (d : Dev nD) : Valuation τ sig (Elt F) := Function.update (W2 m d) (Proc.devRef .tc main_v12) (outD m (fu m) d)
/-- and at the end. -/
noncomputable def W4 (d : Dev nD) : Valuation τ sig (Elt F) := after opsE (W3 m d)

theorem sub_unsc {op : HloOp τ sig (Elt F)} (h : op.bufs ⊆ StableHlo.tcRefs τ sig) : op.bufs ⊆ unsc := by
  intro b hb
  unfold unsc Pipeline.ucRefs
  exact Finset.mem_filter.mpr ⟨h hb, by simp [op.no_scoped b hb]⟩

theorem unscopedBufs_held (d : Dev nD) :
    (unscopedBufs d (fun b => m ((SparseCore.T d).loc b)) : sProp 𝕄) = held (SparseCore.T d) unsc (W0 m d) := by
  unfold unscopedBufs StableHlo.held unsc Pipeline.ucRefs StableHlo.tcRefs
  rw [Finset.filter_map, bigSep_map]
  rfl

theorem opsK_ok : ∀ op ∈ opsK (F := F), op.bufs ⊆ StableHlo.tcRefs τ sig ∧ op.fresh = ∅ := by
  intro op h
  simp only [opsK, List.mem_cons, List.not_mem_nil, or_false] at h
  rcases h with rfl | rfl | rfl <;> exact ⟨StableHlo.reshape_bufs_sub _ _ _ _ _ _, rfl⟩

theorem opsE_ok : ∀ op ∈ opsE (F := F), op.bufs ⊆ StableHlo.tcRefs τ sig ∧ op.fresh = ∅ := by
  intro op h
  simp only [opsE, List.mem_cons, List.not_mem_nil, or_false] at h
  rcases h with rfl | rfl
  · exact ⟨StableHlo.reshape_bufs_sub _ _ _ _ _ _, rfl⟩
  · exact ⟨StableHlo.binary_bufs_sub _ _ _ _ _ _ _, rfl⟩

/-- No operation before the calls writes the argument or the SparseCores' result. -/
theorem W1_keep (d : Dev nD) {r : Ref sig .tc} {i : ℕ} (hr : At r i) (h : i < 1 ∨ 283 ≤ i) :
    W1 m d (Proc.devRef .tc r) = m ((SparseCore.T d).loc r) := by
  have hK : Within 280 283 (opsK (F := F)) := by
    intro op ho
    refine ⟨(opsK_ok op ho).1, (opsK_ok op ho).2, fun b hb => ?_⟩
    simp only [opsK, List.mem_cons, List.not_mem_nil, or_false] at ho
    rcases ho with rfl | rfl | rfl
    · exact ⟨main_v8, 280, Finset.mem_singleton.mp hb, ⟨rfl, rfl⟩, by decide, by decide⟩
    · exact ⟨main_v9, 281, Finset.mem_singleton.mp hb, ⟨rfl, rfl⟩, by decide, by decide⟩
    · exact ⟨main_v10, 282, Finset.mem_singleton.mp hb, ⟨rfl, rfl⟩, by decide, by decide⟩
  unfold W1
  rw [hK.after_eq hr (by omega), (opsU_within d).after_eq hr (by omega)]

theorem W1_arg (d : Dev nD) : W1 m d (Proc.devRef .tc main_arg0) = m (pLoc d) := W1_keep m d (i := 0) ⟨rfl, rfl⟩ (by decide)
theorem W1_res (d : Dev nD) : W1 m d (Proc.devRef .tc main_v12) = m (oLoc d) := W1_keep m d (i := 284) ⟨rfl, rfl⟩ (by decide)

theorem W4_arg (d : Dev nD) : W4 m d (Proc.devRef .tc main_arg0) = m (pLoc d) := by
  unfold W4 opsE
  rw [StableHlo.after_cons, StableHlo.after_cons, StableHlo.after_nil, StableHlo.binary_result_ne _ _ _ _ _ _ _ _ (by decide),
    StableHlo.reshape_result_ne _ _ _ _ _ _ _ (by decide)]
  unfold W3
  rw [Function.update_of_ne (show (Proc.tc.devRef main_arg0 : DevRef τ sig) ≠ Proc.tc.devRef main_v12 by decide)]
  unfold W2 Wout
  rw [Function.update_of_ne (show (Proc.tc.devRef main_arg0 : DevRef τ sig) ≠ Proc.tc.devRef main_v11 by decide), W1_arg]

/-! ## The launch's ghost state -/

/-- What a TensorCore gets for its pipelined call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

noncomputable def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem deal : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ (bigSep Finset.univ fun d : Dev nD => G (F := F) d : sProp 𝕄) := by
  have h1 : (bigSep Finset.univ fun c : Dev nD => bigSep Finset.univ fun p => Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun _ _ => bigSep_univ_of_subsingleton (0 : Fin 1)
  have h2 : (bigSep Finset.univ fun c : Dev nD => bigSep Finset.univ fun p => Pipeline.toksInit (Pipeline.pin (pcfgs (F := F)) adm) EP p c : sProp 𝕄)
      = bigSep Finset.univ fun c : Dev nD => Pipeline.toksInit (Pipeline.pin (pcfgs (F := F)) adm) EP 0 c :=
    bigSep_congr fun _ _ => bigSep_univ_of_subsingleton (0 : Fin 1)
  rw [h1, h2, bigSep_sep']

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (fu m)).x q thr) := by
  unfold u₀
  iintro Hu
  ihave H := (ownU_pair (initOf (K (F := F)).hsCells (K (F := F)).hsToks)
    ((initOf (Pipeline.cells (Pipeline.pin (pcfgs (F := F)) adm) cellOf_inj)
      (Pipeline.launchToks (Pipeline.pin (pcfgs (F := F)) adm) cellOf_inj), 1) : UP × Counters)) $$ Hu
  icases H with ⟨HH, HP⟩
  ihave HP' := (show (BI.own (embR ((initOf (Pipeline.cells (Pipeline.pin (pcfgs (F := F)) adm) cellOf_inj)
      (Pipeline.launchToks (Pipeline.pin (pcfgs (F := F)) adm) cellOf_inj), 1) : UP × Counters)) : sProp 𝕄)
    ⊢ BI.own (EP (initOf (Pipeline.cells (Pipeline.pin (pcfgs (F := F)) adm) cellOf_inj)
      (Pipeline.launchToks (Pipeline.pin (pcfgs (F := F)) adm) cellOf_inj))) from BI.Entails.refl _) $$ HP
  imod (Pipeline.fund_ghost (Pipeline.pin (pcfgs (F := F)) adm) EP cellOf_inj) $$ HP' with ⟨Hg, Ht⟩
  imodintro
  isplitl [HH]; · iexact HH
  isplitl [Hg Ht]
  · iapply deal
    isplitl [Hg]; · iexact Hg
    iexact Ht
  rw [show (bigSep Finset.univ fun thr : Thread nD τ => bigSep Finset.univ fun q : Fin 1 => (P m (fu m)).x q thr : sProp 𝕄)
    = bigSep Finset.univ fun _ => iprop(emp) from bigSep_congr fun _ _ => bigSep_univ_of_subsingleton (0 : Fin 1), bigSep_nothing]
  iempintro

end Cert.Rows

end
-- ==== Proof.Whole.lean ====
/- The run of the kernel's program on a TensorCore, and of the whole machine. -/
module

public import proofs.«01_k».proof.Defs
public import proofs.«01_k».proof.Proof.Gen.KernelIdeal
public import proofs.«01_k».proof.Proof.Launch

@[expose] public section

noncomputable section

namespace Cert.Rows

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

open Idealize.ShloMosaic.StableHlo (held seq after)

variable {F : FTy → Type} [FloatOps F]

local notation "𝕄" => MT nD τ sig (HIx 1) (Elt F) ℕ UU ℕ

variable (m : (ℓ : Loc nD τ sig) → Buf (Elt F) ℓ) (ρ : Dev nD → PrngReg)

/-- The result's place. -/
abbrev rLoc (d : Dev nD) : Loc nD τ sig := (SparseCore.T d).loc main_v14

/-- What @main leaves: the argument as it was and the result. -/
abbrev FIN (d : Dev nD) : sProp 𝕄 :=
  iprop((pLoc d ↦{fullShare} m (pLoc d)) ∗ (rLoc d ↦{fullShare} W4 m d (Proc.devRef .tc main_v14)))

/-- The buffers the SparseCores' call takes. -/
abbrev three : Finset (DevRef τ sig) := {Proc.devRef .tc main_arg0, Proc.devRef .tc main_v8, Proc.devRef .tc main_v12}

theorem mem_unsc (r : Ref sig .tc) (h : r.isScoped = false) : (Proc.devRef .tc r : DevRef τ sig) ∈ unsc := by
  unfold unsc Pipeline.ucRefs
  exact Finset.mem_filter.mpr ⟨StableHlo.devRef_mem_tcRefs r, by simp [show (Proc.devRef .tc r : DevRef τ sig).isScoped = false from h]⟩

theorem three_sub : three ⊆ unsc := by
  intro b hb
  simp only [three, Finset.mem_insert, Finset.mem_singleton] at hb
  rcases hb with rfl | rfl | rfl
  · exact mem_unsc main_arg0 rfl
  · exact mem_unsc main_v8 rfl
  · exact mem_unsc main_v12 rfl

theorem held_three (d : Dev nD) (V : Valuation τ sig (Elt F)) :
    (held (SparseCore.T d) three V : sProp 𝕄)
      = iprop((pLoc d ↦{fullShare} V (Proc.devRef .tc main_arg0)) ∗ (uLoc d ↦{fullShare} V (Proc.devRef .tc main_v8))
          ∗ (oLoc d ↦{fullShare} V (Proc.devRef .tc main_v12))) := by
  unfold StableHlo.held three
  rw [SparseCore.bigSep_insert' (by decide), SparseCore.bigSep_insert' (by decide), bigSep_singleton]

theorem arrs0_sub : arrs0 ⊆ unsc := by
  exact Pipeline.arrRefs_sub_ucRefs spec0 (by decide)

theorem W2_arg (d : Dev nD) : W2 m d (Proc.devRef .tc main_arg0) = m (pLoc d) := by
  unfold W2 Wout
  rw [Function.update_of_ne (show (Proc.tc.devRef main_arg0 : DevRef τ sig) ≠ Proc.tc.devRef main_v11 by decide), W1_arg]
theorem W2_thr (d : Dev nD) : W2 m d (Proc.devRef .tc main_v8) = fu m d := by
  unfold W2 Wout
  rw [Function.update_of_ne (show (Proc.tc.devRef main_v8 : DevRef τ sig) ≠ Proc.tc.devRef main_v11 by decide)]
theorem W2_res (d : Dev nD) : W2 m d (Proc.devRef .tc main_v12) = m (oLoc d) := by
  unfold W2 Wout
  rw [Function.update_of_ne (show (Proc.tc.devRef main_v12 : DevRef τ sig) ≠ Proc.tc.devRef main_v11 by decide), W1_res]

/-- The three buffers before the call. -/
theorem held_before (d : Dev nD) : (held (SparseCore.T d) three (W2 m d) : sProp 𝕄)
    = iprop((pLoc d ↦{fullShare} m (pLoc d)) ∗ (uLoc d ↦{fullShare} fu m d) ∗ (oLoc d ↦{fullShare} m (oLoc d))) := by
  rw [held_three, W2_arg, W2_thr, W2_res]

/-- The three buffers after it. -/
theorem held_after (d : Dev nD) : (held (SparseCore.T d) three (W3 m d) : sProp 𝕄)
    = iprop((pLoc d ↦{fullShare} m (pLoc d)) ∗ (uLoc d ↦{fullShare} fu m d) ∗ (oLoc d ↦{fullShare} outD m (fu m) d)) := by
  rw [held_three]
  unfold W3
  rw [Function.update_self,
    Function.update_of_ne (show (Proc.tc.devRef main_arg0 : DevRef τ sig) ≠ Proc.tc.devRef main_v12 by decide),
    Function.update_of_ne (show (Proc.tc.devRef main_v8 : DevRef τ sig) ≠ Proc.tc.devRef main_v12 by decide), W2_arg, W2_thr]

/-- The rest is the same before and after. -/
theorem held_rest (d : Dev nD) : (held (SparseCore.T d) (unsc \ three) (W2 m d) : sProp 𝕄) = held (SparseCore.T d) (unsc \ three) (W3 m d) := by
  refine StableHlo.held_congr (SparseCore.T d) fun b hb => ?_
  unfold W3
  rw [Function.update_of_ne]
  rintro rfl
  exact (Finset.mem_sdiff.mp hb).2 (by simp [three])

theorem held_rest0 (d : Dev nD) : (held (SparseCore.T d) (unsc \ arrs0) (W1 m d) : sProp 𝕄) = held (SparseCore.T d) (unsc \ arrs0) (W2 m d) := by
  refine StableHlo.held_congr (SparseCore.T d) fun b hb => ?_
  unfold W2 Wout
  rw [Function.update_of_ne]
  rintro rfl
  exact (Finset.mem_sdiff.mp hb).2 (by decide)

/-- The TensorCore's call, from all the unscoped buffers to all of them. -/
theorem stepTc [∀ e, Nonempty (Elt F e)] (κ : GSem nD τ sig → ℕ) (d : Dev nD) (Q : PUnit → sProp 𝕄) :
    iprop((K (F := F)).ctx EH (P m (fu m)) κ ∗ (iprop((K (F := F)).tcSt EH d 0 ∗ boundary (SparseCore.T d) ∗ held (SparseCore.T d) unsc (W2 m d)) -∗ Q ⟨⟩)
        ∗ (K (F := F)).tcSt EH d 0 ∗ boundary (SparseCore.T d) ∗ held (SparseCore.T d) unsc (W1 m d) ∗ G d)
      ⊢ wp frame (wpE ((K (F := F)).defs (D (F := F))) 𝒱 (SparseCore.T d) none) Set.univ
          (Prog.lift (.customCall (SparseCore.inner (Pipeline.entry 0)) ())) Q := by
  rw [StableHlo.held_sub_split (SparseCore.T d) arrs0_sub (W1 m d), StableHlo.held_sub_split (SparseCore.T d) arrs0_sub (W2 m d), held_rest0 m d]
  unfold SparseCore.Cfg.tcSt
  iintro ⟨#Hctx, Hk, ⟨HO, Hst⟩, Hb, ⟨Hh, Hr⟩, Hg, Ht⟩
  iapply (call_tc (W1 m) d Q)
  isplitl [Hk Hst Hr]
  · iintro ⟨Hb, Hh, HO⟩
    iapply Hk
    isplitl [HO Hst]
    · isplitl [HO]; · iexact HO
      iexact Hst
    isplitl [Hb]; · iexact Hb
    isplitl [Hh]; · iexact Hh
    iexact Hr
  isplitl [Hb]; · iexact Hb
  isplitl [Hh]; · iexact Hh
  isplitl [HO]; · iexact HO
  isplitr; · iapply ((K (F := F)).ctx_levAts κ); iexact Hctx
  isplitl [Hg]; · iexact Hg
  iexact Ht

/-- The SparseCores' call, likewise. -/
theorem stepSc (κ : GSem nD τ sig → ℕ) (d : Dev nD) (Q : PUnit → sProp 𝕄) :
    iprop((K (F := F)).ctx EH (P m (fu m)) κ ∗ (iprop((K (F := F)).tcSt EH d 1 ∗ held (SparseCore.T d) unsc (W3 m d)) -∗ Q ⟨⟩)
        ∗ (K (F := F)).tcSt EH d 0 ∗ held (SparseCore.T d) unsc (W2 m d))
      ⊢ wp frame (wpE ((K (F := F)).defs (D (F := F))) 𝒱 (SparseCore.T d) none) Set.univ (sc.run d 0) Q := by
  rw [StableHlo.held_sub_split (SparseCore.T d) three_sub (W2 m d), StableHlo.held_sub_split (SparseCore.T d) three_sub (W3 m d), held_rest m d,
    held_before, held_after]
  iintro ⟨#Hctx, Hk, Hst, Hh, Hr⟩
  iapply ((K (F := F)).wp_run (D (F := F)) 𝒱 (EH := EH) (P := P m (fu m)) κ d 0) $$ [Hk Hst Hh Hr]
  isplitr; · iexact Hctx
  isplitl [Hst]; · iexact Hst
  isplitl [Hh]
  · rw [st0_eq]; iexact Hh
  iintro ⟨Hst, Hdn⟩
  ihave Hdn' := (Entails.of_eq (dn0_eq m (fu m) d)) $$ Hdn
  iapply Hk
  isplitl [Hst]; · iexact Hst
  isplitl [Hdn']; · iexact Hdn'
  iexact Hr

/-- The argument and the result out of the buffers at the end. -/
abbrev two : Finset (DevRef τ sig) := {Proc.devRef .tc main_arg0, Proc.devRef .tc main_v14}

theorem two_sub : two ⊆ unsc := by
  intro b hb
  simp only [two, Finset.mem_insert, Finset.mem_singleton] at hb
  rcases hb with rfl | rfl
  · exact mem_unsc main_arg0 rfl
  · exact mem_unsc main_v14 rfl

theorem held_end (d : Dev nD) : (held (SparseCore.T d) two (W4 m d) : sProp 𝕄) = FIN m d := by
  unfold StableHlo.held two
  rw [SparseCore.bigSep_insert' (by decide), bigSep_singleton, W4_arg]

/-- The last operations. -/
theorem stepEnd (d : Dev nD) (Q : PUnit → sProp 𝕄) :
    iprop((iprop(boundary (SparseCore.T d) ∗ FIN m d) -∗ Q ⟨⟩) ∗ boundary (SparseCore.T d) ∗ held (SparseCore.T d) unsc (W3 m d))
      ⊢ wp frame (wpE ((K (F := F)).defs (D (F := F))) 𝒱 (SparseCore.T d) none) Set.univ (seq opsE) Q := by
  rw [← bind_pure (seq (opsE (F := F)))]
  iintro ⟨Hk, Hb, Hh⟩
  iapply (StableHlo.wp_seq (defs := (K (F := F)).defs (D (F := F))) 𝒱 (bd := none) (E := Set.univ) d unsc (fun r => pure r) opsE (fun op h => sub_unsc (opsE_ok op h).1) (fun op h => (opsE_ok op h).2) (W3 m d)) $$ [Hb Hh]
  · isplitl [Hb]; · iexact Hb
    iexact Hh
  iintro ⟨Hb, Hh⟩
  rw [wp_pure]
  imodintro
  iapply Hk
  isplitl [Hb]; · iexact Hb
  ihave Hh' := (Entails.of_eq (show (held d.tc unsc (after opsE (W3 m d)) : sProp 𝕄) = _ from
    StableHlo.held_sub_split (SparseCore.T d) two_sub (W4 m d))) $$ Hh
  icases Hh' with ⟨Hh, -⟩
  ihave Hh' := (Entails.of_eq (held_end m d)) $$ Hh
  iexact Hh'

/-- @main on a TensorCore. -/
theorem hmain [∀ e, Nonempty (Elt F e)] (κ : GSem nD τ sig → ℕ) (d : Dev nD) :
    iprop((K (F := F)).ctx EH (P m (fu m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_held, main_eq, restK]
  iintro ⟨#Hctx, Hst, ⟨Hb, Hh, Hts, -⟩, HG⟩
  iapply (StableHlo.wp_seq (defs := (K (F := F)).defs (D (F := F))) 𝒱 (bd := none) (E := Set.univ) d unsc (fun _ => restK d) (opsU d)
    (fun op h => sub_unsc (opsU_within d op h).1) (fun op h => (opsU_within d op h).2.1) (W0 m d)) $$ [Hb Hh]
  · isplitl [Hb]; · iexact Hb
    iexact Hh
  iintro ⟨Hb, Hh⟩
  iapply (StableHlo.wp_seq (defs := (K (F := F)).defs (D (F := F))) 𝒱 (bd := none) (E := Set.univ) d unsc
    (fun _ => Prog.lift (.customCall (SparseCore.inner (Pipeline.entry 0)) ()) >>= fun _ => sc.run d 0 >>= fun _ => seq opsE) opsK
    (fun op h => sub_unsc (opsK_ok op h).1) (fun op h => (opsK_ok op h).2) (after (opsU d) (W0 m d))) $$ [Hb Hh]
  · isplitl [Hb]; · iexact Hb
    iexact Hh
  iintro ⟨Hb, Hh⟩
  rw [wp_bind]
  iapply (stepTc m κ d _)
  isplitr; · iexact Hctx
  isplitr [Hst Hb Hh HG]
  · iintro ⟨Hst, Hb, Hh⟩
    rw [wp_bind]
    iapply (stepSc m κ d _)
    isplitr; · iexact Hctx
    isplitr [Hst Hh]
    · iintro ⟨Hst, Hh⟩
      iapply (stepEnd m d _)
      isplitr [Hb Hh]
      · iintro ⟨Hb, Hf⟩
        isplitl [Hst]; · iexact Hst
        isplitl [Hf]; · iexact Hf
        isplitl [Hb]; · iexact Hb
        iexact Hts
      isplitl [Hb]; · iexact Hb
      iexact Hh
    isplitl [Hst]; · iexact Hst
    iexact Hh
  isplitl [Hst]; · iexact Hst
  isplitl [Hb]; · iexact Hb
  isplitl [Hh]; · iexact Hh
  iexact HG

/-- What the run leaves on a device. -/
def fq (d : Dev nD) (s' : Phys nD τ sig (Elt F)) : Prop :=
  s'.mem.mem (pLoc d) = m (pLoc d) ∧ s'.mem.mem (rLoc d) = W4 m d (Proc.devRef .tc main_v14)

set_option maxRecDepth 16384 in
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := pLoc d) (I := Finset.univ) (q := fullShare) (f := m (pLoc d)))) $$ [HSI Hi]
  · isplitl [HSI] <;> iassumption
  icases H with ⟨%h1, HSI, -⟩
  ihave H := (SI_pointsTo_agree (st := s') (ℓ := rLoc d) (I := Finset.univ) (q := fullShare) (f := W4 m d (Proc.devRef .tc main_v14))) $$ [HSI Hx]
  · isplitl [HSI] <;> iassumption
  icases H with %h2
  ipureintro; exact ⟨funext fun i => h1 i (Finset.mem_univ i), funext fun i => h2 i (Finset.mem_univ i)⟩

/-- What the run leaves: the argument, the result, and every counter at zero. -/
def QC : PUnit × MemSt nD τ sig (Elt F) → Prop := fun r =>
  (∀ c : Dev nD, r.2.mem (pLoc c) = m (pLoc c) ∧ r.2.mem (rLoc c) = W4 m c (Proc.devRef .tc main_v14)) ∧ r.2.sem = fun _ => 0

/-- The kernel's run, over any floats. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (fu m)) (A := ∅) facts v₀
    (fun q hq => match q with | 0 => nomatch hq)
    (fun q _ => match q with | 0 => tileObl m (fu m) facts)
    (fun q _ => match q with | 0 => SparseCore.Cfg.VecSplit.of_plain (vecSplit m (fu m)))
    m ρ main (fun d => G d) (FIN m) (u₀ (F := F)) (sep_elim_left.trans (hu₀ m)) (hmain m ρ) (fq m) (hfin m) (QC m) (fun _ h hz => ⟨h, hz⟩)

/-- The kernel's frame, over the reals. -/
theorem frame_kernelIdeal : Cert.quiescent_KernelIdeal := fun m ρ _ =>
  (θ_run Cert.KernelIdeal.defs _ _).mono (fun _ h => ⟨fun c => (h.1 c).1, h.2⟩) (run_main (F := Ideal) m ρ)

end Cert.Rows

end
-- ==== Proof.SameTc.lean ====
/- The TensorCore function of the kernel is that of its reading over the reals. -/
module

public import proofs.«01_k».proof.Defs
public import proofs.«01_k».proof.Proof.Gen.Kernel
public import proofs.«01_k».proof.Proof.Gen.KernelIdeal

@[expose] public section

noncomputable section

namespace Cert.Rows.Same

open Idealize.ShloMosaic

/-- The two programs' TensorCore functions are one. -/
theorem tc_body : Cert.Kernel.cc0__tc_body (F := Bits) = Cert.KernelIdeal.cc0__tc_body := rfl

end Cert.Rows.Same

end
-- ==== Proof.SameSc.lean ====
/- The SparseCore function of the kernel is that of its reading over the reals. -/
module

public import proofs.«01_k».proof.Defs
public import proofs.«01_k».proof.Proof.Gen.Kernel
public import proofs.«01_k».proof.Proof.Gen.KernelIdeal

@[expose] public section

noncomputable section

namespace Cert.Rows.Same

open Idealize.ShloMosaic

set_option maxHeartbeats 40000000 in
/-- The two programs' SparseCore functions are one. -/
theorem sc_body : Cert.Kernel.cc1_sc_count (F := Bits) = Cert.KernelIdeal.cc1_sc_count := rfl

end Cert.Rows.Same

end
-- ==== Proof.SameDefs.lean ====
/- The body table of the kernel is that of its reading over the reals. -/
module

public import proofs.«01_k».proof.Proof.SameTc
public import proofs.«01_k».proof.Proof.SameSc

@[expose] public section

noncomputable section

namespace Cert.Rows.Same

open Idealize.ShloMosaic

theorem sc_row (c s) (a) : Cert.Kernel.defs₀ (F := Bits) (.scVector c s) 1 a = Cert.KernelIdeal.defs₀ (.scVector c s) 1 a := by
  unfold Cert.Kernel.defs₀
  dsimp only
  rw [sc_body]
  rfl

theorem tc_row (a) : Cert.Kernel.defs₀ (F := Bits) .tc 0 a = Cert.KernelIdeal.defs₀ .tc 0 a := by
  obtain ⟨t, s⟩ := a
  rfl

/-- The two programs' body tables are one. -/
theorem rows : Cert.Kernel.defs₀ (F := Bits) = Cert.KernelIdeal.defs₀ := by
  funext p ℓ a
  cases p with
  | tc =>
    match ℓ, a with
    | 0, a => exact tc_row a
    | 1, a => rfl
  | scScalar c => rfl
  | scVector c s =>
    match ℓ, a with
    | 0, a => rfl
    | 1, a => exact sc_row c s a

end Cert.Rows.Same

end
-- ==== Proof.SameMain.lean ====
/- The kernel's program on a TensorCore is that of its reading over the reals. -/
module

public import proofs.«01_k».proof.Defs
public import proofs.«01_k».proof.Proof.Gen.Kernel
public import proofs.«01_k».proof.Proof.Gen.KernelIdeal

@[expose] public section

noncomputable section

namespace Cert.Rows.Same

open Idealize.ShloMosaic

set_option maxHeartbeats 40000000 in
/-- The two programs on a TensorCore are one. -/
theorem main_same : Cert.Kernel.main (F := Bits) = Cert.KernelIdeal.main := rfl

end Cert.Rows.Same

end
-- ==== Proof.Frames.lean ====
/- The kernel's frame on the bits. -/
module

public import proofs.«01_k».proof.Defs
public import proofs.«01_k».proof.Proof.Gen.KernelIdeal
public import proofs.«01_k».proof.Proof.Whole
public import proofs.«01_k».proof.Proof.SameDefs
public import proofs.«01_k».proof.Proof.SameMain

@[expose] public section

noncomputable section

namespace Cert.Rows

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

open Idealize.ShloMosaic.StableHlo (held seq after)

variable {F : FTy → Type} [FloatOps F]

/-- The run at the bits, its result forgotten. -/
theorem run_bits (m : (ℓ : Loc nD τ sig) → Buf (Elt Bits) ℓ) (ρ : Dev nD → PrngReg) :
    θ_run (Cert.KernelIdeal.defs (F := Bits)) (Cert.KernelIdeal.threads (F := Bits)) ⟨m, fun _ => 0, ρ⟩ (fun r => (∀ c : Dev nD,
      r.2.mem ((c.tc : Thread nD τ).loc main_arg0) = m ((c.tc : Thread nD τ).loc main_arg0)) ∧ r.2.sem = fun _ => 0) :=
  (θ_run Cert.KernelIdeal.defs _ _).mono (fun _ h => ⟨fun c => (h.1 c).1, h.2⟩) (run_main (F := Bits) m ρ)

/-- The two programs' tables, with the calls' own bodies, are one. -/
theorem defs_same : Cert.Kernel.defs (F := Bits) = Cert.KernelIdeal.defs :=
  congrArg (fun D => Cert.Kernel.sc.defs (Pipeline.defs Cert.Kernel.pcfgs D)) Same.rows

/-- The two programs' threads are one. -/
theorem threads_same : Cert.Kernel.threads (F := Bits) = Cert.KernelIdeal.threads :=
  congrArg (fun M => Cert.Kernel.sc.threads M) Same.main_same

/-- The kernel's frame, on the bits. -/
theorem frame_kernel : Cert.quiescent_Kernel := fun m ρ _ => by
  rw [defs_same, threads_same]
  exact run_bits m ρ

end Cert.Rows

end
-- ==== Proof.Refer.lean ====
/- The reference's run: its program is one line of operations. -/
module

public import proofs.«01_k».proof.Defs
public import proofs.«01_k».proof.Proof.Lead
public import proofs.«01_k».proof.Proof.Gen.ReferenceIdeal
public import Idealize.ShloMosaic.Lib.Quiescent

@[expose] public section

noncomputable section

namespace Cert.Rows.Ref

open Cert.ReferenceIdeal
open Facts₀ Facts
open Idealize.ShloMosaic Idealize.ShloMosaic.StableHlo
open Idealize.ShloMosaic.TcCoe
open Idealize.SL.Sem

variable {F : FTy → Type} [FloatOps F]

/-- The operations that compute the reference's thresholds, as a list: the one that goes with the kernel's. -/
noncomputable def opsV (d' : Dev nD) : List (HloOp τ sig (Elt F)) := (lead (0 : Fin 1) d').choose_spec.choose

theorem opsV_within (d' : Dev nD) : Within 4 283 (opsV (F := F) d') :=
  (lead (F := F) (0 : Fin 1) d').choose_spec.choose_spec.2.2.2.1

/-- All the operations of the reference. -/
noncomputable def opsAll (d' : Dev nD) : List (HloOp τ sig (Elt F)) := opsC ++ (opsV d' ++ opsR)

theorem main_all (d' : Dev nD) : main (F := F) d' = seq (opsAll d') := by
  rw [opsAll, seq_append, seq_append]
  exact (lead (F := F) (0 : Fin 1) d').choose_spec.choose_spec.2.1

theorem opsC_ok : ∀ op ∈ opsC (F := F), op.bufs ⊆ tcRefs τ sig ∧ op.fresh = ∅ := by
  intro op h
  simp only [opsC, List.mem_cons, List.not_mem_nil, or_false] at h
  rcases h with rfl | rfl | rfl
  · exact ⟨nullary_bufs_sub _ _ _, rfl⟩
  · exact ⟨unary_bufs_sub _ _ _ _ _, rfl⟩
  · exact ⟨binary_bufs_sub _ _ _ _ _ _ _, rfl⟩

theorem opsR_ok : ∀ op ∈ opsR (F := F), op.bufs ⊆ tcRefs τ sig ∧ op.fresh = ∅ := by
  intro op h
  simp only [opsR, List.mem_cons, List.not_mem_nil, or_false] at h
  rcases h with rfl | rfl | rfl | rfl | rfl
  · exact ⟨unary_bufs_sub _ _ _ _ _, rfl⟩
  · exact ⟨binary_bufs_sub _ _ _ _ _ _ _, rfl⟩
  · exact ⟨unary_bufs_sub _ _ _ _ _, rfl⟩
  · exact ⟨nullary_bufs_sub _ _ _, rfl⟩
  · exact ⟨binary_bufs_sub _ _ _ _ _ _ _, rfl⟩

theorem opsAll_ok (d' : Dev nD) : ∀ op ∈ opsAll (F := F) d', op.bufs ⊆ tcRefs τ sig ∧ op.fresh = ∅ := by
  intro op h
  rcases List.mem_append.mp h with h | h
  · exact opsC_ok op h
  rcases List.mem_append.mp h with h | h
  · exact ⟨(opsV_within d' op h).1, (opsV_within d' op h).2.1⟩
  · exact opsR_ok op h

variable (m : (ℓ : Loc nD τ sig) → Buf (Elt F) ℓ) (ρ : Dev nD → PrngReg)

/-- The prefix sums, as the reference computes them. -/
def sums (x : (⟨S32x16384x65, .f32⟩ : BufTy).Contents (Elt F)) : (⟨S32x16384x65, .f32⟩ : BufTy).Contents (Elt F) :=
  Host.reduceWindowAdd ![1, 1, 65] ![1, 1, 1] ![0, 0, 64] ![0, 0, 0] x (broadcastInDim S_ ![] bcast_S_S_ (constant S_ .f32 0x00000000#32))
    reduceWindows_S32x16384x65_S32x16384x65_w1s1p0_0_w1s1p0_0_w65s1p64_0 h_S_

/-- The counts, as the reference computes them. -/
def counts (u : (⟨S32x16384x1, .f32⟩ : BufTy).Contents (Elt F)) (s : (⟨S32x16384x65, .f32⟩ : BufTy).Contents (Elt F)) :
    (⟨S32x16384, .i32⟩ : BufTy).Contents (Elt F) :=
  Host.reduce IntOp.addi (extui 32 (cmpf .ogt (broadcastInDim S32x16384x65 ![0, 1, 2] bcast_S32x16384x1_S32x16384x65_0_1_2 u) s) natLt_1_32)
    (constantI S_ 32 0#32) reducesTo_S32x16384x65_S32x16384_d2 h_S_

theorem opsC_res (V : Valuation τ sig (Elt F)) :
    after opsC V (Proc.devRef .tc main_v0) = sums (V (Proc.devRef .tc main_arg0)) := by
  rw [show (opsC : List (HloOp τ sig (Elt F))) =
    [StableHlo.nullary main_call0_call0_cst (constant S_ .f32 0x00000000#32 : (⟨S_, .f32⟩ : BufTy).Contents (Elt F)),
     StableHlo.unary main_call0_call0_cst main_call0_call0_v0 (broadcastInDim S_ ![] bcast_S_S_ :
       (⟨S_, .f32⟩ : BufTy).Contents (Elt F) → (⟨S_, .f32⟩ : BufTy).Contents (Elt F)),
     StableHlo.binary main_arg0 main_call0_call0_v0 main_v0 ((fun x v => Host.reduceWindowAdd ![1, 1, 65] ![1, 1, 1] ![0, 0, 64] ![0, 0, 0] x v
      reduceWindows_S32x16384x65_S32x16384x65_w1s1p0_0_w1s1p0_0_w65s1p64_0 h_S_) :
       (⟨S32x16384x65, .f32⟩ : BufTy).Contents (Elt F) → (⟨S_, .f32⟩ : BufTy).Contents (Elt F) →
        (⟨S32x16384x65, .f32⟩ : BufTy).Contents (Elt F))] from rfl]
  after_results
  rfl

theorem opsR_res (V : Valuation τ sig (Elt F)) :
    after opsR V (Proc.devRef .tc main_v12) = counts (V (Proc.devRef .tc main_v8)) (V (Proc.devRef .tc main_v0)) := by
  unfold opsR
  after_results
  rfl

theorem opsC_arg (V : Valuation τ sig (Elt F)) : after opsC V (Proc.devRef .tc main_arg0) = V (Proc.devRef .tc main_arg0) := by
  refine after_of_forall_not_mem opsC V fun op h => ?_
  simp only [opsC, List.mem_cons, List.not_mem_nil, or_false] at h
  rcases h with rfl | rfl | rfl
  · exact fun hb => absurd (Proc.devRef_injective _ (Finset.mem_singleton.mp hb)) (by decide)
  · exact fun hb => absurd (Proc.devRef_injective _ (Finset.mem_singleton.mp hb)) (by decide)
  · exact fun hb => absurd (Proc.devRef_injective _ (Finset.mem_singleton.mp hb)) (by decide)

theorem opsR_arg (V : Valuation τ sig (Elt F)) : after opsR V (Proc.devRef .tc main_arg0) = V (Proc.devRef .tc main_arg0) := by
  refine after_of_forall_not_mem opsR V fun op h => ?_
  simp only [opsR, List.mem_cons, List.not_mem_nil, or_false] at h
  rcases h with rfl | rfl | rfl | rfl | rfl
  · exact fun hb => absurd (Proc.devRef_injective _ (Finset.mem_singleton.mp hb)) (by decide)
  · exact fun hb => absurd (Proc.devRef_injective _ (Finset.mem_singleton.mp hb)) (by decide)
  · exact fun hb => absurd (Proc.devRef_injective _ (Finset.mem_singleton.mp hb)) (by decide)
  · exact fun hb => absurd (Proc.devRef_injective _ (Finset.mem_singleton.mp hb)) (by decide)
  · exact fun hb => absurd (Proc.devRef_injective _ (Finset.mem_singleton.mp hb)) (by decide)

/-- The thresholds of the reference on a device. -/
def thr (d : Dev nD) : (⟨S32x16384x1, .f32⟩ : BufTy).Contents (Elt F) :=
  after (opsV d) (after opsC (launchContents m d)) (Proc.devRef .tc main_v8)

theorem all_arg (d : Dev nD) : after (opsAll d) (launchContents m d) (Proc.devRef .tc main_arg0) = m ((d.tc : Thread nD τ).loc main_arg0) := by
  rw [opsAll, after_app, after_app, opsR_arg, (opsV_within d).after_eq (r := main_arg0) (i := 0) ⟨rfl, rfl⟩ (by decide), opsC_arg]

theorem all_res (d : Dev nD) : after (opsAll d) (launchContents m d) (Proc.devRef .tc main_v12)
    = counts (thr m d) (sums (m ((d.tc : Thread nD τ).loc main_arg0))) := by
  rw [opsAll, after_app, after_app, opsR_res, (opsV_within d).after_eq (r := main_v0) (i := 3) ⟨rfl, rfl⟩ (by decide), opsC_res]
  rfl

/-- The reference's run: the argument stays, and the result is the counts. -/
theorem run_main : θ_run (Cert.ReferenceIdeal.defs (F := F)) (onTc (τ := τ) (main (F := F))) ⟨m, fun _ => 0, ρ⟩ fun r =>
    ∀ d : Dev nD, r.2.mem ((d.tc : Thread nD τ).loc main_v12) = counts (thr m d) (sums (m ((d.tc : Thread nD τ).loc main_arg0)))
      ∧ r.2.mem ((d.tc : Thread nD τ).loc main_arg0) = m ((d.tc : Thread nD τ).loc main_arg0) :=
  (θ_run Cert.ReferenceIdeal.defs _ _).mono (fun r h d => ⟨(h d main_v12).trans (all_res m d), (h d main_arg0).trans (all_arg m d)⟩)
    (run_seq (by decide) (by decide) defs main opsAll main_all (fun d => List.forall_iff_forall_mem.mpr fun op h => (opsAll_ok d op h).1) m ρ
      fun d op h => (opsAll_ok d op h).2)

/-- The reference's frame. -/
theorem frame : Cert.quiescent_ReferenceIdeal := fun m ρ _ =>
  (θ_run Cert.ReferenceIdeal.defs _ _).mono (fun r h => ⟨fun c => (h c).2, Idealize.ShloMosaic.sem_eq_zero_of_no_sems (by decide) r.2⟩)
    (run_main (F := Ideal) m ρ)

end Cert.Rows.Ref

end
-- ==== Proof.Sums.lean ====
/- The mathematics both programs compute: how many prefix sums of a row a threshold exceeds, over the extended reals, and that the
   running count of a row is that number. -/
module

public import proofs.«01_k».proof.Proof.Count
public import Idealize.ShloMosaic.PureOps.Ideal
public import Idealize.ShloMosaic.Lib.IndicatorCount
public import Idealize.ShloMosaic.Lib.Pipeline.ValueKit

@[expose] public section

noncomputable section

namespace Cert.Rows

open Idealize.ShloMosaic
open Finset

/-- The sum of a row's entries up to and including the `k`-th. -/
def upTo (x : ℕ → EReal) (k : ℕ) : EReal := ∑ l ∈ range (k + 1), x l

open Classical in
/-- The number of the first `n` prefix sums of `x` that lie below `u`. -/
def below (x : ℕ → EReal) (u : EReal) (n : ℕ) : ℕ := ∑ k ∈ range n, if upTo x k < u then 1 else 0

theorem below_le (x : ℕ → EReal) (u : EReal) (n : ℕ) : below x u n ≤ n := by
  unfold below
  refine (sum_le_sum (g := fun _ => 1) fun k _ => ?_).trans (by simp)
  split <;> simp

theorem below_succ (x : ℕ → EReal) (u : EReal) (n : ℕ) : below x u (n + 1) = below x u n + if upTo x n < u then 1 else 0 := by
  unfold below; rw [sum_range_succ]

theorem below_congr {x y : ℕ → EReal} {u v : EReal} (h : ∀ k, k < 65 → x k = y k) (hu : u = v) : below x u 65 = below y v 65 := by
  subst hu
  unfold below upTo
  refine sum_congr rfl fun k hk => ?_
  rw [sum_congr rfl fun l hl => h l (by have := mem_range.mp hk; have := mem_range.mp hl; omega)]

theorem ogt_ideal (u s : EReal) : FloatOps.cmpf (F := Ideal) (φ := .f32) .ogt u s = BitVec.ofBool (decide (s < u)) := rfl

/-- The running sums and counts of a row from the `j`-th column on. -/
theorem rowScan_ideal (x : ℕ → EReal) (u : EReal) (n j : ℕ) :
    rowScan (F := Ideal) x u n j (∑ l ∈ range j, x l, BitVec.ofNat 32 (below x u j))
      = (∑ l ∈ range (j + n), x l, BitVec.ofNat 32 (below x u (j + n))) := by
  induction n generalizing j with
  | zero => rfl
  | succ n ih =>
    have h : rowStep (F := Ideal) u (x j) (∑ l ∈ range j, x l, BitVec.ofNat 32 (below x u j))
        = (∑ l ∈ range (j + 1), x l, BitVec.ofNat 32 (below x u (j + 1))) := by
      unfold rowStep
      rw [sum_range_succ, below_succ]
      refine Prod.ext rfl ?_
      show Scalar.select (FloatOps.cmpf (F := Ideal) (φ := .f32) .ogt u ((∑ l ∈ range j, x l) + x j)) _ _ = _
      rw [ogt_ideal]
      unfold upTo
      rw [sum_range_succ]
      by_cases hc : (∑ l ∈ range j, x l) + x j < u
      · rw [if_pos hc, decide_eq_true hc]; exact (BitVec.ofNat_add _ _).symm
      · rw [if_neg hc, decide_eq_false hc]; rfl
    rw [rowScan, h, ih (j + 1), show j + 1 + n = j + (n + 1) by omega]

/-- A count of `n` columns from the start of a row, over the extended reals. -/
theorem rowScan_start (x : ℕ → EReal) (u : EReal) (n : ℕ) :
    (rowScan (F := Ideal) x u n 0 (Scalar.ofBits .f32 0x00000000#32, 0#32)).2 = BitVec.ofNat 32 (below x u n) := by
  have h0 : (Scalar.ofBits (F := Ideal) .f32 0x00000000#32 : EReal) = ∑ l ∈ range 0, x l := by
    rw [range_zero, sum_empty]
    show Ideal.ofBits .f32 0x00000000#32 = 0
    simp [Ideal.ofBits, Ideal.ieee]
  have hb : (0#32 : BitVec 32) = BitVec.ofNat 32 (below x u 0) := by unfold below; rw [range_zero, sum_empty]
  have h := rowScan_ideal x u n 0
  rw [Nat.zero_add] at h
  have e := congrArg (rowScan (F := Ideal) x u n 0)
    (show ((Scalar.ofBits (F := Ideal) .f32 0x00000000#32, 0#32) : EReal × BitVec 32) = (∑ l ∈ range 0, x l, BitVec.ofNat 32 (below x u 0)) from
      Prod.ext h0 hb)
  exact congrArg Prod.snd (e.trans h)

/-- A row's count over the extended reals. -/
theorem rowCount_ideal (x : ℕ → EReal) (u : EReal) : rowCount (F := Ideal) x u = BitVec.ofNat 32 (below x u 65) := by
  unfold rowCount
  exact rowScan_start x u 65

/-- The count of the ones among 65 compared entries, added up as words. -/
theorem fold_below (x : ℕ → EReal) (u : EReal) (s : Fin 65 → EReal) (h : ∀ k, s k = upTo x k.val) :
    Finset.fold IntOp.addi (0#32) (fun k => BitVec.setWidth 32 (BitVec.ofBool (decide (s k < u)))) Finset.univ = BitVec.ofNat 32 (below x u 65) := by
  rw [IndicatorCount.fold_addi_setWidth_eq_card (fun k => BitVec.ofBool (decide (s k < u)))]
  refine congrArg (BitVec.ofNat 32) ?_
  unfold below
  rw [card_filter, ← Fin.sum_univ_eq_sum_range]
  refine sum_congr rfl fun k _ => ?_
  rw [h k]
  by_cases hc : upTo x k.val < u
  · rw [if_pos hc, decide_eq_true hc, if_pos (by decide)]
  · rw [if_neg hc, decide_eq_false hc, if_neg (by decide)]

/-- A left fold by addition is the sum of what it adds. -/
theorem foldl_add_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of 65 positions ending at `k`, of which those before the row read zero, sums the row up to `k`. -/
theorem window_upTo (x : ℕ → EReal) (k : ℕ) (hk : k < 65) :
    (∑ n ∈ range 65, if 64 ≤ k + n then x (k + n - 64) else 0) = upTo x k := by
  obtain ⟨d, hd⟩ : ∃ d, 64 = k + d := ⟨64 - k, by omega⟩
  rw [show 65 = d + (k + 1) by omega, sum_range_add, sum_eq_zero, zero_add, upTo]
  · refine sum_congr rfl fun l hl => ?_
    rw [if_pos (by omega), show k + (d + l) - 64 = l by omega]
  · intro n hn
    rw [if_neg (by have := mem_range.mp hn; omega)]

/-- A product with the upper triangle of ones sums the row up to the column. -/
theorem triangle_upTo (x : ℕ → EReal) (k : ℕ) (hk : k < 65) (t : Fin 65 → EReal) (ht : ∀ l, t l = if l.val ≤ k then 1 else 0) :
    (∑ l : Fin 65, x l.val * t l) = upTo x k := by
  rw [sum_congr rfl fun l _ => by rw [ht l], Fin.sum_univ_eq_sum_range (fun l => x l * if l ≤ k then 1 else 0) 65]
  rw [show 65 = (k + 1) + (64 - k) by omega, sum_range_add, upTo]
  rw [sum_congr rfl fun l hl => by rw [if_pos (by have := mem_range.mp hl; omega), mul_one]]
  rw [sum_eq_zero (s := range (64 - k)) fun l _ => by rw [if_neg (by omega), mul_zero], add_zero]

/-- A compared pair as a float is one or zero. -/
theorem float_bit (p : Bool) : FloatOps.sitofp (F := Ideal) .f32 (BitVec.setWidth 32 (BitVec.ofBool p)) = (((if p then 1 else 0 : ℕ) : ℝ) : EReal) := by
  show (((BitVec.setWidth 32 (BitVec.ofBool p)).toInt : ℝ) : EReal) = _
  cases p
  · rw [show (BitVec.setWidth 32 (BitVec.ofBool false)).toInt = 0 by decide]; simp
  · rw [show (BitVec.setWidth 32 (BitVec.ofBool true)).toInt = 1 by decide]; simp

/-- A small natural number, turned from a float to a word. -/
theorem word_of_float (n : ℕ) (hn : n ≤ 65) : FloatOps.fptosi (F := Ideal) (φ := .f32) 32 (((n : ℕ) : ℝ) : EReal) = BitVec.ofNat 32 n := by
  show BitVec.ofInt 32 (Ideal.toIntClamped (-(2 ^ (32 - 1) : Nat)) ((2 ^ (32 - 1) : Nat) - 1) (((n : ℕ) : ℝ) : EReal)) = _
  have h : Ideal.toIntClamped (-(2 ^ (32 - 1) : Nat)) ((2 ^ (32 - 1) : Nat) - 1) (((n : ℕ) : ℝ) : EReal) = (n : ℤ) := by
    show max _ (min _ (if (0 : ℝ) ≤ ((n : ℕ) : ℝ) then ⌊((n : ℕ) : ℝ)⌋ else ⌈((n : ℕ) : ℝ)⌉)) = (n : ℤ)
    rw [if_pos (Nat.cast_nonneg n), Int.floor_natCast]
    omega
  rw [h]
  exact BitVec.ofInt_natCast 32 n

/-- A sum of reals, taken among the extended reals. -/
theorem sum_coe (f : ℕ → ℕ) (n : ℕ) : (∑ k ∈ range n, (((f k : ℕ) : ℝ) : EReal)) = (((∑ k ∈ range n, f k : ℕ) : ℝ) : EReal) := by
  induction n with
  | zero => simp
  | succ n ih => rw [sum_range_succ, ih, sum_range_succ]; push_cast; rfl

/-- The count of 65 compared entries, added up as floats. -/
theorem float_below (x : ℕ → EReal) (u : EReal) (s : Fin 65 → EReal) (h : ∀ k, s k = upTo x k.val) :
    FloatOps.fptosi (F := Ideal) (φ := .f32) 32
      (∑ k : Fin 65, FloatOps.sitofp (F := Ideal) .f32 (BitVec.setWidth 32 (BitVec.ofBool (decide (s k < u)))))
    = BitVec.ofNat 32 (below x u 65) := by
  have e : (∑ k : Fin 65, FloatOps.sitofp (F := Ideal) .f32 (BitVec.setWidth 32 (BitVec.ofBool (decide (s k < u)))) : EReal)
      = (((below x u 65 : ℕ) : ℝ) : EReal) := by
    unfold below
    rw [← sum_coe, ← Fin.sum_univ_eq_sum_range (fun k => (((if upTo x k < u then 1 else 0 : ℕ) : ℝ) : EReal))]
    refine sum_congr rfl fun k _ => ?_
    rw [h k]
    refine (float_bit _).trans ?_
    by_cases hc : upTo x k.val < u
    · rw [if_pos hc, decide_eq_true hc]; rfl
    · rw [if_neg hc, decide_eq_false hc]; rfl
  refine (congrArg (FloatOps.fptosi (F := Ideal) (φ := .f32) 32) e).trans (word_of_float _ (below_le x u 65))

/-- The compared counters of a triangle, as words. -/
theorem triangle_word : ∀ l k : Fin 65, IntOp.cmpi CmpIPredicate.sle (BitVec.ofNat 32 l.val) (BitVec.ofNat 32 k.val)
    = BitVec.ofBool (decide (l.val ≤ k.val)) := by decide +kernel

/-- The triangle's entries as floats. -/
theorem triangle_float (l k : Fin 65) :
    (FloatOps.sitofp (F := Ideal) .f32 (BitVec.setWidth 32 (IntOp.cmpi CmpIPredicate.sle (BitVec.ofNat 32 l.val) (BitVec.ofNat 32 k.val))) : EReal)
      = if l.val ≤ k.val then 1 else 0 := by
  rw [triangle_word]
  refine (float_bit _).trans ?_
  by_cases hc : l.val ≤ k.val
  · rw [if_pos hc, decide_eq_true hc]; simp
  · rw [if_neg hc, decide_eq_false hc]; simp

end Cert.Rows

end
-- ==== Proof.Counts.lean ====
/- What each of the three programs' parts computes, entry by entry, over the extended reals: the TensorCore's body, and the reference's
   prefix sums and counts. -/
module

public import proofs.«01_k».proof.Proof.Gen.KernelIdeal.Skeleton
public import proofs.«01_k».proof.Proof.Refer
public import proofs.«01_k».proof.Proof.Sums
public import Idealize.ShloMosaic.Lib.Pipeline.ValueKit

@[expose] public section

set_option maxRecDepth 16384

noncomputable section

namespace Cert.Rows

open Idealize.ShloMosaic
open Idealize.ShloMosaic.TcCoe

/-- A row of a `[32, 16384, 65]` array, its columns read modulo 65. -/
abbrev rowOf (x : (⟨3, ![32, 16384, 65]⟩ : Shape).Idx → EReal) (i : Fin 32) (r : Fin 16384) : ℕ → EReal :=
  fun k => x (ValueIdx.ix3 i r (⟨k % 65, Nat.mod_lt _ (by decide)⟩ : Fin 65))

/-- One entry of the TensorCore's result: how many prefix sums of its row lie below its threshold. -/
theorem tcAt (A : FVec Ideal Cert.KernelIdeal.S4096x65 .f32) (B : FVec Ideal Cert.KernelIdeal.S1x1x4096 .f32) (q : Fin 4096) :
    Cert.KernelIdeal.Gen.k0_pay1 (F := Ideal) A B (ValueIdx.ix3 (0 : Fin 1) (0 : Fin 1) q)
      = BitVec.ofNat 32 (below (fun k => A (ValueIdx.ix2 q (⟨k % 65, Nat.mod_lt _ (by decide)⟩ : Fin 65))) (B (ValueIdx.ix3 (0 : Fin 1) (0 : Fin 1) q)) 65) := by
  pointwise [Cert.KernelIdeal.Gen.k0_pay1]
  refine float_below (fun k => A (ValueIdx.ix2 q (⟨k % 65, Nat.mod_lt _ (by decide)⟩ : Fin 65))) _ _ fun k => ?_
  refine Eq.trans (Finset.sum_congr rfl fun l _ => ?_) (triangle_upTo _ k.val k.isLt _ fun l => triangle_float l k)
  refine congrArg (· * _) (congrArg A ?_)
  funext a
  refine Fin.cases ?_ (fun b => Fin.cases ?_ (fun b => b.elim0) b) a
  · rfl
  · exact Fin.ext (Nat.mod_eq_of_lt l.isLt).symm

/-- One entry of the reference's result, from the prefix sums. -/
theorem countsAt (u : FVec Ideal Cert.ReferenceIdeal.S32x16384x1 .f32) (s : FVec Ideal Cert.ReferenceIdeal.S32x16384x65 .f32)
    (x : ℕ → EReal) (i : Fin 32) (r : Fin 16384) (h : ∀ k : Fin 65, s (ValueIdx.ix3 i r k) = upTo x k.val) :
    Ref.counts (F := Ideal) u s (ValueIdx.ix2 i r) = BitVec.ofNat 32 (below x (u (ValueIdx.ix3 i r (0 : Fin 1))) 65) := by
  pointwise [Ref.counts]
  exact fold_below x _ _ h

/-- The window's shape. -/
abbrev winS : Shape := ⟨3, ![1, 1, 65]⟩

theorem winS_numel : winS.numel = 65 := by decide

/-- The window's `n`-th position lies on the third axis. -/
theorem winS_symm (n : Fin winS.numel) : winS.rowMajor.symm n = ValueIdx.ix3 (0 : Fin 1) (0 : Fin 1) (n.cast winS_numel) :=
  (winS.rowMajor.symm_apply_eq).2 (Fin.ext (by
    rw [Shape.rowMajor_val_three]
    show n.val = (0 * 1 + 0) * 65 + n.val
    omega))

/-- The zero word is the number zero. -/
theorem zero_bits : Ideal.ofBits .f32 0x00000000#32 = 0 := by simp [Ideal.ofBits, Ideal.ieee]

/-- One entry of the reference's prefix sums. -/
theorem sumsAt (x : FVec Ideal Cert.ReferenceIdeal.S32x16384x65 .f32) (i : Fin 32) (r : Fin 16384) (k : Fin 65) :
    Ref.sums (F := Ideal) x (ValueIdx.ix3 i r k) = upTo (rowOf x i r) k.val := by
  have hi := i.isLt
  have hr := r.isLt
  have hk := k.isLt
  refine Eq.trans ?_ (window_upTo (rowOf x i r) k.val k.isLt)
  unfold Ref.sums Host.reduceWindowAdd
  rw [Ideal.hostReduceWindowAdd_def]
  unfold Ideal.hostReduceWindowAdd Host.reduceWindow
  dsimp only
  refine (List.foldl_ext _ (fun (b : EReal) (n : Fin winS.numel) => b + if 64 ≤ k.val + n.val then rowOf x i r (k.val + n.val - 64) else 0) _
    fun b n _ => ?_).trans ?_
  · have h0 : (winS.rowMajor.symm n 0).val = 0 := by rw [winS_symm]; rfl
    have h1 : (winS.rowMajor.symm n 1).val = 0 := by rw [winS_symm]; rfl
    have h2 : (winS.rowMajor.symm n 2).val = n.val := by rw [winS_symm]; rfl
    have hn : n.val < 65 := (n.cast winS_numel).isLt
    refine congrArg (b + ·) ?_
    split
    · next hin =>
      have hq := hin 2
      change 64 ≤ k.val * 1 + (winS.rowMajor.symm n 2).val ∧ k.val * 1 + (winS.rowMajor.symm n 2).val - 64 < 65 at hq
      rw [h2] at hq
      rw [if_pos (by omega)]
      refine congrArg x (funext fun a => Fin.ext ?_)
      match a with
      | ⟨0, _⟩ =>
        show i.val * 1 + (winS.rowMajor.symm n 0).val - 0 = i.val
        rw [h0]; omega
      | ⟨1, _⟩ =>
        show r.val * 1 + (winS.rowMajor.symm n 1).val - 0 = r.val
        rw [h1]; omega
      | ⟨2, _⟩ =>
        show k.val * 1 + (winS.rowMajor.symm n 2).val - 64 = (k.val + n.val - 64) % 65
        rw [h2, Nat.mod_eq_of_lt (by omega)]; omega
    · next hin =>
      rw [if_neg fun hle => hin fun a => by
        match a with
        | ⟨0, _⟩ =>
          show 0 ≤ i.val * 1 + (winS.rowMajor.symm n 0).val ∧ i.val * 1 + (winS.rowMajor.symm n 0).val - 0 < 32
          rw [h0]; omega
        | ⟨1, _⟩ =>
          show 0 ≤ r.val * 1 + (winS.rowMajor.symm n 1).val ∧ r.val * 1 + (winS.rowMajor.symm n 1).val - 0 < 16384
          rw [h1]; omega
        | ⟨2, _⟩ =>
          show 64 ≤ k.val * 1 + (winS.rowMajor.symm n 2).val ∧ k.val * 1 + (winS.rowMajor.symm n 2).val - 64 < 65
          rw [h2]; omega]
      exact zero_bits
  · rw [foldl_add_sum]
    refine (congrArg (· + _) zero_bits).trans ?_
    rw [zero_add, ← Fin.sum_univ_def,
      Fin.sum_univ_eq_sum_range (fun n => if 64 ≤ k.val + n then rowOf x i r (k.val + n - 64) else 0) winS.numel]
    exact congrArg (fun N => ∑ n ∈ Finset.range N, if 64 ≤ k.val + n then rowOf x i r (k.val + n - 64) else 0) winS_numel

/-- One entry of the reference's result. -/
theorem refAt (u : FVec Ideal Cert.ReferenceIdeal.S32x16384x1 .f32) (x : FVec Ideal Cert.ReferenceIdeal.S32x16384x65 .f32) (i : Fin 32) (r : Fin 16384) :
    Ref.counts (F := Ideal) u (Ref.sums (F := Ideal) x) (ValueIdx.ix2 i r)
      = BitVec.ofNat 32 (below (rowOf x i r) (u (ValueIdx.ix3 i r (0 : Fin 1))) 65) :=
  countsAt u _ _ i r fun k => sumsAt x i r k

end Cert.Rows

end
-- ==== Proof.Value.lean ====
/- The kernel's result, entry by entry, over the extended reals: how many prefix sums of a row lie below the row's threshold. -/
module

public import proofs.«01_k».proof.Proof.Launch
public import proofs.«01_k».proof.Proof.Counts

@[expose] public section

set_option maxRecDepth 16384

noncomputable section

namespace Cert.Rows

open Cert.KernelIdeal Cert.KernelIdeal.Gen
open Idealize.ShloMosaic
open Idealize.ShloMosaic.TcCoe
open Idealize.ShloMosaic.StableHlo (after)

/-! ## The host's reshapes -/

theorem cast_matrix (x : S32x16384x1.Idx → EReal) (i : Fin 32) (r : Fin 16384) :
    shapeCast S32x16384 x shapeCasts_S32x16384x1_S32x16384 (ValueIdx.ix2 i r) = x (ValueIdx.ix3 i r (0 : Fin 1)) := by
  refine shapeCast_apply _ _ _ _ ?_
  rw [Shape.rowMajor_val_two, Shape.rowMajor_val_three]
  show (i.val * 16384 + r.val) * 1 + 0 = i.val * 16384 + r.val
  omega

theorem cast_rows (x : S32x16384x65.Idx → EReal) (a : Fin 524288) (k : Fin 65) (i : Fin 32) (r : Fin 16384) (e : a.val = i.val * 16384 + r.val) :
    shapeCast S524288x65 x shapeCasts_S32x16384x65_S524288x65 (ValueIdx.ix2 a k) = x (ValueIdx.ix3 i r k) := by
  refine shapeCast_apply _ _ _ _ ?_
  rw [Shape.rowMajor_val_two, Shape.rowMajor_val_three]
  show (i.val * 16384 + r.val) * 65 + k.val = a.val * 65 + k.val
  rw [e]

theorem cast_blocks (x : S32x16384.Idx → EReal) (j : Fin 128) (q : Fin 4096) (i : Fin 32) (r : Fin 16384)
    (e : j.val * 4096 + q.val = i.val * 16384 + r.val) :
    shapeCast S128x1x4096 x shapeCasts_S32x16384_S128x1x4096 (ValueIdx.ix3 j (0 : Fin 1) q) = x (ValueIdx.ix2 i r) := by
  refine shapeCast_apply _ _ _ _ ?_
  rw [Shape.rowMajor_val_two, Shape.rowMajor_val_three]
  show i.val * 16384 + r.val = (j.val * 1 + 0) * 4096 + q.val
  omega

/-- The thresholds as a matrix. -/
theorem opsK_v8 (V : Valuation τ sig (Elt Ideal)) (i : Fin 32) (r : Fin 16384) :
    (after opsK V (Proc.devRef .tc main_v8) : S32x16384.Idx → EReal) (ValueIdx.ix2 i r)
      = (V (Proc.devRef .tc main_v7) : S32x16384x1.Idx → EReal) (ValueIdx.ix3 i r (0 : Fin 1)) := by
  have h : (after opsK V (Proc.devRef .tc main_v8) : S32x16384.Idx → EReal)
      = shapeCast S32x16384 (V (Proc.devRef .tc main_v7) : S32x16384x1.Idx → EReal) shapeCasts_S32x16384x1_S32x16384 := by
    unfold opsK
    after_results
    rfl
  exact (congrFun h _).trans (cast_matrix _ i r)

/-- The argument's rows, one below the other. -/
theorem opsK_v9 (V : Valuation τ sig (Elt Ideal)) (a : Fin 524288) (k : Fin 65) (i : Fin 32) (r : Fin 16384) (e : a.val = i.val * 16384 + r.val) :
    (after opsK V (Proc.devRef .tc main_v9) : S524288x65.Idx → EReal) (ValueIdx.ix2 a k)
      = (V (Proc.devRef .tc main_arg0) : S32x16384x65.Idx → EReal) (ValueIdx.ix3 i r k) := by
  have h : (after opsK V (Proc.devRef .tc main_v9) : S524288x65.Idx → EReal)
      = shapeCast S524288x65 (V (Proc.devRef .tc main_arg0) : S32x16384x65.Idx → EReal) shapeCasts_S32x16384x65_S524288x65 := by
    unfold opsK
    after_results
    rfl
  exact (congrFun h _).trans (cast_rows _ a k i r e)

/-- The thresholds in blocks of 4096. -/
theorem opsK_v10 (V : Valuation τ sig (Elt Ideal)) (j : Fin 128) (q : Fin 4096) (i : Fin 32) (r : Fin 16384)
    (e : j.val * 4096 + q.val = i.val * 16384 + r.val) :
    (after opsK V (Proc.devRef .tc main_v10) : S128x1x4096.Idx → EReal) (ValueIdx.ix3 j (0 : Fin 1) q)
      = (V (Proc.devRef .tc main_v7) : S32x16384x1.Idx → EReal) (ValueIdx.ix3 i r (0 : Fin 1)) := by
  have h : (after opsK V (Proc.devRef .tc main_v10) : S128x1x4096.Idx → EReal)
      = shapeCast S128x1x4096 (after opsK V (Proc.devRef .tc main_v8) : S32x16384.Idx → EReal) shapeCasts_S32x16384_S128x1x4096 := by
    unfold opsK
    after_results
    rfl
  exact (congrFun h _).trans ((cast_blocks _ j q i r e).trans (opsK_v8 V i r))

/-- The result: the TensorCore's counts as rows above the SparseCores'. -/
theorem opsE_v14 (V : Valuation τ sig (Elt Ideal)) : (after opsE V (Proc.devRef .tc main_v14) : S32x16384.Idx → BitVec 32)
      = concatenate S32x16384 0 [⟨S28x16384, shapeCast S28x16384 (V (Proc.devRef .tc main_v11) : S112x1x4096.Idx → BitVec 32) shapeCasts_S112x1x4096_S28x16384⟩,
          ⟨S4x16384, (V (Proc.devRef .tc main_v12) : S4x16384.Idx → BitVec 32)⟩] concatenates_S28x16384_S4x16384_S32x16384_d0 := by
  unfold opsE
  after_results
  rfl

/-- Two arrays one above the other, at an entry. -/
theorem catAt (a : S28x16384.Idx → BitVec 32) (b : S4x16384.Idx → BitVec 32) (i : Fin 32) (r : Fin 16384) :
   concatenate S32x16384 0 [⟨S28x16384, a⟩, ⟨S4x16384, b⟩] concatenates_S28x16384_S4x16384_S32x16384_d0 (ValueIdx.ix2 i r)
    = if h : i.val < 28 then a (ValueIdx.ix2 (⟨i.val, h⟩ : Fin 28) r) else b (ValueIdx.ix2 (⟨i.val - 28, by have := i.isLt; omega⟩ : Fin 4) r) := by
  pointwise []
  show (if h : i.val < 28 then _ else _) = if h : i.val < 28 then _ else _
  by_cases hi : i.val < 28
  · rw [dif_pos hi, dif_pos hi]; rfl
  · rw [dif_neg hi, dif_neg hi]; rfl

/-! ## The parts -/

variable (m : (ℓ : Loc nD τ sig) → Buf (Elt Ideal) ℓ)

/-- The kernel's thresholds. -/
def thrK (d : Dev nD) : S32x16384x1.Idx → EReal := (after (opsU d) (W0 m d)) (Proc.devRef .tc main_v7)

/-- The kernel's argument. -/
abbrev argK (d : Dev nD) : S32x16384x65.Idx → EReal := m (pLoc d)

theorem W2_v11 (d : Dev nD) : (W3 m d (Proc.devRef .tc main_v11) : S112x1x4096.Idx → BitVec 32)
    = outTC (F := Ideal) (W1 m d (Proc.devRef .tc main_v9)) (W1 m d (Proc.devRef .tc main_v10)) := by
  unfold W3
  rw [Function.update_of_ne (show (Proc.tc.devRef main_v11 : DevRef τ sig) ≠ Proc.tc.devRef main_v12 by decide)]
  unfold W2 Wout
  rw [Function.update_self]

theorem W3_v12 (d : Dev nD) : (W3 m d (Proc.devRef .tc main_v12) : S4x16384.Idx → BitVec 32) = outD m (fu m) d := by
  unfold W3
  rw [Function.update_self]

theorem upper (d : Dev nD) (i : Fin 32) (r : Fin 16384) (hi : i.val < 28) :
    shapeCast S28x16384 (W3 m d (Proc.devRef .tc main_v11) : S112x1x4096.Idx → BitVec 32) shapeCasts_S112x1x4096_S28x16384 (ValueIdx.ix2 (⟨i.val, hi⟩ : Fin 28) r)
      = BitVec.ofNat 32 (below (rowOf (argK m d) i r) (thrK m d (ValueIdx.ix3 i r (0 : Fin 1))) 65) := by
  have hr := r.isLt
  have h0 : i.val * 4 + r.val / 4096 < 112 := by omega
  have h2 : r.val % 4096 < 4096 := Nat.mod_lt _ (by decide)
  refine (shapeCast_apply _ _ _ (ValueIdx.ix3 (⟨i.val * 4 + r.val / 4096, h0⟩ : Fin 112) (0 : Fin 1) (⟨r.val % 4096, h2⟩ : Fin 4096)) ?_).trans ?_
  · rw [Shape.rowMajor_val_two, Shape.rowMajor_val_three]
    show ((i.val * 4 + r.val / 4096) * 1 + 0) * 4096 + r.val % 4096 = i.val * 16384 + r.val
    omega
  rw [W2_v11]
  refine (tcAt _ _ (⟨r.val % 4096, h2⟩ : Fin 4096)).trans (congrArg (BitVec.ofNat 32) (below_congr (fun k hk => ?_) ?_))
  · refine (opsK_v9 _ (⟨(i.val * 4 + r.val / 4096) * 4096 + r.val % 4096, by omega⟩ : Fin 524288) (⟨k % 65, Nat.mod_lt _ (by decide)⟩ : Fin 65) i r
      (show (i.val * 4 + r.val / 4096) * 4096 + r.val % 4096 = i.val * 16384 + r.val by omega)).trans ?_
    exact congrFun ((opsU_within d).after_eq (V := W0 m d) (r := main_arg0) (i := 0) ⟨rfl, rfl⟩ (by decide)) _
  · exact opsK_v10 _ (⟨i.val * 4 + r.val / 4096, by omega⟩ : Fin 128) (⟨r.val % 4096, h2⟩ : Fin 4096) i r
      (show (i.val * 4 + r.val / 4096) * 4096 + r.val % 4096 = i.val * 16384 + r.val by omega)

theorem lower (d : Dev nD) (i : Fin 32) (r : Fin 16384) (hi : ¬ i.val < 28) :
    (W3 m d (Proc.devRef .tc main_v12) : S4x16384.Idx → BitVec 32) (ValueIdx.ix2 (⟨i.val - 28, by have := i.isLt; omega⟩ : Fin 4) r)
      = BitVec.ofNat 32 (below (rowOf (argK m d) i r) (thrK m d (ValueIdx.ix3 i r (0 : Fin 1))) 65) := by
  rw [W3_v12]
  have hi' := i.isLt
  have hr := r.isLt
  refine (rowCount_ideal _ _).trans (congrArg (BitVec.ofNat 32) (below_congr (fun k hk => ?_) ?_))
  · have e : (⟨(28 + (i.val - 28)) % 32, Nat.mod_lt _ (by decide)⟩ : Fin 32) = i := Fin.ext (show (28 + (i.val - 28)) % 32 = i.val by omega)
    have e' : (⟨r.val % 16384, Nat.mod_lt _ (by decide)⟩ : Fin 16384) = r := Fin.ext (Nat.mod_eq_of_lt hr)
    show piAt (m (pLoc d)) (28 + (i.val - 28)) r.val k = _
    unfold piAt
    rw [e, e']
  · have e : (⟨(28 + (i.val - 28)) % 32, Nat.mod_lt _ (by decide)⟩ : Fin 32) = i := Fin.ext (show (28 + (i.val - 28)) % 32 = i.val by omega)
    have e' : (⟨r.val % 16384, Nat.mod_lt _ (by decide)⟩ : Fin 16384) = r := Fin.ext (Nat.mod_eq_of_lt hr)
    show uAt (fu m d) (28 + (i.val - 28)) r.val = _
    unfold uAt
    rw [e, e']
    exact opsK_v8 _ i r

/-- The kernel's result at an entry: how many prefix sums of the entry's row lie below its threshold. -/
theorem resultAt (d : Dev nD) (i : Fin 32) (r : Fin 16384) : (W4 m d (Proc.devRef .tc main_v14) : S32x16384.Idx → BitVec 32) (ValueIdx.ix2 i r)
    = BitVec.ofNat 32 (below (rowOf (argK m d) i r) (thrK m d (ValueIdx.ix3 i r (0 : Fin 1))) 65) := by
  unfold W4
  rw [opsE_v14, catAt]
  by_cases hi : i.val < 28
  · rw [dif_pos hi]; exact upper m d i r hi
  · rw [dif_neg hi]; exact lower m d i r hi

end Cert.Rows

end
-- ==== Proof.Agrees.lean ====
/- The value claim: over the extended reals the kernel's result is the reference's. -/
module

public import proofs.«01_k».proof.Defs
public import proofs.«01_k».proof.Proof.Whole
public import proofs.«01_k».proof.Proof.Value

@[expose] public section

set_option maxRecDepth 16384

noncomputable section

namespace Cert.Rows

open Idealize.ShloMosaic
open Idealize.ShloMosaic.TcCoe
open Idealize.SL.Sem

/-- Both programs compute the same thresholds: neither's operations read the memory that they start from. -/
theorem thr_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) :
    thrK m (0 : Fin 1) = Ref.thr m' (0 : Fin 1) :=
  eq_of_heq ((lead (F := Ideal) (0 : Fin 1) (0 : Fin 1)).choose_spec.choose_spec.2.2.2.2 _ _ 279 (by decide) (by decide)
    Cert.KernelIdeal.main_v7 Cert.ReferenceIdeal.main_v8 ⟨rfl, rfl⟩ ⟨rfl, rfl⟩)

/-- From equal arguments the two programs' results are equal. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Ref.counts (F := Ideal) (Ref.thr m' c) (Ref.sums (F := Ideal) (m' ((c.tc : Thread Cert.ReferenceIdeal.nD Cert.ReferenceIdeal.τ).loc Cert.ReferenceIdeal.main_arg0)))
      = (W4 m c (Proc.devRef .tc Cert.KernelIdeal.main_v14) : Cert.KernelIdeal.S32x16384.Idx → BitVec 32) := by
  obtain rfl : c = (0 : Fin 1) := Subsingleton.elim (α := Fin 1) _ _
  have hu := thr_same m m'
  have e : ∀ (i : Fin 32) (r : Fin 16384), Ref.counts (F := Ideal) (Ref.thr m' (0 : Fin 1))
      (Ref.sums (F := Ideal) (m' (((0 : Dev Cert.ReferenceIdeal.nD).tc : Thread Cert.ReferenceIdeal.nD Cert.ReferenceIdeal.τ).loc Cert.ReferenceIdeal.main_arg0)))
      (ValueIdx.ix2 i r)
      = (W4 m (0 : Fin 1) (Proc.devRef .tc Cert.KernelIdeal.main_v14) : Cert.KernelIdeal.S32x16384.Idx → BitVec 32) (ValueIdx.ix2 i r) := by
    intro i r
    refine (refAt _ _ i r).trans (Eq.trans ?_ (resultAt m (0 : Fin 1) i r).symm)
    exact congrArg (BitVec.ofNat 32) (below_congr (fun k _ => congrFun h _) (congrFun hu.symm _))
  funext x
  have hx : x = ValueIdx.ix2 (x 0 : Fin 32) (x 1 : Fin 16384) := by
    funext a
    match a with
    | ⟨0, _⟩ => rfl
    | ⟨1, _⟩ => rfl
  exact (congrArg _ hx).trans ((e (x 0) (x 1)).trans (congrArg _ hx.symm))

/-- The value claim. -/
theorem agrees : Cert.algebraic_KernelIdeal_ReferenceIdeal := by
  intro m g m' g' _ hm
  refine ⟨fun c => W4 m c (Proc.devRef .tc Cert.KernelIdeal.main_v14), ?_, ?_⟩
  · exact (θ_run Cert.KernelIdeal.defs _ _).mono (fun r h c => ⟨(h.1 c).2, (h.1 c).1⟩) (run_main (F := Ideal) m g)
  · exact (θ_run Cert.ReferenceIdeal.defs _ _).mono (fun r h c => ⟨(h c).1.trans (result_same m m' c (hm c)), (h c).2⟩) (Ref.run_main (F := Ideal) m' g')

end Cert.Rows

end
-- ==== Proof.lean ====
/- The certificate: the three frames, `preserves` (the idealization rewrote nothing) and the value claim, each proved in a module of its
   own and put together here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Refer
public import proofs.«01_k».proof.Proof.Agrees

@[expose] public section

noncomputable section

namespace Cert.Proof

/-- Every claim of the certificate. -/
theorem claim : Cert.Claim := ⟨Cert.Kernel.Gen.facts, Cert.KernelIdeal.Gen.facts, Cert.ReferenceIdeal.Gen.facts,
  Cert.Rows.frame_kernel, Cert.Rows.frame_kernelIdeal, Cert.Rows.Ref.frame, trivial, Cert.Rows.agrees⟩

end Cert.Proof

end
